-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v14)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v12)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v26) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8x4096x2048 : Shape := ⟨3, ![8, 4096, 2048]⟩
abbrev S8x4096x16 : Shape := ⟨3, ![8, 4096, 16]⟩
abbrev S16 : Shape := ⟨1, ![16]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S8x4096x2048 .f32) (main_arg1 : FVec F S8x4096x2048 .f32) (main_arg2 : FVec F S8x4096x2048 .f32) (main_arg3 : FVec F S8x4096x16 .f32) (main_arg4 : FVec F S16 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  let main_v9 : FVec F S8x4096x16 .f32 := Host.absf main_arg3
  let main_cst_2 : FVec F S_ .f32 := constant S_ .f32 0x7F800000#32
  let main_v10 : FVec F S8x4096x16 .f32 := broadcastInDim S8x4096x16 ![] bcast_S_S8x4096x16 main_cst_2
  let main_v11 : IVec S8x4096x16 1 := cmpf .olt main_v9 main_v10
  let main_c_3 : IVec S_ 1 := constantI S_ 1 1#1
  let main_v12 : IVec S_ 1 := (fun x v => Host.reduce IntOp.andi x v reducesTo_S8x4096x16_S_d0_1_2 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S8x4096x2048 : Shape := ⟨3, ![8, 4096, 2048]⟩
abbrev S8x4096x16 : Shape := ⟨3, ![8, 4096, 16]⟩
abbrev S16 : Shape := ⟨1, ![16]⟩
abbrev S_ : Shape := ⟨0, ![]⟩
abbrev S8x4096x6144 : Shape := ⟨3, ![8, 4096, 6144]⟩
abbrev S1x1x16 : Shape := ⟨3, ![1, 1, 16]⟩
abbrev S1x8x4096x16 : Shape := ⟨4, ![1, 8, 4096, 16]⟩
abbrev S3x8x4096x16 : Shape := ⟨4, ![3, 8, 4096, 16]⟩
abbrev S8x16x3x4096 : Shape := ⟨4, ![8, 16, 3, 4096]⟩
abbrev S8x16x8x4096 : Shape := ⟨4, ![8, 16, 8, 4096]⟩
abbrev S8x128 : Shape := ⟨2, ![8, 128]⟩
abbrev S1x1024x256 : Shape := ⟨3, ![1, 1024, 256]⟩
abbrev S1x4096x256 : Shape := ⟨3, ![1, 4096, 256]⟩
abbrev S1x2x8x4096 : Shape := ⟨4, ![1, 2, 8, 4096]⟩
abbrev S2x1024x256 : Shape := ⟨3, ![2, 1024, 256]⟩
abbrev S2x4096x256 : Shape := ⟨3, ![2, 4096, 256]⟩
abbrev S2x4x144x1024 : Shape := ⟨4, ![2, 4, 144, 1024]⟩
abbrev S1x2048 : Shape := ⟨2, ![1, 2048]⟩
abbrev S144x2048 : Shape := ⟨2, ![144, 2048]⟩
abbrev S1x4096x128 : Shape := ⟨3, ![1, 4096, 128]⟩
abbrev S4096x128 : Shape := ⟨2, ![4096, 128]⟩
abbrev S1x1x8x4096 : Shape := ⟨4, ![1, 1, 8, 4096]⟩
abbrev S8x4096 : Shape := ⟨2, ![8, 4096]⟩
abbrev S1x1024x128 : Shape := ⟨3, ![1, 1024, 128]⟩
abbrev S1024x128 : Shape := ⟨2, ![1024, 128]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩
abbrev S1024x1024 : Shape := ⟨2, ![1024, 1024]⟩
abbrev S1024x256 : Shape := ⟨2, ![1024, 256]⟩
abbrev S1x1x144x1024 : Shape := ⟨4, ![1, 1, 144, 1024]⟩
abbrev S144x1024 : Shape := ⟨2, ![144, 1024]⟩
abbrev S1x1024 : Shape := ⟨2, ![1, 1024]⟩
abbrev S1024 : Shape := ⟨1, ![1024]⟩

abbrev nBuf : Space → Nat
  | .hbm => 64
  | .vmem => 16
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S8x4096x2048, .f32⟩
  | .hbm, ⟨3, _⟩ => ⟨S8x4096x16, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x2048, .f32⟩
  | .hbm, ⟨13, _⟩ => ⟨S8x4096x2048, .f32⟩
  | .hbm, ⟨14, _⟩ => ⟨S8x4096x6144, .f32⟩
  | .hbm, ⟨15, _⟩ => ⟨S8x4096x6144, .bf16⟩
  | .hbm, ⟨16, _⟩ => ⟨S1x1x16, .f32⟩
  | .hbm, ⟨17, _⟩ => ⟨S8x4096x16, .f32⟩
  | .hbm, ⟨18, _⟩ => ⟨S8x4096x16, .f32⟩
  | .hbm, ⟨19, _⟩ => ⟨S8x4096x16, .f32⟩
  | .hbm, ⟨20, _⟩ => ⟨S_, .f32⟩
  | .hbm, ⟨21, _⟩ => ⟨S8x4096x16, .f32⟩
  | .hbm, ⟨22, _⟩ => ⟨S8x4096x16, .f32⟩
  | .hbm, ⟨23, _⟩ => ⟨S8x4096x16, .f32⟩
  | .hbm, ⟨24, _⟩ => ⟨S8x4096x16, .f32⟩
  | .hbm, ⟨25, _⟩ => ⟨S8x4096x16, .i1⟩
  | .hbm, ⟨26, _⟩ => ⟨S8x4096x16, .f32⟩
  | .hbm, ⟨27, _⟩ => ⟨S8x4096x16, .f32⟩
  | .hbm, ⟨28, _⟩ => ⟨S8x4096x16, .f32⟩
  | .hbm, ⟨29, _⟩ => ⟨S8x4096x16, .f32⟩
  | .hbm, ⟨30, _⟩ => ⟨S8x4096x16, .f32⟩
  | .hbm, ⟨31, _⟩ => ⟨S8x4096x16, .f32⟩
  | .hbm, ⟨32, _⟩ => ⟨S8x4096x16, .f32⟩
  | .hbm, ⟨33, _⟩ => ⟨S8x4096x16, .f32⟩
  | .hbm, ⟨34, _⟩ => ⟨S8x4096x16, .f32⟩
  | .hbm, ⟨35, _⟩ => ⟨S_, .f32⟩
  | .hbm, ⟨36, _⟩ => ⟨S_, .f32⟩
  | .hbm, ⟨37, _⟩ => ⟨S8x4096x16, .f32⟩
  | .hbm, ⟨38, _⟩ => ⟨S8x4096x16, .f32⟩
  | .hbm, ⟨39, _⟩ => ⟨S8x4096x16, .f32⟩
  | .hbm, ⟨40, _⟩ => ⟨S8x4096x16, .f32⟩
  | .hbm, ⟨41, _⟩ => ⟨S8x4096x16, .bf16⟩
  | .hbm, ⟨42, _⟩ => ⟨S8x4096x16, .f32⟩
  | .hbm, ⟨43, _⟩ => ⟨S8x4096x16, .f32⟩
  | .hbm, ⟨44, _⟩ => ⟨S8x4096x16, .bf16⟩
  | .hbm, ⟨45, _⟩ => ⟨S8x4096x16, .f32⟩
  | .hbm, ⟨46, _⟩ => ⟨S8x4096x16, .f32⟩
  | .hbm, ⟨47, _⟩ => ⟨S8x4096x16, .bf16⟩
  | .hbm, ⟨48, _⟩ => ⟨S1x8x4096x16, .bf16⟩
  | .hbm, ⟨49, _⟩ => ⟨S1x8x4096x16, .bf16⟩
  | .hbm, ⟨50, _⟩ => ⟨S1x8x4096x16, .bf16⟩
  | .hbm, ⟨51, _⟩ => ⟨S3x8x4096x16, .bf16⟩
  | .hbm, ⟨52, _⟩ => ⟨S8x16x3x4096, .bf16⟩
  | .hbm, ⟨53, _⟩ => ⟨S_, .i32⟩
  | .hbm, ⟨54, _⟩ => ⟨S_, .bf16⟩
  | .hbm, ⟨55, _⟩ => ⟨S8x16x8x4096, .bf16⟩
  | .hbm, ⟨56, _⟩ => ⟨S8x128, .i32⟩
  | .hbm, ⟨57, _⟩ => ⟨S8x128, .i32⟩
  | .hbm, ⟨58, _⟩ => ⟨S_, .i32⟩
  | .hbm, ⟨59, _⟩ => ⟨S8x128, .i32⟩
  | .hbm, ⟨60, _⟩ => ⟨S8x128, .i32⟩
  | .hbm, ⟨61, _⟩ => ⟨S8x128, .i1⟩
  | .hbm, ⟨62, _⟩ => ⟨S8x128, .bf16⟩
  | .hbm, ⟨63, _⟩ => ⟨S8x4096x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x2x8x4096, .bf16⟩
  | .local _ .vmem, ⟨7, _⟩ => ⟨S1x2x8x4096, .bf16⟩
  | .local _ .vmem, ⟨8, _⟩ => ⟨S8x128, .bf16⟩
  | .local _ .vmem, ⟨9, _⟩ => ⟨S1x1024x256, .bf16⟩
  | .local _ .vmem, ⟨10, _⟩ => ⟨S1x1024x256, .bf16⟩
  | .local _ .vmem, ⟨11, _⟩ => ⟨S2x1024x256, .bf16⟩
  | .local _ .vmem, ⟨12, _⟩ => ⟨S2x4096x256, .bf16⟩
  | .local _ .vmem, ⟨13, _⟩ => ⟨S2x4x144x1024, .bf16⟩
  | .local _ .vmem, ⟨14, _⟩ => ⟨S1x2048, .f32⟩
  | .local _ .vmem, ⟨15, _⟩ => ⟨S144x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v11 : Ref sig .tc := ⟨.hbm, 34, rfl⟩
abbrev main_call1_call0_cst : Ref sig .tc := ⟨.hbm, 35, rfl⟩
abbrev main_call1_call0_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c : Ref sig .tc := ⟨.hbm, 53, rfl⟩
abbrev main_call2_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 4], ![false, false, false]⟩

@[reducible] def k0_t1_loop (i : grid0.Coords) : Scf.Loop 32 :=
  let c0_i32_32 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v62 : BitVec 32 := Scalar.subi v17 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let c1_i32_35 : BitVec 32 := 1#32
  ⟨c0_i32_32, v66, c1_i32_35⟩
def k0_mult1 (i : grid0.Coords) (k0_t1 : Fin (k0_t1_loop i).trips) : BitVec 32 :=
  let c0_i32_32 : BitVec 32 := 0#32
  let c1_i32_35 : BitVec 32 := 1#32
  let arg14 : BitVec 32 := Scf.iv c0_i32_32 c1_i32_35 k0_t1
  let c1024_i32_55 : BitVec 32 := 1024#32
  let v95 : BitVec 32 := Scalar.muli arg14 c1024_i32_55
  v95
def k0_off1 (i : grid0.Coords) (k0_t1 : Fin (k0_t1_loop i).trips) : Fin 3 → Nat :=
  let c0_56 : Index := 0#32
  let c0_i32_32 : BitVec 32 := 0#32
  let c1_i32_35 : BitVec 32 := 1#32
  let arg14 : BitVec 32 := Scf.iv c0_i32_32 c1_i32_35 k0_t1
  let c1024_i32_55 : BitVec 32 := 1024#32
  let v95 : BitVec 32 := Scalar.muli arg14 c1024_i32_55
  let v96 : BitVec 32 := v95
  let v97 : Index := Scalar.indexCast v96
  let c0_57 : Index := 0#32
  ![0, v97.toNat, 0]
def k0_off2 (i : grid0.Coords) (k0_t1 : Fin (k0_t1_loop i).trips) : Fin 3 → Nat :=
  let c1_62 : Index := 1#32
  let c0_i32_32 : BitVec 32 := 0#32
  let c1_i32_35 : BitVec 32 := 1#32
  let arg14 : BitVec 32 := Scf.iv c0_i32_32 c1_i32_35 k0_t1
  let c1024_i32_55 : BitVec 32 := 1024#32
  let v95 : BitVec 32 := Scalar.muli arg14 c1024_i32_55
  let v96 : BitVec 32 := v95
  let v103 : Index := Scalar.indexCast v96
  let c0_63 : Index := 0#32
  ![1, v103.toNat, 0]
def k0_off3 (i : grid0.Coords) (k0_t1 : Fin (k0_t1_loop i).trips) : Fin 4 → Nat :=
  let c0_68 : Index := 0#32
  let c0_i32_32 : BitVec 32 := 0#32
  let c1_i32_35 : BitVec 32 := 1#32
  let arg14 : BitVec 32 := Scf.iv c0_i32_32 c1_i32_35 k0_t1
  let v109 : Index := Scalar.indexCast arg14
  let c0_69 : Index := 0#32
  let c0_70 : Index := 0#32
  ![0, v109.toNat, 0, 0]
def k0_off4 (i : grid0.Coords) (k0_t1 : Fin (k0_t1_loop i).trips) : Fin 4 → Nat :=
  let c1_81 : Index := 1#32
  let c0_i32_32 : BitVec 32 := 0#32
  let c1_i32_35 : BitVec 32 := 1#32
  let arg14 : BitVec 32 := Scf.iv c0_i32_32 c1_i32_35 k0_t1
  let v133 : Index := Scalar.indexCast arg14
  let c0_82 : Index := 0#32
  let c0_83 : Index := 0#32
  ![1, v133.toNat, 0, 0]
@[reducible] def k0_t2_loop (i : grid0.Coords) : Scf.Loop 32 :=
  let c0_i32_32 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v62 : BitVec 32 := Scalar.subi v17 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let v63 : BitVec 32 := Scalar.addi c0_i32_32 v62
  let c1_i32_36 : BitVec 32 := 1#32
  ⟨v66, v63, c1_i32_36⟩
def k0_mult2 (i : grid0.Coords) (k0_t2 : Fin (k0_t2_loop i).trips) : BitVec 32 :=
  let c0_i32_32 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v62 : BitVec 32 := Scalar.subi v17 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let c1_i32_36 : BitVec 32 := 1#32
  let arg14 : BitVec 32 := Scf.iv v66 c1_i32_36 k0_t2
  let c1024_i32_55 : BitVec 32 := 1024#32
  let v95 : BitVec 32 := Scalar.muli arg14 c1024_i32_55
  v95
def k0_off5 (i : grid0.Coords) (k0_t2 : Fin (k0_t2_loop i).trips) : Fin 3 → Nat :=
  let c0_56 : Index := 0#32
  let c0_i32_32 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v62 : BitVec 32 := Scalar.subi v17 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let c1_i32_36 : BitVec 32 := 1#32
  let arg14 : BitVec 32 := Scf.iv v66 c1_i32_36 k0_t2
  let c1024_i32_55 : BitVec 32 := 1024#32
  let v95 : BitVec 32 := Scalar.muli arg14 c1024_i32_55
  let v96 : BitVec 32 := v95
  let v97 : Index := Scalar.indexCast v96
  let c0_57 : Index := 0#32
  ![0, v97.toNat, 0]
def k0_off6 (i : grid0.Coords) (k0_t2 : Fin (k0_t2_loop i).trips) : Fin 3 → Nat :=
  let c1_62 : Index := 1#32
  let c0_i32_32 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v62 : BitVec 32 := Scalar.subi v17 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let c1_i32_36 : BitVec 32 := 1#32
  let arg14 : BitVec 32 := Scf.iv v66 c1_i32_36 k0_t2
  let c1024_i32_55 : BitVec 32 := 1024#32
  let v95 : BitVec 32 := Scalar.muli arg14 c1024_i32_55
  let v96 : BitVec 32 := v95
  let v103 : Index := Scalar.indexCast v96
  let c0_63 : Index := 0#32
  ![1, v103.toNat, 0]
def k0_off7 (i : grid0.Coords) (k0_t2 : Fin (k0_t2_loop i).trips) : Fin 4 → Nat :=
  let c0_68 : Index := 0#32
  let c0_i32_32 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v62 : BitVec 32 := Scalar.subi v17 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let c1_i32_36 : BitVec 32 := 1#32
  let arg14 : BitVec 32 := Scf.iv v66 c1_i32_36 k0_t2
  let v109 : Index := Scalar.indexCast arg14
  let c0_69 : Index := 0#32
  let c0_70 : Index := 0#32
  ![0, v109.toNat, 0, 0]
def k0_off8 (i : grid0.Coords) (k0_t2 : Fin (k0_t2_loop i).trips) : Fin 4 → Nat :=
  let c1_81 : Index := 1#32
  let c0_i32_32 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v62 : BitVec 32 := Scalar.subi v17 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let c1_i32_36 : BitVec 32 := 1#32
  let arg14 : BitVec 32 := Scf.iv v66 c1_i32_36 k0_t2
  let v133 : Index := Scalar.indexCast arg14
  let c0_82 : Index := 0#32
  let c0_83 : Index := 0#32
  ![1, v133.toNat, 0, 0]
@[reducible] def k0_t3_loop (i : grid0.Coords) : Scf.Loop 32 :=
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_37 : BitVec 32 := 1#32
  let v69 : BitVec 32 := Scalar.addi v17 c1_i32_37
  let v70 : BitVec 32 := Scalar.subi v69 v17
  let c1_i32_39 : BitVec 32 := 1#32
  let v72 : BitVec 32 := Scalar.divsi v70 c1_i32_39
  let v73 : BitVec 32 := Scalar.muli v72 c1_i32_39
  let v74 : BitVec 32 := Scalar.addi v17 v73
  let c1_i32_40 : BitVec 32 := 1#32
  ⟨v17, v74, c1_i32_40⟩
def k0_mult3 (i : grid0.Coords) (k0_t3 : Fin (k0_t3_loop i).trips) : BitVec 32 :=
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_40 : BitVec 32 := 1#32
  let arg14 : BitVec 32 := Scf.iv v17 c1_i32_40 k0_t3
  let c1024_i32_55 : BitVec 32 := 1024#32
  let v95 : BitVec 32 := Scalar.muli arg14 c1024_i32_55
  v95
def k0_off9 (i : grid0.Coords) (k0_t3 : Fin (k0_t3_loop i).trips) : Fin 3 → Nat :=
  let c0_56 : Index := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_40 : BitVec 32 := 1#32
  let arg14 : BitVec 32 := Scf.iv v17 c1_i32_40 k0_t3
  let c1024_i32_55 : BitVec 32 := 1024#32
  let v95 : BitVec 32 := Scalar.muli arg14 c1024_i32_55
  let v96 : BitVec 32 := v95
  let v97 : Index := Scalar.indexCast v96
  let c0_57 : Index := 0#32
  ![0, v97.toNat, 0]
def k0_off10 (i : grid0.Coords) (k0_t3 : Fin (k0_t3_loop i).trips) : Fin 3 → Nat :=
  let c1_63 : Index := 1#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_40 : BitVec 32 := 1#32
  let arg14 : BitVec 32 := Scf.iv v17 c1_i32_40 k0_t3
  let c1024_i32_55 : BitVec 32 := 1024#32
  let v95 : BitVec 32 := Scalar.muli arg14 c1024_i32_55
  let v96 : BitVec 32 := v95
  let v108 : Index := Scalar.indexCast v96
  let c0_64 : Index := 0#32
  ![1, v108.toNat, 0]
def k0_off11 (i : grid0.Coords) (k0_t3 : Fin (k0_t3_loop i).trips) : Fin 4 → Nat :=
  let c0_70 : Index := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_40 : BitVec 32 := 1#32
  let arg14 : BitVec 32 := Scf.iv v17 c1_i32_40 k0_t3
  let v119 : Index := Scalar.indexCast arg14
  let c0_71 : Index := 0#32
  let c0_72 : Index := 0#32
  ![0, v119.toNat, 0, 0]
def k0_off12 (i : grid0.Coords) (k0_t3 : Fin (k0_t3_loop i).trips) : Fin 4 → Nat :=
  let c1_83 : Index := 1#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_40 : BitVec 32 := 1#32
  let arg14 : BitVec 32 := Scf.iv v17 c1_i32_40 k0_t3
  let v143 : Index := Scalar.indexCast arg14
  let c0_84 : Index := 0#32
  let c0_85 : Index := 0#32
  ![1, v143.toNat, 0, 0]
@[reducible] def k0_t4_loop (i : grid0.Coords) : Scf.Loop 32 :=
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_37 : BitVec 32 := 1#32
  let v69 : BitVec 32 := Scalar.addi v17 c1_i32_37
  let v70 : BitVec 32 := Scalar.subi v69 v17
  let c1_i32_39 : BitVec 32 := 1#32
  let v72 : BitVec 32 := Scalar.divsi v70 c1_i32_39
  let v73 : BitVec 32 := Scalar.muli v72 c1_i32_39
  let v74 : BitVec 32 := Scalar.addi v17 v73
  let v71 : BitVec 32 := Scalar.addi v17 v70
  let c1_i32_41 : BitVec 32 := 1#32
  ⟨v74, v71, c1_i32_41⟩
def k0_mult4 (i : grid0.Coords) (k0_t4 : Fin (k0_t4_loop i).trips) : BitVec 32 :=
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_37 : BitVec 32 := 1#32
  let v69 : BitVec 32 := Scalar.addi v17 c1_i32_37
  let v70 : BitVec 32 := Scalar.subi v69 v17
  let c1_i32_39 : BitVec 32 := 1#32
  let v72 : BitVec 32 := Scalar.divsi v70 c1_i32_39
  let v73 : BitVec 32 := Scalar.muli v72 c1_i32_39
  let v74 : BitVec 32 := Scalar.addi v17 v73
  let c1_i32_41 : BitVec 32 := 1#32
  let arg14 : BitVec 32 := Scf.iv v74 c1_i32_41 k0_t4
  let c1024_i32_55 : BitVec 32 := 1024#32
  let v95 : BitVec 32 := Scalar.muli arg14 c1024_i32_55
  v95
def k0_off13 (i : grid0.Coords) (k0_t4 : Fin (k0_t4_loop i).trips) : Fin 3 → Nat :=
  let c0_56 : Index := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_37 : BitVec 32 := 1#32
  let v69 : BitVec 32 := Scalar.addi v17 c1_i32_37
  let v70 : BitVec 32 := Scalar.subi v69 v17
  let c1_i32_39 : BitVec 32 := 1#32
  let v72 : BitVec 32 := Scalar.divsi v70 c1_i32_39
  let v73 : BitVec 32 := Scalar.muli v72 c1_i32_39
  let v74 : BitVec 32 := Scalar.addi v17 v73
  let c1_i32_41 : BitVec 32 := 1#32
  let arg14 : BitVec 32 := Scf.iv v74 c1_i32_41 k0_t4
  let c1024_i32_55 : BitVec 32 := 1024#32
  let v95 : BitVec 32 := Scalar.muli arg14 c1024_i32_55
  let v96 : BitVec 32 := v95
  let v97 : Index := Scalar.indexCast v96
  let c0_57 : Index := 0#32
  ![0, v97.toNat, 0]
def k0_off14 (i : grid0.Coords) (k0_t4 : Fin (k0_t4_loop i).trips) : Fin 3 → Nat :=
  let c1_63 : Index := 1#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_37 : BitVec 32 := 1#32
  let v69 : BitVec 32 := Scalar.addi v17 c1_i32_37
  let v70 : BitVec 32 := Scalar.subi v69 v17
  let c1_i32_39 : BitVec 32 := 1#32
  let v72 : BitVec 32 := Scalar.divsi v70 c1_i32_39
  let v73 : BitVec 32 := Scalar.muli v72 c1_i32_39
  let v74 : BitVec 32 := Scalar.addi v17 v73
  let c1_i32_41 : BitVec 32 := 1#32
  let arg14 : BitVec 32 := Scf.iv v74 c1_i32_41 k0_t4
  let c1024_i32_55 : BitVec 32 := 1024#32
  let v95 : BitVec 32 := Scalar.muli arg14 c1024_i32_55
  let v96 : BitVec 32 := v95
  let v108 : Index := Scalar.indexCast v96
  let c0_64 : Index := 0#32
  ![1, v108.toNat, 0]
def k0_off15 (i : grid0.Coords) (k0_t4 : Fin (k0_t4_loop i).trips) : Fin 4 → Nat :=
  let c0_70 : Index := 0#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_37 : BitVec 32 := 1#32
  let v69 : BitVec 32 := Scalar.addi v17 c1_i32_37
  let v70 : BitVec 32 := Scalar.subi v69 v17
  let c1_i32_39 : BitVec 32 := 1#32
  let v72 : BitVec 32 := Scalar.divsi v70 c1_i32_39
  let v73 : BitVec 32 := Scalar.muli v72 c1_i32_39
  let v74 : BitVec 32 := Scalar.addi v17 v73
  let c1_i32_41 : BitVec 32 := 1#32
  let arg14 : BitVec 32 := Scf.iv v74 c1_i32_41 k0_t4
  let v119 : Index := Scalar.indexCast arg14
  let c0_71 : Index := 0#32
  let c0_72 : Index := 0#32
  ![0, v119.toNat, 0, 0]
def k0_off16 (i : grid0.Coords) (k0_t4 : Fin (k0_t4_loop i).trips) : Fin 4 → Nat :=
  let c1_83 : Index := 1#32
  let arg2 : BitVec 32 := BitVec.ofNat 32 (i 2).val
  let c1024_i32 : BitVec 32 := 1024#32
  let v0 : BitVec 32 := Scalar.muli arg2 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1_i32_37 : BitVec 32 := 1#32
  let v69 : BitVec 32 := Scalar.addi v17 c1_i32_37
  let v70 : BitVec 32 := Scalar.subi v69 v17
  let c1_i32_39 : BitVec 32 := 1#32
  let v72 : BitVec 32 := Scalar.divsi v70 c1_i32_39
  let v73 : BitVec 32 := Scalar.muli v72 c1_i32_39
  let v74 : BitVec 32 := Scalar.addi v17 v73
  let c1_i32_41 : BitVec 32 := 1#32
  let arg14 : BitVec 32 := Scf.iv v74 c1_i32_41 k0_t4
  let v143 : Index := Scalar.indexCast arg14
  let c0_84 : Index := 0#32
  let c0_85 : Index := 0#32
  ![1, v143.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x8x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x2048 : Shape := ⟨3, ![8, 4096, 2048]⟩
abbrev S8x4096x16 : Shape := ⟨3, ![8, 4096, 16]⟩
abbrev S16 : Shape := ⟨1, ![16]⟩
abbrev S8x4096x16x128 : Shape := ⟨4, ![8, 4096, 16, 128]⟩
abbrev S1x1x16 : Shape := ⟨3, ![1, 1, 16]⟩
abbrev S_ : Shape := ⟨0, ![]⟩
abbrev S8x16x4096 : Shape := ⟨3, ![8, 16, 4096]⟩
abbrev S4096 : Shape := ⟨1, ![4096]⟩
abbrev S8x16x4096x4096 : Shape := ⟨4, ![8, 16, 4096, 4096]⟩
abbrev S8x16x4096x1 : Shape := ⟨4, ![8, 16, 4096, 1]⟩
abbrev S8x16x1x4096 : Shape := ⟨4, ![8, 16, 1, 4096]⟩
abbrev S1x4096 : Shape := ⟨2, ![1, 4096]⟩
abbrev S4096x1 : Shape := ⟨2, ![4096, 1]⟩
abbrev S4096x4096 : Shape := ⟨2, ![4096, 4096]⟩
abbrev S8x16x128x4096 : Shape := ⟨4, ![8, 16, 128, 4096]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S8x4096x2048, .f32⟩
  | .hbm, ⟨3, _⟩ => ⟨S8x4096x16, .f32⟩
  | .hbm, ⟨4, _⟩ => ⟨S16, .f32⟩
  | .hbm, ⟨5, _⟩ => ⟨S8x4096x16x128, .f32⟩
  | .hbm, ⟨6, _⟩ => ⟨S8x4096x16x128, .f32⟩
  | .hbm, ⟨7, _⟩ => ⟨S8x4096x16x128, .f32⟩
  | .hbm, ⟨8, _⟩ => ⟨S1x1x16, .f32⟩
  | .hbm, ⟨9, _⟩ => ⟨S8x4096x16, .f32⟩
  | .hbm, ⟨10, _⟩ => ⟨S8x4096x16, .f32⟩
  | .hbm, ⟨11, _⟩ => ⟨S8x4096x16, .f32⟩
  | .hbm, ⟨12, _⟩ => ⟨S_, .f32⟩
  | .hbm, ⟨13, _⟩ => ⟨S8x4096x16, .f32⟩
  | .hbm, ⟨14, _⟩ => ⟨S8x4096x16, .f32⟩
  | .hbm, ⟨15, _⟩ => ⟨S8x4096x16, .f32⟩
  | .hbm, ⟨16, _⟩ => ⟨S8x4096x16, .f32⟩
  | .hbm, ⟨17, _⟩ => ⟨S8x4096x16, .i1⟩
  | .hbm, ⟨18, _⟩ => ⟨S8x4096x16, .f32⟩
  | .hbm, ⟨19, _⟩ => ⟨S8x4096x16, .f32⟩
  | .hbm, ⟨20, _⟩ => ⟨S8x4096x16, .f32⟩
  | .hbm, ⟨21, _⟩ => ⟨S8x4096x16, .f32⟩
  | .hbm, ⟨22, _⟩ => ⟨S8x4096x16, .f32⟩
  | .hbm, ⟨23, _⟩ => ⟨S8x4096x16, .f32⟩
  | .hbm, ⟨24, _⟩ => ⟨S8x4096x16, .f32⟩
  | .hbm, ⟨25, _⟩ => ⟨S8x4096x16, .f32⟩
  | .hbm, ⟨26, _⟩ => ⟨S8x4096x16, .f32⟩
  | .hbm, ⟨27, _⟩ => ⟨S_, .f32⟩
  | .hbm, ⟨28, _⟩ => ⟨S_, .f32⟩
  | .hbm, ⟨29, _⟩ => ⟨S8x4096x16, .f32⟩
  | .hbm, ⟨30, _⟩ => ⟨S8x16x4096, .f32⟩
  | .hbm, ⟨31, _⟩ => ⟨S_, .f32⟩
  | .hbm, ⟨32, _⟩ => ⟨S_, .f32⟩
  | .hbm, ⟨33, _⟩ => ⟨S4096, .i32⟩
  | .hbm, ⟨34, _⟩ => ⟨S8x16x4096x4096, .f32⟩
  | .hbm, ⟨35, _⟩ => ⟨S8x16x4096x4096, .f32⟩
  | .hbm, ⟨36, _⟩ => ⟨S8x16x4096x4096, .f32⟩
  | .hbm, ⟨37, _⟩ => ⟨S8x16x4096x1, .f32⟩
  | .hbm, ⟨38, _⟩ => ⟨S8x16x1x4096, .f32⟩
  | .hbm, ⟨39, _⟩ => ⟨S8x16x4096x4096, .f32⟩
  | .hbm, ⟨40, _⟩ => ⟨S8x16x4096x4096, .f32⟩
  | .hbm, ⟨41, _⟩ => ⟨S8x16x4096x4096, .f32⟩
  | .hbm, ⟨42, _⟩ => ⟨S8x16x4096x4096, .f32⟩
  | .hbm, ⟨43, _⟩ => ⟨S1x4096, .i32⟩
  | .hbm, ⟨44, _⟩ => ⟨S4096x1, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S_, .f32⟩
  | .hbm, ⟨49, _⟩ => ⟨S_, .f32⟩
  | .hbm, ⟨50, _⟩ => ⟨S8x16x4096x4096, .i1⟩
  | .hbm, ⟨51, _⟩ => ⟨S8x16x4096x4096, .f32⟩
  | .hbm, ⟨52, _⟩ => ⟨S8x16x4096x4096, .f32⟩
  | .hbm, ⟨53, _⟩ => ⟨S_, .f32⟩
  | .hbm, ⟨54, _⟩ => ⟨S8x16x4096, .f32⟩
  | .hbm, ⟨55, _⟩ => ⟨S8x16x4096x1, .f32⟩
  | .hbm, ⟨56, _⟩ => ⟨S8x16x4096x1, .f32⟩
  | .hbm, ⟨57, _⟩ => ⟨S_, .f32⟩
  | .hbm, ⟨58, _⟩ => ⟨S8x16x4096x1, .f32⟩
  | .hbm, ⟨59, _⟩ => ⟨S8x16x4096x1, .i1⟩
  | .hbm, ⟨60, _⟩ => ⟨S_, .f32⟩
  | .hbm, ⟨61, _⟩ => ⟨S_, .f32⟩
  | .hbm, ⟨62, _⟩ => ⟨S8x16x4096x1, .f32⟩
  | .hbm, ⟨63, _⟩ => ⟨S8x16x4096x1, .f32⟩
  | .hbm, ⟨64, _⟩ => ⟨S8x16x4096x4096, .f32⟩
  | .hbm, ⟨65, _⟩ => ⟨S8x16x4096x4096, .f32⟩
  | .hbm, ⟨66, _⟩ => ⟨S8x16x4096x4096, .f32⟩
  | .hbm, ⟨67, _⟩ => ⟨S_, .f32⟩
  | .hbm, ⟨68, _⟩ => ⟨S_, .f32⟩
  | .hbm, ⟨69, _⟩ => ⟨S8x16x4096x4096, .i1⟩
  | .hbm, ⟨70, _⟩ => ⟨S8x16x4096x4096, .f32⟩
  | .hbm, ⟨71, _⟩ => ⟨S8x16x4096x4096, .f32⟩
  | .hbm, ⟨72, _⟩ => ⟨S_, .f32⟩
  | .hbm, ⟨73, _⟩ => ⟨S8x16x4096, .f32⟩
  | .hbm, ⟨74, _⟩ => ⟨S8x16x4096x1, .f32⟩
  | .hbm, ⟨75, _⟩ => ⟨S_, .f32⟩
  | .hbm, ⟨76, _⟩ => ⟨S8x16x4096x1, .f32⟩
  | .hbm, ⟨77, _⟩ => ⟨S8x16x4096x1, .i1⟩
  | .hbm, ⟨78, _⟩ => ⟨S_, .f32⟩
  | .hbm, ⟨79, _⟩ => ⟨S_, .f32⟩
  | .hbm, ⟨80, _⟩ => ⟨S8x16x4096x1, .f32⟩
  | .hbm, ⟨81, _⟩ => ⟨S8x16x4096x1, .f32⟩
  | .hbm, ⟨82, _⟩ => ⟨S8x16x4096x4096, .f32⟩
  | .hbm, ⟨83, _⟩ => ⟨S8x16x4096x4096, .f32⟩
  | .hbm, ⟨84, _⟩ => ⟨S8x16x128x4096, .f32⟩
  | .hbm, ⟨85, _⟩ => ⟨S8x4096x16x128, .f32⟩
  | .hbm, ⟨86, _⟩ => ⟨S8x4096x2048, .f32⟩
  | .hbm, ⟨87, _⟩ => ⟨S8x4096x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v6 : Ref sig .tc := ⟨.hbm, 26, rfl⟩
abbrev main_call1_call0_cst : Ref sig .tc := ⟨.hbm, 27, rfl⟩
abbrev main_call1_call0_v0 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_2 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_call3_v0 : Ref sig .tc := ⟨.hbm, 61, rfl⟩
abbrev main_call3_v1 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_4 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_cst_6 : Ref sig .tc := ⟨.hbm, 75, rfl⟩
abbrev main_v38 : Ref sig .tc := ⟨.hbm, 76, rfl⟩
abbrev main_v39 : Ref sig .tc := ⟨.hbm, 77, rfl⟩
abbrev main_cst_7 : Ref sig .tc := ⟨.hbm, 78, rfl⟩
abbrev main_call5_v0 : Ref sig .tc := ⟨.hbm, 79, rfl⟩
abbrev main_call5_v1 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩

abbrev nD : Nat := 1
abbrev τ : Topo := Topo.v7x

variable {F : FTy → Type} [FloatOps F]
-- ==== Kernel2.lean ====
abbrev S8x4096x2048 : Shape := ⟨3, ![8, 4096, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S32768x2048 : Shape := ⟨2, ![32768, 2048]⟩
abbrev S1x11264 : Shape := ⟨2, ![1, 11264]⟩
abbrev S1x2048 : Shape := ⟨2, ![1, 2048]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S528x2048 : Shape := ⟨2, ![528, 2048]⟩
abbrev S528x512 : Shape := ⟨2, ![528, 512]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x512 : Shape := ⟨2, ![512, 512]⟩

abbrev nBuf : Space → Nat
  | .hbm => 14
  | .vmem => 26
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S32768x2048, .f32⟩
  | .hbm, ⟨8, _⟩ => ⟨S2048x11264, .bf16⟩
  | .hbm, ⟨9, _⟩ => ⟨S5632x2048, .bf16⟩
  | .hbm, ⟨10, _⟩ => ⟨S1x11264, .f32⟩
  | .hbm, ⟨11, _⟩ => ⟨S1x2048, .f32⟩
  | .hbm, ⟨12, _⟩ => ⟨S1x2048, .f32⟩
  | .hbm, ⟨13, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S528x2048, .bf16⟩
  | .local _ .vmem, ⟨23, _⟩ => ⟨S528x512, .f32⟩
  | .local _ .vmem, ⟨24, _⟩ => ⟨S528x512, .f32⟩
  | .local _ .vmem, ⟨25, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v64 : BitVec 1 := Scalar.cmpi .eq arg1 c10_i32
  let v65 : BitVec 32 := Scalar.extui v64
  let c0_i32_41 : BitVec 32 := 0#32
  let v66 : BitVec 1 := Scalar.cmpi .ne v65 c0_i32_41
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S8x4096x2048 : Shape := ⟨3, ![8, 4096, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11264 : Shape := ⟨3, ![8, 4096, 11264]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩
abbrev S32768x2048 : Shape := ⟨2, ![32768, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x4096x11264, .f32⟩
  | .hbm, ⟨24, _⟩ => ⟨S_, .i32⟩
  | .hbm, ⟨25, _⟩ => ⟨S_, .f32⟩
  | .hbm, ⟨26, _⟩ => ⟨S8x4098x11264, .f32⟩
  | .hbm, ⟨27, _⟩ => ⟨S1x11264, .f32⟩
  | .hbm, ⟨28, _⟩ => ⟨S11264, .f32⟩
  | .hbm, ⟨29, _⟩ => ⟨S8x4096x11264, .f32⟩
  | .hbm, ⟨30, _⟩ => ⟨S1x1x11264, .f32⟩
  | .hbm, ⟨31, _⟩ => ⟨S8x4096x11264, .f32⟩
  | .hbm, ⟨32, _⟩ => ⟨S8x4096x11264, .f32⟩
  | .hbm, ⟨33, _⟩ => ⟨S1x1x11264, .f32⟩
  | .hbm, ⟨34, _⟩ => ⟨S8x4096x11264, .f32⟩
  | .hbm, ⟨35, _⟩ => ⟨S8x4096x11264, .f32⟩
  | .hbm, ⟨36, _⟩ => ⟨S1x11264, .f32⟩
  | .hbm, ⟨37, _⟩ => ⟨S11264, .f32⟩
  | .hbm, ⟨38, _⟩ => ⟨S8x4096x11264, .f32⟩
  | .hbm, ⟨39, _⟩ => ⟨S1x1x11264, .f32⟩
  | .hbm, ⟨40, _⟩ => ⟨S8x4096x11264, .f32⟩
  | .hbm, ⟨41, _⟩ => ⟨S8x4096x11264, .f32⟩
  | .hbm, ⟨42, _⟩ => ⟨S8x4096x11264, .f32⟩
  | .hbm, ⟨43, _⟩ => ⟨S1x11264, .f32⟩
  | .hbm, ⟨44, _⟩ => ⟨S11264, .f32⟩
  | .hbm, ⟨45, _⟩ => ⟨S8x4096x11264, .f32⟩
  | .hbm, ⟨46, _⟩ => ⟨S1x1x11264, .f32⟩
  | .hbm, ⟨47, _⟩ => ⟨S8x4096x11264, .f32⟩
  | .hbm, ⟨48, _⟩ => ⟨S8x4096x11264, .f32⟩
  | .hbm, ⟨49, _⟩ => ⟨S8x4096x11264, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S8x4096x5632, .f32⟩
  | .hbm, ⟨54, _⟩ => ⟨S_, .f32⟩
  | .hbm, ⟨55, _⟩ => ⟨S8x4096x5632, .f32⟩
  | .hbm, ⟨56, _⟩ => ⟨S8x4096x5632, .f32⟩
  | .hbm, ⟨57, _⟩ => ⟨S_, .f32⟩
  | .hbm, ⟨58, _⟩ => ⟨S8x4096x5632, .f32⟩
  | .hbm, ⟨59, _⟩ => ⟨S8x4096x5632, .f32⟩
  | .hbm, ⟨60, _⟩ => ⟨S8x4096x5632, .f32⟩
  | .hbm, ⟨61, _⟩ => ⟨S8x4096x5632, .f32⟩
  | .hbm, ⟨62, _⟩ => ⟨S8x4096x2048, .f32⟩
  | .hbm, ⟨63, _⟩ => ⟨S8x4096x2048, .f32⟩
  | .hbm, ⟨64, _⟩ => ⟨S8x4096x2048, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x2048, .f32⟩
  | .hbm, ⟨76, _⟩ => ⟨S8x4096x2048, .f32⟩
  | .hbm, ⟨77, _⟩ => ⟨S1x1x2048, .f32⟩
  | .hbm, ⟨78, _⟩ => ⟨S8x4096x2048, .f32⟩
  | .hbm, ⟨79, _⟩ => ⟨S8x4096x2048, .f32⟩
  | .hbm, ⟨80, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel3.lean ====
abbrev S8x4096x2048 : Shape := ⟨3, ![8, 4096, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S32768x2048 : Shape := ⟨2, ![32768, 2048]⟩
abbrev S1x11264 : Shape := ⟨2, ![1, 11264]⟩
abbrev S1x2048 : Shape := ⟨2, ![1, 2048]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S528x2048 : Shape := ⟨2, ![528, 2048]⟩
abbrev S528x512 : Shape := ⟨2, ![528, 512]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x512 : Shape := ⟨2, ![512, 512]⟩

abbrev nBuf : Space → Nat
  | .hbm => 13
  | .vmem => 26
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S32768x2048, .f32⟩
  | .hbm, ⟨7, _⟩ => ⟨S2048x11264, .bf16⟩
  | .hbm, ⟨8, _⟩ => ⟨S5632x2048, .bf16⟩
  | .hbm, ⟨9, _⟩ => ⟨S1x11264, .f32⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S528x2048, .bf16⟩
  | .local _ .vmem, ⟨23, _⟩ => ⟨S528x512, .f32⟩
  | .local _ .vmem, ⟨24, _⟩ => ⟨S528x512, .f32⟩
  | .local _ .vmem, ⟨25, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v64 : BitVec 1 := Scalar.cmpi .eq arg1 c10_i32
  let v65 : BitVec 32 := Scalar.extui v64
  let c0_i32_41 : BitVec 32 := 0#32
  let v66 : BitVec 1 := Scalar.cmpi .ne v65 c0_i32_41
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S8x4096x2048 : Shape := ⟨3, ![8, 4096, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11264 : Shape := ⟨3, ![8, 4096, 11264]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩
abbrev S32768x2048 : Shape := ⟨2, ![32768, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S8x4096x11264, .f32⟩
  | .hbm, ⟨23, _⟩ => ⟨S_, .i32⟩
  | .hbm, ⟨24, _⟩ => ⟨S_, .f32⟩
  | .hbm, ⟨25, _⟩ => ⟨S8x4098x11264, .f32⟩
  | .hbm, ⟨26, _⟩ => ⟨S1x11264, .f32⟩
  | .hbm, ⟨27, _⟩ => ⟨S11264, .f32⟩
  | .hbm, ⟨28, _⟩ => ⟨S8x4096x11264, .f32⟩
  | .hbm, ⟨29, _⟩ => ⟨S1x1x11264, .f32⟩
  | .hbm, ⟨30, _⟩ => ⟨S8x4096x11264, .f32⟩
  | .hbm, ⟨31, _⟩ => ⟨S8x4096x11264, .f32⟩
  | .hbm, ⟨32, _⟩ => ⟨S1x1x11264, .f32⟩
  | .hbm, ⟨33, _⟩ => ⟨S8x4096x11264, .f32⟩
  | .hbm, ⟨34, _⟩ => ⟨S8x4096x11264, .f32⟩
  | .hbm, ⟨35, _⟩ => ⟨S1x11264, .f32⟩
  | .hbm, ⟨36, _⟩ => ⟨S11264, .f32⟩
  | .hbm, ⟨37, _⟩ => ⟨S8x4096x11264, .f32⟩
  | .hbm, ⟨38, _⟩ => ⟨S1x1x11264, .f32⟩
  | .hbm, ⟨39, _⟩ => ⟨S8x4096x11264, .f32⟩
  | .hbm, ⟨40, _⟩ => ⟨S8x4096x11264, .f32⟩
  | .hbm, ⟨41, _⟩ => ⟨S8x4096x11264, .f32⟩
  | .hbm, ⟨42, _⟩ => ⟨S1x11264, .f32⟩
  | .hbm, ⟨43, _⟩ => ⟨S11264, .f32⟩
  | .hbm, ⟨44, _⟩ => ⟨S8x4096x11264, .f32⟩
  | .hbm, ⟨45, _⟩ => ⟨S1x1x11264, .f32⟩
  | .hbm, ⟨46, _⟩ => ⟨S8x4096x11264, .f32⟩
  | .hbm, ⟨47, _⟩ => ⟨S8x4096x11264, .f32⟩
  | .hbm, ⟨48, _⟩ => ⟨S8x4096x11264, .f32⟩
  | .hbm, ⟨49, _⟩ => ⟨S8x4096x5632, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S_, .f32⟩
  | .hbm, ⟨54, _⟩ => ⟨S8x4096x5632, .f32⟩
  | .hbm, ⟨55, _⟩ => ⟨S8x4096x5632, .f32⟩
  | .hbm, ⟨56, _⟩ => ⟨S_, .f32⟩
  | .hbm, ⟨57, _⟩ => ⟨S8x4096x5632, .f32⟩
  | .hbm, ⟨58, _⟩ => ⟨S8x4096x5632, .f32⟩
  | .hbm, ⟨59, _⟩ => ⟨S8x4096x5632, .f32⟩
  | .hbm, ⟨60, _⟩ => ⟨S8x4096x5632, .f32⟩
  | .hbm, ⟨61, _⟩ => ⟨S8x4096x2048, .f32⟩
  | .hbm, ⟨62, _⟩ => ⟨S8x4096x2048, .f32⟩
  | .hbm, ⟨63, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel4.lean ====
abbrev S8x4096x2048 : Shape := ⟨3, ![8, 4096, 2048]⟩
abbrev S2048 : Shape := ⟨1, ![2048]⟩
abbrev S2048x13200 : Shape := ⟨2, ![2048, 13200]⟩
abbrev S32768x2048 : Shape := ⟨2, ![32768, 2048]⟩
abbrev S2048x9216 : Shape := ⟨2, ![2048, 9216]⟩
abbrev S1x2048 : Shape := ⟨2, ![1, 2048]⟩
abbrev S32768x9216 : Shape := ⟨2, ![32768, 9216]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x13200, .f32⟩
  | .hbm, ⟨3, _⟩ => ⟨S32768x2048, .f32⟩
  | .hbm, ⟨4, _⟩ => ⟨S2048x9216, .f32⟩
  | .hbm, ⟨5, _⟩ => ⟨S2048x9216, .bf16⟩
  | .hbm, ⟨6, _⟩ => ⟨S1x2048, .f32⟩
  | .hbm, ⟨7, _⟩ => ⟨S32768x9216, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x4096x2048 : Shape := ⟨3, ![8, 4096, 2048]⟩
abbrev S2048 : Shape := ⟨1, ![2048]⟩
abbrev S2048x13200 : Shape := ⟨2, ![2048, 13200]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x13200 : Shape := ⟨3, ![8, 4096, 13200]⟩
abbrev S8x4096x9216 : Shape := ⟨3, ![8, 4096, 9216]⟩
abbrev S32768x9216 : Shape := ⟨2, ![32768, 9216]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x13200, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x13200, .f32⟩
  | .hbm, ⟨20, _⟩ => ⟨S8x4096x9216, .f32⟩
  | .hbm, ⟨21, _⟩ => ⟨S32768x9216, .f32⟩
  | .hbm, ⟨22, _⟩ => ⟨S32768x9216, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S8x4096x2048 : Shape := ⟨3, ![8, 4096, 2048]⟩
abbrev S2048 : Shape := ⟨1, ![2048]⟩
abbrev S2048x13200 : Shape := ⟨2, ![2048, 13200]⟩
abbrev S32768x2048 : Shape := ⟨2, ![32768, 2048]⟩
abbrev S2048x3984 : Shape := ⟨2, ![2048, 3984]⟩
abbrev S_ : Shape := ⟨0, ![]⟩
abbrev S2048x4096 : Shape := ⟨2, ![2048, 4096]⟩
abbrev S1x2048 : Shape := ⟨2, ![1, 2048]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x13200, .f32⟩
  | .hbm, ⟨3, _⟩ => ⟨S32768x2048, .f32⟩
  | .hbm, ⟨4, _⟩ => ⟨S2048x3984, .f32⟩
  | .hbm, ⟨5, _⟩ => ⟨S_, .i32⟩
  | .hbm, ⟨6, _⟩ => ⟨S_, .f32⟩
  | .hbm, ⟨7, _⟩ => ⟨S2048x4096, .f32⟩
  | .hbm, ⟨8, _⟩ => ⟨S2048x4096, .bf16⟩
  | .hbm, ⟨9, _⟩ => ⟨S1x2048, .f32⟩
  | .hbm, ⟨10, _⟩ => ⟨S32768x4096, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x4096x2048 : Shape := ⟨3, ![8, 4096, 2048]⟩
abbrev S2048 : Shape := ⟨1, ![2048]⟩
abbrev S2048x13200 : Shape := ⟨2, ![2048, 13200]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x13200 : Shape := ⟨3, ![8, 4096, 13200]⟩
abbrev S8x4096x3984 : Shape := ⟨3, ![8, 4096, 3984]⟩
abbrev S32768x3984 : Shape := ⟨2, ![32768, 3984]⟩
abbrev S32768x4096 : Shape := ⟨2, ![32768, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x13200, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x13200, .f32⟩
  | .hbm, ⟨20, _⟩ => ⟨S8x4096x3984, .f32⟩
  | .hbm, ⟨21, _⟩ => ⟨S32768x3984, .f32⟩
  | .hbm, ⟨22, _⟩ => ⟨S_, .i32⟩
  | .hbm, ⟨23, _⟩ => ⟨S_, .f32⟩
  | .hbm, ⟨24, _⟩ => ⟨S32768x4096, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel6.lean ====
abbrev S8x4096x2048 : Shape := ⟨3, ![8, 4096, 2048]⟩
abbrev S8x4096x4096 : Shape := ⟨3, ![8, 4096, 4096]⟩
abbrev S4096x2048 : Shape := ⟨2, ![4096, 2048]⟩
abbrev S32768x2048 : Shape := ⟨2, ![32768, 2048]⟩
abbrev S32768x4096 : Shape := ⟨2, ![32768, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S8x4096x4096, .bf16⟩
  | .hbm, ⟨2, _⟩ => ⟨S4096x2048, .f32⟩
  | .hbm, ⟨3, _⟩ => ⟨S32768x2048, .f32⟩
  | .hbm, ⟨4, _⟩ => ⟨S32768x4096, .bf16⟩
  | .hbm, ⟨5, _⟩ => ⟨S4096x2048, .bf16⟩
  | .hbm, ⟨6, _⟩ => ⟨S32768x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel6Ideal.lean ====
abbrev S8x4096x2048 : Shape := ⟨3, ![8, 4096, 2048]⟩
abbrev S8x4096x4096 : Shape := ⟨3, ![8, 4096, 4096]⟩
abbrev S4096x2048 : Shape := ⟨2, ![4096, 2048]⟩
abbrev S32768x2048 : Shape := ⟨2, ![32768, 2048]⟩
abbrev S32768x4096 : Shape := ⟨2, ![32768, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S8x4096x4096, .bf16⟩
  | .hbm, ⟨2, _⟩ => ⟨S4096x2048, .f32⟩
  | .hbm, ⟨3, _⟩ => ⟨S32768x2048, .f32⟩
  | .hbm, ⟨4, _⟩ => ⟨S32768x4096, .bf16⟩
  | .hbm, ⟨5, _⟩ => ⟨S4096x2048, .bf16⟩
  | .hbm, ⟨6, _⟩ => ⟨S32768x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x4096x2048 : Shape := ⟨3, ![8, 4096, 2048]⟩
abbrev S8x4096x4096 : Shape := ⟨3, ![8, 4096, 4096]⟩
abbrev S4096x2048 : Shape := ⟨2, ![4096, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x4096, .bf16⟩
  | .hbm, ⟨2, _⟩ => ⟨S4096x2048, .f32⟩
  | .hbm, ⟨3, _⟩ => ⟨S8x4096x4096, .f32⟩
  | .hbm, ⟨4, _⟩ => ⟨S8x4096x2048, .f32⟩
  | .hbm, ⟨5, _⟩ => ⟨S8x4096x2048, .f32⟩
  | .hbm, ⟨6, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8x4096x2048 : Shape := ⟨3, ![8, 4096, 2048]⟩
abbrev S8x4096x6144 : Shape := ⟨3, ![8, 4096, 6144]⟩
abbrev S6144x2048 : Shape := ⟨2, ![6144, 2048]⟩
abbrev S32768x2048 : Shape := ⟨2, ![32768, 2048]⟩
abbrev S32768x6144 : Shape := ⟨2, ![32768, 6144]⟩
abbrev S1024x6144 : Shape := ⟨2, ![1024, 6144]⟩
abbrev S6144x512 : Shape := ⟨2, ![6144, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S8x4096x6144, .bf16⟩
  | .hbm, ⟨2, _⟩ => ⟨S6144x2048, .f32⟩
  | .hbm, ⟨3, _⟩ => ⟨S32768x2048, .f32⟩
  | .hbm, ⟨4, _⟩ => ⟨S32768x6144, .bf16⟩
  | .hbm, ⟨5, _⟩ => ⟨S6144x2048, .bf16⟩
  | .hbm, ⟨6, _⟩ => ⟨S32768x2048, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel7Ideal.lean ====
abbrev S8x4096x2048 : Shape := ⟨3, ![8, 4096, 2048]⟩
abbrev S8x4096x6144 : Shape := ⟨3, ![8, 4096, 6144]⟩
abbrev S6144x2048 : Shape := ⟨2, ![6144, 2048]⟩
abbrev S32768x2048 : Shape := ⟨2, ![32768, 2048]⟩
abbrev S32768x6144 : Shape := ⟨2, ![32768, 6144]⟩
abbrev S1024x6144 : Shape := ⟨2, ![1024, 6144]⟩
abbrev S6144x512 : Shape := ⟨2, ![6144, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S8x4096x6144, .bf16⟩
  | .hbm, ⟨2, _⟩ => ⟨S6144x2048, .f32⟩
  | .hbm, ⟨3, _⟩ => ⟨S32768x2048, .f32⟩
  | .hbm, ⟨4, _⟩ => ⟨S32768x6144, .bf16⟩
  | .hbm, ⟨5, _⟩ => ⟨S6144x2048, .bf16⟩
  | .hbm, ⟨6, _⟩ => ⟨S32768x2048, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x4096x2048 : Shape := ⟨3, ![8, 4096, 2048]⟩
abbrev S8x4096x6144 : Shape := ⟨3, ![8, 4096, 6144]⟩
abbrev S6144x2048 : Shape := ⟨2, ![6144, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x6144, .bf16⟩
  | .hbm, ⟨2, _⟩ => ⟨S6144x2048, .f32⟩
  | .hbm, ⟨3, _⟩ => ⟨S8x4096x6144, .f32⟩
  | .hbm, ⟨4, _⟩ => ⟨S8x4096x2048, .f32⟩
  | .hbm, ⟨5, _⟩ => ⟨S8x4096x2048, .f32⟩
  | .hbm, ⟨6, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8x4096x2048 : Shape := ⟨3, ![8, 4096, 2048]⟩
abbrev S2048x2048 : Shape := ⟨2, ![2048, 2048]⟩
abbrev S32768x2048 : Shape := ⟨2, ![32768, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .bf16⟩
  | .hbm, ⟨2, _⟩ => ⟨S2048x2048, .f32⟩
  | .hbm, ⟨3, _⟩ => ⟨S32768x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x4096x2048 : Shape := ⟨3, ![8, 4096, 2048]⟩
abbrev S2048x2048 : Shape := ⟨2, ![2048, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .bf16⟩
  | .hbm, ⟨2, _⟩ => ⟨S2048x2048, .f32⟩
  | .hbm, ⟨3, _⟩ => ⟨S8x4096x2048, .f32⟩
  | .hbm, ⟨4, _⟩ => ⟨S8x4096x2048, .f32⟩
  | .hbm, ⟨5, _⟩ => ⟨S8x4096x2048, .f32⟩
  | .hbm, ⟨6, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8x4096x2048 : Shape := ⟨3, ![8, 4096, 2048]⟩
abbrev S2048 : Shape := ⟨1, ![2048]⟩
abbrev S2048x960 : Shape := ⟨2, ![2048, 960]⟩
abbrev S32768x2048 : Shape := ⟨2, ![32768, 2048]⟩
abbrev S2048x512 : Shape := ⟨2, ![2048, 512]⟩
abbrev S_ : Shape := ⟨0, ![]⟩
abbrev S2048x256 : Shape := ⟨2, ![2048, 256]⟩
abbrev S2048x48 : Shape := ⟨2, ![2048, 48]⟩
abbrev S2048x128 : Shape := ⟨2, ![2048, 128]⟩
abbrev S2048x16 : Shape := ⟨2, ![2048, 16]⟩
abbrev S2048x1152 : Shape := ⟨2, ![2048, 1152]⟩
abbrev S1x2048 : Shape := ⟨2, ![1, 2048]⟩
abbrev S32768x1152 : Shape := ⟨2, ![32768, 1152]⟩
abbrev S1024x2048 : Shape := ⟨2, ![1024, 2048]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 28
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x960, .f32⟩
  | .hbm, ⟨3, _⟩ => ⟨S32768x2048, .f32⟩
  | .hbm, ⟨4, _⟩ => ⟨S2048x512, .f32⟩
  | .hbm, ⟨5, _⟩ => ⟨S_, .i32⟩
  | .hbm, ⟨6, _⟩ => ⟨S_, .f32⟩
  | .hbm, ⟨7, _⟩ => ⟨S2048x512, .f32⟩
  | .hbm, ⟨8, _⟩ => ⟨S2048x256, .f32⟩
  | .hbm, ⟨9, _⟩ => ⟨S_, .i32⟩
  | .hbm, ⟨10, _⟩ => ⟨S_, .f32⟩
  | .hbm, ⟨11, _⟩ => ⟨S2048x256, .f32⟩
  | .hbm, ⟨12, _⟩ => ⟨S2048x48, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S2048x16, .f32⟩
  | .hbm, ⟨21, _⟩ => ⟨S_, .i32⟩
  | .hbm, ⟨22, _⟩ => ⟨S_, .f32⟩
  | .hbm, ⟨23, _⟩ => ⟨S2048x128, .f32⟩
  | .hbm, ⟨24, _⟩ => ⟨S2048x1152, .f32⟩
  | .hbm, ⟨25, _⟩ => ⟨S2048x1152, .bf16⟩
  | .hbm, ⟨26, _⟩ => ⟨S1x2048, .f32⟩
  | .hbm, ⟨27, _⟩ => ⟨S32768x1152, .f32⟩
  | .local _ .vmem, ⟨0, _⟩ => ⟨S1024x2048, .f32⟩
  | .local _ .vmem, ⟨1, _⟩ => ⟨S1024x2048, .f32⟩
  | .local _ .vmem, ⟨2, _⟩ => ⟨S2048x1152, .bf16⟩
  | .local _ .vmem, ⟨3, _⟩ => ⟨S1x2048, .f32⟩
  | .local _ .vmem, ⟨4, _⟩ => ⟨S1024x1152, .f32⟩
  | .local _ .vmem, ⟨5, _⟩ => ⟨S1024x1152, .f32⟩
  | .local _ .vmem, ⟨6, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_call4_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8x4096x2048 : Shape := ⟨3, ![8, 4096, 2048]⟩
abbrev S2048 : Shape := ⟨1, ![2048]⟩
abbrev S2048x960 : Shape := ⟨2, ![2048, 960]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x960 : Shape := ⟨3, ![8, 4096, 960]⟩
abbrev S32768x960 : Shape := ⟨2, ![32768, 960]⟩
abbrev S32768x512 : Shape := ⟨2, ![32768, 512]⟩
abbrev S32768x256 : Shape := ⟨2, ![32768, 256]⟩
abbrev S32768x48 : Shape := ⟨2, ![32768, 48]⟩
abbrev S32768x128 : Shape := ⟨2, ![32768, 128]⟩
abbrev S32768x16 : Shape := ⟨2, ![32768, 16]⟩
abbrev S32768x1152 : Shape := ⟨2, ![32768, 1152]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x960, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x960, .f32⟩
  | .hbm, ⟨20, _⟩ => ⟨S32768x960, .f32⟩
  | .hbm, ⟨21, _⟩ => ⟨S32768x512, .f32⟩
  | .hbm, ⟨22, _⟩ => ⟨S32768x256, .f32⟩
  | .hbm, ⟨23, _⟩ => ⟨S32768x48, .f32⟩
  | .hbm, ⟨24, _⟩ => ⟨S32768x128, .f32⟩
  | .hbm, ⟨25, _⟩ => ⟨S32768x16, .f32⟩
  | .hbm, ⟨26, _⟩ => ⟨S_, .i32⟩
  | .hbm, ⟨27, _⟩ => ⟨S_, .f32⟩
  | .hbm, ⟨28, _⟩ => ⟨S32768x128, .f32⟩
  | .hbm, ⟨29, _⟩ => ⟨S_, .i32⟩
  | .hbm, ⟨30, _⟩ => ⟨S_, .f32⟩
  | .hbm, ⟨31, _⟩ => ⟨S32768x128, .f32⟩
  | .hbm, ⟨32, _⟩ => ⟨S32768x1152, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_c_2 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel10.lean ====
abbrev S32768x1152 : Shape := ⟨2, ![32768, 1152]⟩
abbrev S512 : Shape := ⟨1, ![512]⟩
abbrev S512x8192 : Shape := ⟨2, ![512, 8192]⟩
abbrev S512x6144 : Shape := ⟨2, ![512, 6144]⟩
abbrev S512x32x192 : Shape := ⟨3, ![512, 32, 192]⟩
abbrev S_ : Shape := ⟨0, ![]⟩
abbrev S512x32x256 : Shape := ⟨3, ![512, 32, 256]⟩
abbrev S512x2048 : Shape := ⟨2, ![512, 2048]⟩
abbrev S512x10240 : Shape := ⟨2, ![512, 10240]⟩
abbrev S1x512 : Shape := ⟨2, ![1, 512]⟩
abbrev S32768x10240 : Shape := ⟨2, ![32768, 10240]⟩
abbrev S512x512 : Shape := ⟨2, ![512, 512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S32768x1152, .f32⟩
  | .hbm, ⟨1, _⟩ => ⟨S512, .f32⟩
  | .hbm, ⟨2, _⟩ => ⟨S512x8192, .f32⟩
  | .hbm, ⟨3, _⟩ => ⟨S512x6144, .f32⟩
  | .hbm, ⟨4, _⟩ => ⟨S512x32x192, .f32⟩
  | .hbm, ⟨5, _⟩ => ⟨S_, .i32⟩
  | .hbm, ⟨6, _⟩ => ⟨S_, .f32⟩
  | .hbm, ⟨7, _⟩ => ⟨S512x32x256, .f32⟩
  | .hbm, ⟨8, _⟩ => ⟨S512x8192, .f32⟩
  | .hbm, ⟨9, _⟩ => ⟨S512x2048, .f32⟩
  | .hbm, ⟨10, _⟩ => ⟨S512x10240, .f32⟩
  | .hbm, ⟨11, _⟩ => ⟨S512x10240, .bf16⟩
  | .hbm, ⟨12, _⟩ => ⟨S1x512, .f32⟩
  | .hbm, ⟨13, _⟩ => ⟨S32768x10240, .bf16⟩
  | .local _ .vmem, ⟨0, _⟩ => ⟨S512x512, .f32⟩
  | .local _ .vmem, ⟨1, _⟩ => ⟨S512x512, .f32⟩
  | .local _ .vmem, ⟨2, _⟩ => ⟨S512x10240, .bf16⟩
  | .local _ .vmem, ⟨3, _⟩ => ⟨S1x512, .f32⟩
  | .local _ .vmem, ⟨4, _⟩ => ⟨S512x10240, .bf16⟩
  | .local _ .vmem, ⟨5, _⟩ => ⟨S512x10240, .bf16⟩
  | .local _ .vmem, ⟨6, _⟩ => ⟨S512x512, .bf16⟩
  | _, _ => ⟨S32768x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x10240 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S32768x1152 : Shape := ⟨2, ![32768, 1152]⟩
abbrev S512 : Shape := ⟨1, ![512]⟩
abbrev S512x8192 : Shape := ⟨2, ![512, 8192]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S32768x8192 : Shape := ⟨2, ![32768, 8192]⟩
abbrev S32768x6144 : Shape := ⟨2, ![32768, 6144]⟩
abbrev S32768x2048 : Shape := ⟨2, ![32768, 2048]⟩
abbrev S32768x32x192 : Shape := ⟨3, ![32768, 32, 192]⟩
abbrev S32768x32x256 : Shape := ⟨3, ![32768, 32, 256]⟩
abbrev S32768x10240 : Shape := ⟨2, ![32768, 10240]⟩

abbrev nBuf : Space → Nat
  | .hbm => 30
  | .vmem => 0
  | .smem => 0
  | _ => 0

abbrev bufTy : (tb : Table) → Fin (tcTables nBuf tb) → BufTy
  | .hbm, ⟨0, _⟩ => ⟨S32768x1152, .f32⟩
  | .hbm, ⟨1, _⟩ => ⟨S512, .f32⟩
  | .hbm, ⟨2, _⟩ => ⟨S512x8192, .f32⟩
  | .hbm, ⟨3, _⟩ => ⟨S32768x512, .f32⟩
  | .hbm, ⟨4, _⟩ => ⟨S32768x512, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x512, .f32⟩
  | .hbm, ⟨16, _⟩ => ⟨S32768x512, .f32⟩
  | .hbm, ⟨17, _⟩ => ⟨S1x512, .f32⟩
  | .hbm, ⟨18, _⟩ => ⟨S32768x512, .f32⟩
  | .hbm, ⟨19, _⟩ => ⟨S32768x512, .f32⟩
  | .hbm, ⟨20, _⟩ => ⟨S32768x8192, .f32⟩
  | .hbm, ⟨21, _⟩ => ⟨S32768x6144, .f32⟩
  | .hbm, ⟨22, _⟩ => ⟨S32768x2048, .f32⟩
  | .hbm, ⟨23, _⟩ => ⟨S32768x32x192, .f32⟩
  | .hbm, ⟨24, _⟩ => ⟨S_, .i32⟩
  | .hbm, ⟨25, _⟩ => ⟨S_, .f32⟩
  | .hbm, ⟨26, _⟩ => ⟨S32768x32x256, .f32⟩
  | .hbm, ⟨27, _⟩ => ⟨S32768x8192, .f32⟩
  | .hbm, ⟨28, _⟩ => ⟨S32768x10240, .f32⟩
  | .hbm, ⟨29, _⟩ => ⟨S32768x10240, .bf16⟩
  | _, _ => ⟨S32768x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel11.lean ====
abbrev S8x4096x2048 : Shape := ⟨3, ![8, 4096, 2048]⟩
abbrev S2048 : Shape := ⟨1, ![2048]⟩
abbrev S2048x6160 : Shape := ⟨2, ![2048, 6160]⟩
abbrev S32768x2048 : Shape := ⟨2, ![32768, 2048]⟩
abbrev S_ : Shape := ⟨0, ![]⟩
abbrev S2048x2048 : Shape := ⟨2, ![2048, 2048]⟩
abbrev S2048x4096 : Shape := ⟨2, ![2048, 4096]⟩
abbrev S2048x6144 : Shape := ⟨2, ![2048, 6144]⟩
abbrev S1x2048 : Shape := ⟨2, ![1, 2048]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 19
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6160, .f32⟩
  | .hbm, ⟨3, _⟩ => ⟨S32768x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x4096, .f32⟩
  | .hbm, ⟨15, _⟩ => ⟨S2048x6144, .f32⟩
  | .hbm, ⟨16, _⟩ => ⟨S2048x6144, .bf16⟩
  | .hbm, ⟨17, _⟩ => ⟨S1x2048, .f32⟩
  | .hbm, ⟨18, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8x4096x2048 : Shape := ⟨3, ![8, 4096, 2048]⟩
abbrev S2048 : Shape := ⟨1, ![2048]⟩
abbrev S2048x6160 : Shape := ⟨2, ![2048, 6160]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6160 : Shape := ⟨3, ![8, 4096, 6160]⟩
abbrev S32768x6160 : Shape := ⟨2, ![32768, 6160]⟩
abbrev S32768x2048 : Shape := ⟨2, ![32768, 2048]⟩
abbrev S32768x16 : Shape := ⟨2, ![32768, 16]⟩
abbrev S32768x6144 : Shape := ⟨2, ![32768, 6144]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6160, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x6160, .f32⟩
  | .hbm, ⟨20, _⟩ => ⟨S32768x6160, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32768x2048, .f32⟩
  | .hbm, ⟨33, _⟩ => ⟨S32768x2048, .f32⟩
  | .hbm, ⟨34, _⟩ => ⟨S32768x6144, .f32⟩
  | .hbm, ⟨35, _⟩ => ⟨S32768x6144, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.FfnRef.lean ====
/-
  Hand-written, untrusted. The feed-forward reference read at an index: its composed term cut into the stages the layer
  names (the normalised input, the up-projection, the convolution, the gate, the residual, the final norm), each read as
  a formula over the extended reals.
-/
module

public import proofs.«01_k».proof.Proof.Gen.Reference2Ideal.Run
public import Idealize.ShloMosaic.Lib.Pointwise

@[expose] public section

set_option maxRecDepth 16384

noncomputable section

namespace Cert.Proof.Ffn

open Idealize.ShloMosaic Idealize.ShloMosaic.TcCoe Idealize.SL.Sem
open Cert.Reference2Ideal Cert.Reference2Ideal.Gen

/-! ## The layer as formulas

The arguments are functions of their coordinates: the input `X` by sequence, position and feature, the gains `g` and `og`,
the up-projection `W`, the convolution's weights `CW` and bias `CB`, the down-projection `WD`. -/

/-- One feature of a row divided by its root mean square, times its gain. -/
def nrm (x g : Fin 2048 → EReal) (d : Fin 2048) : EReal :=
  x d * Ideal.rsqrt (Ideal.div (∑ k, x k * x k) (Ideal.ofBits FTy.f32 1157627904#32) + Ideal.ofBits FTy.f32 897988541#32) * g d

/-- One feature of the up-projection of a normalised row. -/
def upv (X : Fin 8 → Fin 4096 → Fin 2048 → EReal) (g : Fin 2048 → EReal) (W : Fin 2048 → Fin 11264 → EReal)
    (b : Fin 8) (s : Fin 4096) (f : Fin 11264) : EReal :=
  ∑ d, nrm (X b s) g d * W d f

/-- The up-projection with two zero rows before each sequence: position `p` is row `p - 2`. -/
def upP (X : Fin 8 → Fin 4096 → Fin 2048 → EReal) (g : Fin 2048 → EReal) (W : Fin 2048 → Fin 11264 → EReal)
    (b : Fin 8) (p : ℕ) (f : Fin 11264) : EReal :=
  if h : 2 ≤ p ∧ p - 2 < 4096 then upv X g W b ⟨p - 2, h.2⟩ f else 0

/-- The causal convolution of width 3, with its bias. -/
def cnv (X : Fin 8 → Fin 4096 → Fin 2048 → EReal) (g : Fin 2048 → EReal) (W : Fin 2048 → Fin 11264 → EReal)
    (CW : Fin 3 → Fin 11264 → EReal) (CB : Fin 11264 → EReal) (b : Fin 8) (s : ℕ) (f : Fin 11264) : EReal :=
  CB f + CW 0 f * upP X g W b s f + CW 1 f * upP X g W b (1 + s) f + CW 2 f * upP X g W b (2 + s) f

/-- The gated activation: the first half through SiLU, times the second half. -/
def act (X : Fin 8 → Fin 4096 → Fin 2048 → EReal) (g : Fin 2048 → EReal) (W : Fin 2048 → Fin 11264 → EReal)
    (CW : Fin 3 → Fin 11264 → EReal) (CB : Fin 11264 → EReal) (b : Fin 8) (s : ℕ) (f : Fin 5632) : EReal :=
  cnv X g W CW CB b s ⟨f.val, by omega⟩ * Ideal.logistic (cnv X g W CW CB b s ⟨f.val, by omega⟩)
    * cnv X g W CW CB b s ⟨5632 + f.val, by omega⟩

/-- The layer's output before the final norm. -/
def hid (X : Fin 8 → Fin 4096 → Fin 2048 → EReal) (g : Fin 2048 → EReal) (W : Fin 2048 → Fin 11264 → EReal)
    (CW : Fin 3 → Fin 11264 → EReal) (CB : Fin 11264 → EReal) (WD : Fin 5632 → Fin 2048 → EReal)
    (b : Fin 8) (s : Fin 4096) (d : Fin 2048) : EReal :=
  X b s d + ∑ f, act X g W CW CB b s.val f * WD f d

/-! ## The stages as array terms -/

/-- A row divided by its root mean square, times a gain. -/
def normT (x : FVec Ideal S8x4096x2048 .f32) (g : FVec Ideal S2048 .f32) : FVec Ideal S8x4096x2048 .f32 :=
  mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))

/-- The up-projection of the normalised rows. -/
def upT (xn : FVec Ideal S8x4096x2048 .f32) (w : FVec Ideal S2048x11264 .f32) : FVec Ideal S8x4096x11264 .f32 :=
  Host.dotGeneral dot_S8x4096x2048_S2048x11264_S8x4096x11264_2_0_01_1_n_n none xn w

/-- Two zero rows put before each sequence. -/
def padT (u : FVec Ideal S8x4096x11264 .f32) : FVec Ideal S8x4098x11264 .f32 :=
  pad S8x4098x11264 ![0, 2, 0] ![0, 0, 0] ![0, 0, 0] u (sitofp .f32 (constantI S_ 32 0#32)) pads_S8x4096x11264_S8x4098x11264_000_200_000 h_S_

/-- The causal convolution of width 3, with its bias. -/
def convT (p : FVec Ideal S8x4098x11264 .f32) (cw : FVec Ideal S3x11264 .f32) (cb : FVec Ideal S11264 .f32) : FVec Ideal S8x4096x11264 .f32 :=
  addf (addf (addf (broadcastInDim S8x4096x11264 ![0, 1, 2] bcast_S1x1x11264_S8x4096x11264_0_1_2 (broadcastInDim S1x1x11264 ![2] bcast_S11264_S1x1x11264_2 cb)) (mulf (broadcastInDim S8x4096x11264 ![0, 1, 2] bcast_S1x1x11264_S8x4096x11264_0_1_2 (broadcastInDim S1x1x11264 ![2] bcast_S11264_S1x1x11264_2 (shapeCast S11264 (extractStridedSlice S1x11264 ![0, 0] cw slices_S3x11264_S1x11264_0_0) shapeCasts_S1x11264_S11264))) (extractStridedSlice S8x4096x11264 ![0, 0, 0] p slices_S8x4098x11264_S8x4096x11264_0_0_0))) (mulf (broadcastInDim S8x4096x11264 ![0, 1, 2] bcast_S1x1x11264_S8x4096x11264_0_1_2 (broadcastInDim S1x1x11264 ![2] bcast_S11264_S1x1x11264_2 (shapeCast S11264 (extractStridedSlice S1x11264 ![1, 0] cw slices_S3x11264_S1x11264_1_0) shapeCasts_S1x11264_S11264))) (extractStridedSlice S8x4096x11264 ![0, 1, 0] p slices_S8x4098x11264_S8x4096x11264_0_1_0))) (mulf (broadcastInDim S8x4096x11264 ![0, 1, 2] bcast_S1x1x11264_S8x4096x11264_0_1_2 (broadcastInDim S1x1x11264 ![2] bcast_S11264_S1x1x11264_2 (shapeCast S11264 (extractStridedSlice S1x11264 ![2, 0] cw slices_S3x11264_S1x11264_2_0) shapeCasts_S1x11264_S11264))) (extractStridedSlice S8x4096x11264 ![0, 2, 0] p slices_S8x4098x11264_S8x4096x11264_0_2_0))

/-- The gate: the first half through SiLU, times the second half. -/
def gateT (y : FVec Ideal S8x4096x11264 .f32) : FVec Ideal S8x4096x5632 .f32 :=
  mulf (mulf (extractStridedSlice S8x4096x5632 ![0, 0, 0] y slices_S8x4096x11264_S8x4096x5632_0_0_0) (Host.divf (broadcastInDim S8x4096x5632 ![] bcast_S_S8x4096x5632 (constant S_ .f32 0x3F800000#32)) (addf (broadcastInDim S8x4096x5632 ![] bcast_S_S8x4096x5632 (constant S_ .f32 0x3F800000#32)) (Host.exp (Host.negf (extractStridedSlice S8x4096x5632 ![0, 0, 0] y slices_S8x4096x11264_S8x4096x5632_0_0_0)))))) (extractStridedSlice S8x4096x5632 ![0, 0, 5632] y slices_S8x4096x11264_S8x4096x5632_0_0_5632)

/-- The down-projection, added to the input. -/
def hidT (x : FVec Ideal S8x4096x2048 .f32) (a : FVec Ideal S8x4096x5632 .f32) (wd : FVec Ideal S5632x2048 .f32) : FVec Ideal S8x4096x2048 .f32 :=
  addf x (Host.dotGeneral dot_S8x4096x5632_S5632x2048_S8x4096x2048_2_0_01_1_n_n none a wd)

/-- The reference's result, by its stages. -/
def refT (x : FVec Ideal S8x4096x2048 .f32) (g : FVec Ideal S2048 .f32) (w : FVec Ideal S2048x11264 .f32) (cw : FVec Ideal S3x11264 .f32)
    (cb : FVec Ideal S11264 .f32) (wd : FVec Ideal S5632x2048 .f32) (og : FVec Ideal S2048 .f32) : FVec Ideal S32768x2048 .f32 :=
  shapeCast S32768x2048 (normT (hidT x (gateT (convT (padT (upT (normT x g) w)) cw cb)) wd) og) shapeCasts_S8x4096x2048_S32768x2048

theorem res_eq (m : (ℓ : Loc nD τ sig) → Buf (Elt Ideal) ℓ) (c : Dev nD) :
    Cert.Reference2Ideal.Value.res_out0 m c = refT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-! ## The stages at an index -/

theorem normT_at (x : FVec Ideal S8x4096x2048 .f32) (g : FVec Ideal S2048 .f32) (b : Fin 8) (s : Fin 4096) (d : Fin 2048) :
    normT x g (ix3 b s d) = nrm (fun k => x (ix3 b s k)) (fun k => g (ix1 k)) d := by
  pointwise [normT]
  rfl

theorem upT_at (x : FVec Ideal S8x4096x2048 .f32) (w : FVec Ideal S2048x11264 .f32) (b : Fin 8) (s : Fin 4096) (f : Fin 11264) :
    upT x w (ix3 b s f) = ∑ k, x (ix3 b s k) * w (ix2 k f) := by
  pointwise [upT]

theorem padT_at (u : FVec Ideal S8x4096x11264 .f32) (b : Fin 8) (p : Fin 4098) (f : Fin 11264) :
    padT u (ix3 b p f) = if h : 2 ≤ p.val ∧ p.val - 2 < 4096 then u (ix3 b ⟨p.val - 2, h.2⟩ f) else 0 := by
  pointwise [padT]
  split
  · rfl
  · show (((0#32 : BitVec 32).toInt : ℝ) : EReal) = 0
    norm_num

theorem convT_at (p : FVec Ideal S8x4098x11264 .f32) (cw : FVec Ideal S3x11264 .f32) (cb : FVec Ideal S11264 .f32)
    (b : Fin 8) (s : Fin 4096) (f : Fin 11264) :
    convT p cw cb (ix3 b s f) = cb (ix1 f) + cw (ix2 0 f) * p (ix3 b ⟨s.val, by omega⟩ f) + cw (ix2 1 f) * p (ix3 b ⟨1 + s.val, by omega⟩ f)
      + cw (ix2 2 f) * p (ix3 b ⟨2 + s.val, by omega⟩ f) := by
  pointwise [convT]

theorem gateT_at (y : FVec Ideal S8x4096x11264 .f32) (b : Fin 8) (s : Fin 4096) (f : Fin 5632) :
    gateT y (ix3 b s f) = y (ix3 b s ⟨f.val, by omega⟩) * Ideal.logistic (y (ix3 b s ⟨f.val, by omega⟩)) * y (ix3 b s ⟨5632 + f.val, by omega⟩) := by
  pointwise [gateT]
  rfl

theorem hidT_at (x : FVec Ideal S8x4096x2048 .f32) (a : FVec Ideal S8x4096x5632 .f32) (wd : FVec Ideal S5632x2048 .f32)
    (b : Fin 8) (s : Fin 4096) (d : Fin 2048) :
    hidT x a wd (ix3 b s d) = x (ix3 b s d) + ∑ f, a (ix3 b s f) * wd (ix2 f d) := by
  pointwise [hidT]

/-- The layer before the final norm, at an index. -/
theorem layer_at (x : FVec Ideal S8x4096x2048 .f32) (g : FVec Ideal S2048 .f32) (w : FVec Ideal S2048x11264 .f32) (cw : FVec Ideal S3x11264 .f32)
    (cb : FVec Ideal S11264 .f32) (wd : FVec Ideal S5632x2048 .f32) (b : Fin 8) (s : Fin 4096) (k : Fin 2048) :
    hidT x (gateT (convT (padT (upT (normT x g) w)) cw cb)) wd (ix3 b s k)
      = hid (fun b s k => x (ix3 b s k)) (fun k => g (ix1 k)) (fun k f => w (ix2 k f)) (fun a f => cw (ix2 a f)) (fun f => cb (ix1 f))
          (fun f k => wd (ix2 f k)) b s k := by
  have hup : ∀ (b : Fin 8) (s : Fin 4096) (f : Fin 11264), upT (normT x g) w (ix3 b s f)
      = upv (fun b s k => x (ix3 b s k)) (fun k => g (ix1 k)) (fun k f => w (ix2 k f)) b s f := fun b s f => by
    rw [upT_at]; exact Finset.sum_congr rfl fun k _ => by rw [normT_at]
  have hpad : ∀ (b : Fin 8) (p : Fin 4098) (f : Fin 11264), padT (upT (normT x g) w) (ix3 b p f)
      = upP (fun b s k => x (ix3 b s k)) (fun k => g (ix1 k)) (fun k f => w (ix2 k f)) b p.val f := fun b p f => by
    rw [padT_at]; unfold upP
    split
    · rw [hup]
    · rfl
  have hcnv : ∀ (b : Fin 8) (s : Fin 4096) (f : Fin 11264), convT (padT (upT (normT x g) w)) cw cb (ix3 b s f)
      = cnv (fun b s k => x (ix3 b s k)) (fun k => g (ix1 k)) (fun k f => w (ix2 k f)) (fun a f => cw (ix2 a f)) (fun f => cb (ix1 f)) b s.val f := fun b s f => by
    rw [convT_at, hpad, hpad, hpad]; rfl
  have hact : ∀ (b : Fin 8) (s : Fin 4096) (f : Fin 5632), gateT (convT (padT (upT (normT x g) w)) cw cb) (ix3 b s f)
      = act (fun b s k => x (ix3 b s k)) (fun k => g (ix1 k)) (fun k f => w (ix2 k f)) (fun a f => cw (ix2 a f)) (fun f => cb (ix1 f)) b s.val f := fun b s f => by
    rw [gateT_at, hcnv, hcnv]; rfl
  rw [hidT_at]; unfold hid
  exact congrArg _ (Finset.sum_congr rfl fun f _ => by rw [hact])

/-- The reference's result at row `r` and feature `d`. -/
theorem refT_at (x : FVec Ideal S8x4096x2048 .f32) (g : FVec Ideal S2048 .f32) (w : FVec Ideal S2048x11264 .f32) (cw : FVec Ideal S3x11264 .f32)
    (cb : FVec Ideal S11264 .f32) (wd : FVec Ideal S5632x2048 .f32) (og : FVec Ideal S2048 .f32) (r : Fin 32768) (d : Fin 2048) :
    refT x g w cw cb wd og (ix2 r d)
      = nrm (hid (fun b s k => x (ix3 b s k)) (fun k => g (ix1 k)) (fun k f => w (ix2 k f)) (fun a f => cw (ix2 a f)) (fun f => cb (ix1 f))
          (fun f k => wd (ix2 f k)) ⟨r.val / 4096, by omega⟩ ⟨r.val % 4096, by omega⟩) (fun k => og (ix1 k)) d := by
  pointwise [refT]
  rw [normT_at]
  simp only [layer_at]

end Cert.Proof.Ffn

end
-- ==== Proof.FfnKer.lean ====
/-
  Hand-written, untrusted. The feed-forward kernel's ideal program: what a grid point leaves in its output block and in
  the two buffers it carries (the normalised rows, the accumulated down-projection), and the result array as formulas
  over the extended reals.
-/
module

public import proofs.«01_k».proof.Proof.FfnRef
public import proofs.«01_k».proof.Proof.Gen.Kernel2Ideal.Frame
public import Idealize.ShloMosaic.Lib.Pointwise
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-! ## The arguments as functions of their coordinates -/

/-- The input, by sequence, position and feature. -/
abbrev aX (b : Fin 8) (s : Fin 4096) (d : Fin 2048) : EReal := (m ((c : Thread nD τ).loc main_arg0) : FVec Ideal S8x4096x2048 .f32) (ix3 b s d)
/-- The input gain. -/
abbrev aG (d : Fin 2048) : EReal := (m ((c : Thread nD τ).loc main_arg1) : FVec Ideal S2048 .f32) (ix1 d)
/-- The up-projection. -/
abbrev aW (d : Fin 2048) (f : Fin 11264) : EReal := (m ((c : Thread nD τ).loc main_arg2) : FVec Ideal S2048x11264 .f32) (ix2 d f)
/-- The convolution's weights. -/
abbrev aCW (a : Fin 3) (f : Fin 11264) : EReal := (m ((c : Thread nD τ).loc main_arg3) : FVec Ideal S3x11264 .f32) (ix2 a f)
/-- The convolution's bias. -/
abbrev aCB (f : Fin 11264) : EReal := (m ((c : Thread nD τ).loc main_arg4) : FVec Ideal S11264 .f32) (ix1 f)
/-- The down-projection. -/
abbrev aWD (f : Fin 5632) (d : Fin 2048) : EReal := (m ((c : Thread nD τ).loc main_arg5) : FVec Ideal S5632x2048 .f32) (ix2 f d)
/-- The output gain. -/
abbrev aOG (d : Fin 2048) : EReal := (m ((c : Thread nD τ).loc main_arg6) : FVec Ideal S2048 .f32) (ix1 d)

/-! ## The blocks a point reads -/

theorem lt_N (t : Fin cfg0.N) : t.val < 704 := t.isLt

theorem idx : ∀ t : Fin cfg0.N, win0_0.index t = ![t.val / 11, 0] ∧ win0_1.index t = ![t.val / 11 * 32 - 1, 0] ∧ win0_2.index t = ![0, 0]
    ∧ win0_3.index t = ![0, t.val % 11] ∧ win0_4.index t = ![0, 11 + t.val % 11] ∧ win0_5.index t = ![0, t.val % 11]
    ∧ win0_6.index t = ![0, 11 + t.val % 11] ∧ win0_7.index t = ![0, t.val % 11] ∧ win0_8.index t = ![0, 11 + t.val % 11]
    ∧ win0_9.index t = ![t.val % 11, 0] ∧ win0_10.index t = ![0, 0] ∧ win0_11.index t = ![t.val / 11, 0] := (by decide +kernel : ∀ t : Fin grid0.N, _)

theorem blk0 (t : Fin cfg0.N) (r : Fin 512) (d : Fin 2048) :
    (iblk m c 0 t : FVec Ideal S512x2048 .f32) (ix2 r d) = aX m c ⟨t.val / 88, by have := lt_N t; omega⟩ ⟨t.val / 11 % 8 * 512 + r.val, by omega⟩ d := by
  have := lt_N t
  blk_simp [iblk, idx t]
  entry_read
  pointwise
  blk_ext [idx t]

theorem blk1 (t : Fin cfg0.N) (ht : t.val / 11 % 8 ≠ 0) (r : Fin 16) (d : Fin 2048) :
    (iblk m c 1 t : FVec Ideal S16x2048 .f32) (ix2 r d) = aX m c ⟨t.val / 88, by have := lt_N t; omega⟩ ⟨t.val / 11 % 8 * 512 + r.val - 16, by omega⟩ d := by
  have := lt_N t
  blk_simp [iblk, idx t]
  entry_read
  pointwise
  blk_ext [idx t]

theorem blk2 (t : Fin cfg0.N) (d : Fin 2048) : (iblk m c 2 t : FVec Ideal S1x2048 .f32) (ix2 0 d) = aG m c d := by
  have := lt_N t
  blk_simp [iblk, idx t]
  entry_read
  pointwise
  blk_ext [idx t]

theorem blk3 (t : Fin cfg0.N) (k : Fin 2048) (x : Fin 512) :
    (iblk m c 3 t : FVec Ideal S2048x512 .bf16) (ix2 k x) = aW m c k ⟨t.val % 11 * 512 + x.val, by omega⟩ := by
  have := lt_N t
  blk_simp [iblk, idx t]
  entry_read
  pointwise
  blk_ext [idx t]

theorem blk4 (t : Fin cfg0.N) (k : Fin 2048) (x : Fin 512) :
    (iblk m c 4 t : FVec Ideal S2048x512 .bf16) (ix2 k x) = aW m c k ⟨5632 + (t.val % 11 * 512 + x.val), by omega⟩ := by
  have := lt_N t
  blk_simp [iblk, idx t]
  entry_read
  pointwise
  blk_ext [idx t]

theorem blk5 (t : Fin cfg0.N) (a : Fin 3) (x : Fin 512) :
    (iblk m c 5 t : FVec Ideal S3x512 .f32) (ix2 a x) = aCW m c a ⟨t.val % 11 * 512 + x.val, by omega⟩ := by
  have := lt_N t
  blk_ext [iblk, V, idx t]

theorem blk6 (t : Fin cfg0.N) (a : Fin 3) (x : Fin 512) :
    (iblk m c 6 t : FVec Ideal S3x512 .f32) (ix2 a x) = aCW m c a ⟨5632 + (t.val % 11 * 512 + x.val), by omega⟩ := by
  have := lt_N t
  blk_ext [iblk, V, idx t]

theorem blk7 (t : Fin cfg0.N) (x : Fin 512) :
    (iblk m c 7 t : FVec Ideal S1x512 .f32) (ix2 0 x) = aCB m c ⟨t.val % 11 * 512 + x.val, by omega⟩ := by
  have := lt_N t
  blk_simp [iblk, idx t]
  entry_read
  pointwise
  blk_ext [idx t]

theorem blk8 (t : Fin cfg0.N) (x : Fin 512) :
    (iblk m c 8 t : FVec Ideal S1x512 .f32) (ix2 0 x) = aCB m c ⟨5632 + (t.val % 11 * 512 + x.val), by omega⟩ := by
  have := lt_N t
  blk_simp [iblk, idx t]
  entry_read
  pointwise
  blk_ext [idx t]

theorem blk9 (t : Fin cfg0.N) (x : Fin 512) (d : Fin 2048) :
    (iblk m c 9 t : FVec Ideal S512x2048 .bf16) (ix2 x d) = aWD m c ⟨t.val % 11 * 512 + x.val, by omega⟩ d := by
  have := lt_N t
  blk_simp [iblk, idx t]
  entry_read
  pointwise
  blk_ext [idx t]

theorem blk10 (t : Fin cfg0.N) (d : Fin 2048) : (iblk m c 10 t : FVec Ideal S1x2048 .f32) (ix2 0 d) = aOG m c d := by
  have := lt_N t
  blk_simp [iblk, idx t]
  entry_read
  pointwise
  blk_ext [idx t]

/-! ## One point's step -/

/-- A tile of the convolution at the rows after the sixteen of the halo, from the normalised rows and one half's blocks. -/
def cvt (xn : FVec Ideal S528x2048 .bf16) (w : FVec Ideal S2048x512 .bf16) (cw : FVec Ideal S3x512 .f32) (b : FVec Ideal S1x512 .f32)
    (r x : Fin 512) : EReal :=
  b (ix2 0 x) + cw (ix2 0 x) * (∑ k, xn (ix2 ⟨14 + r.val, by omega⟩ k) * w (ix2 k x))
    + cw (ix2 1 x) * (∑ k, xn (ix2 ⟨15 + r.val, by omega⟩ k) * w (ix2 k x))
    + cw (ix2 2 x) * (∑ k, xn (ix2 ⟨16 + r.val, by omega⟩ k) * w (ix2 k x))

/-- What a point adds to the accumulated down-projection. -/
def stepV (xn : FVec Ideal S528x2048 .bf16) (t : Fin cfg0.N) (r : Fin 512) (d : Fin 2048) : EReal :=
  ∑ x, cvt xn (iblk m c 3 t) (iblk m c 5 t) (iblk m c 7 t) r x * Ideal.logistic (cvt xn (iblk m c 3 t) (iblk m c 5 t) (iblk m c 7 t) r x)
     * cvt xn (iblk m c 4 t) (iblk m c 6 t) (iblk m c 8 t) r x * iblk m c 9 t (ix2 x d)

/-- The kernel's test for the first tile of a sequence. -/
theorem sel_at : ∀ n : Fin 64, (Scalar.cmpi CmpIPredicate.eq
        (Scalar.select
          (Scalar.andi
            (Scalar.xori
              (Scalar.cmpi CmpIPredicate.slt
                (Scalar.remsi (Scalar.muli (BitVec.ofNat 32 n.val) 512#32) 4096#32) 0#32)
              (Scalar.cmpi CmpIPredicate.slt 4096#32 0#32))
            (Scalar.cmpi CmpIPredicate.ne
              (Scalar.remsi (Scalar.muli (BitVec.ofNat 32 n.val) 512#32) 4096#32) 0#32))
          (Scalar.addi (Scalar.remsi (Scalar.muli (BitVec.ofNat 32 n.val) 512#32) 4096#32) 4096#32)
          (Scalar.remsi (Scalar.muli (BitVec.ofNat 32 n.val) 512#32) 4096#32))
        0#32) = if n.val % 8 = 0 then 1#1 else 0#1 := by decide +kernel

theorem coord0 : ∀ t : Fin cfg0.N, (grid0.coords t 0).val = t.val / 11 := (by decide +kernel : ∀ t : Fin grid0.N, (grid0.coords t 0).val = t.val / 11)

/-- The normalised rows of tile `i`, its sixteen halo rows first: zeros at the start of a sequence. -/
def XN (i : Fin 64) : FVec Ideal S528x2048 .bf16 := fun y =>
  if h : i.val % 8 = 0 ∧ (y 0 : Fin 528).val < 16 then 0
  else nrm (aX m c ⟨i.val / 8, by omega⟩ ⟨i.val % 8 * 512 + (y 0 : Fin 528).val - 16, by have : (y 0 : Fin 528).val < 528 := (y 0).isLt; omega⟩) (aG m c) (y 1 : Fin 2048)

/-- The tile of rows a point works on. -/
def til (t : Fin cfg0.N) : Fin 64 := ⟨t.val / 11, by have := lt_N t; omega⟩

/-- The first point of a tile leaves the normalised rows in the carried buffer. -/
theorem rows_A (t : Fin cfg0.N) (h0 : t.val % 11 = 0) (h1 : ¬t.val % 11 = 10) :
    (outsAt0 m c t.val t.isLt).2.1 = XN m c (til t) := by
  have htN := lt_N t
  rw [outsAt0_A m c t h0 h1]
  frame_out
  clear h0 h1
  have hs := sel_at (grid0.coords t 0)
  rw [coord0] at hs
  funext y
  idx_vars y
  canon_tiles x h using (by
    by_cases hr : y0.val < 16
    · refine ⟨_, List.mem_cons_self, (Rect.mem_set_unit (inb := inb_S528x2048_S16x2048_0_0)).2 fun a => ?_⟩
      match a with
      | ⟨0, _⟩ => exact ⟨Nat.zero_le _, by show y0.val < 0 + 16; omega⟩
      | ⟨1, _⟩ => exact ⟨Nat.zero_le _, by show y1.val < 0 + 2048; omega⟩
    · refine ⟨_, List.mem_cons_of_mem _ List.mem_cons_self, (Rect.mem_set_unit (inb := inb_S528x2048_S512x2048_16_0)).2 fun a => ?_⟩
      match a with
      | ⟨0, _⟩ => exact ⟨Nat.not_lt.1 hr, by show y0.val < 16 + 512; omega⟩
      | ⟨1, _⟩ => exact ⟨Nat.zero_le _, by show y1.val < 0 + 2048; omega⟩)
  case piece0 =>
    pointwise [k0_pay2, k0_pay3, k0_pay4, h0, h1]
    idx_vars x
    have e0 : y0.val = x0.val := h0
    have e1 : y1 = x1 := Fin.ext h1
    subst e1
    rw [coord0, hs]
    show _ = if h : t.val / 11 % 8 = 0 ∧ y0.val < 16 then _ else _
    by_cases ht : t.val / 11 % 8 = 0
    · rw [if_pos ht, dif_pos ⟨ht, by omega⟩]; rfl
    · rw [if_neg ht, dif_neg (fun h => ht h.1)]
      simp only [blk1 m c t ht, blk2]
      refine Eq.trans (b := nrm (aX m c ⟨t.val / 88, by omega⟩ ⟨t.val / 11 % 8 * 512 + x0.val - 16, by omega⟩) (aG m c) y1) rfl ?_
      congr 2
      · exact Fin.ext (by show t.val / 88 = t.val / 11 / 8; omega)
      · exact Fin.ext (by show t.val / 11 % 8 * 512 + x0.val - 16 = t.val / 11 % 8 * 512 + y0.val - 16; omega)
  case piece1 =>
    pointwise [k0_pay2, k0_pay3, k0_pay4, h0, h1]
    idx_vars x
    have e0 : y0.val = 16 + x0.val := h0
    have e1 : y1 = x1 := Fin.ext h1
    subst e1
    show _ = if h : t.val / 11 % 8 = 0 ∧ y0.val < 16 then _ else _
    rw [dif_neg (fun h => by omega)]
    simp only [blk0, blk2]
    refine Eq.trans (b := nrm (aX m c ⟨t.val / 88, by omega⟩ ⟨t.val / 11 % 8 * 512 + x0.val, by omega⟩) (aG m c) y1) rfl ?_
    congr 2
    · exact Fin.ext (by show t.val / 88 = t.val / 11 / 8; omega)
    · exact Fin.ext (by show t.val / 11 % 8 * 512 + x0.val = t.val / 11 % 8 * 512 + y0.val - 16; omega)

/-- The other points of a tile keep them. -/
theorem rows_B (t : Fin cfg0.N) (h0 : ¬t.val % 11 = 0) (h1 : ¬t.val % 11 = 10) :
    (outsAt0 m c t.val t.isLt).2.1 = (outsAt0 m c (t.val - 1) (by have := t.isLt; omega)).2.1 := by
  rw [outsAt0_B m c t h0 h1]
  rfl

/-- The first point's accumulated down-projection. -/
theorem acc_A (t : Fin cfg0.N) (h0 : t.val % 11 = 0) (h1 : ¬t.val % 11 = 10) (r : Fin 512) (d : Fin 2048) : ∀ (X : FVec Ideal S528x2048 .bf16)
    (hX : (outsAt0 m c t.val t.isLt).2.1 = X), (outsAt0 m c t.val t.isLt).2.2 (ix2 r d) = stepV m c X t r d := by
  rw [outsAt0_A m c t h0 h1]
  simp (disch := decide) only [↓ View.readCov_skip, ↓ View.readCov_cons_toLoadRect, ↓ View.readCov_fill]
  frame_out
  intro X hX
  simp (disch := decide) only [View.readCov_eq_canon', View.canon_cons_unit_lit', hX]
  pointwise [k0_pay9, k0_pay8, k0_pay7, k0_pay6, k0_pay5]
  rfl

/-- A middle point's: the one before's plus the step. -/
theorem acc_B (t : Fin cfg0.N) (h0 : ¬t.val % 11 = 0) (h1 : ¬t.val % 11 = 10) (r : Fin 512) (d : Fin 2048) :
    (outsAt0 m c t.val t.isLt).2.2 (ix2 r d) = (outsAt0 m c (t.val - 1) (by have := t.isLt; omega)).2.2 (ix2 r d)
      + stepV m c (outsAt0 m c (t.val - 1) (by have := t.isLt; omega)).2.1 t r d := by
  rw [outsAt0_B m c t h0 h1]
  frame_out
  simp only [read_unread_whole]
  simp (disch := decide) only [View.readCov_eq_canon', View.canon_cons_unit_lit']
  pointwise [k0_pay9, k0_pay8, k0_pay7, k0_pay6]
  rfl

/-- The last point's output block: the input plus the finished down-projection, normalised. -/
theorem out_C (t : Fin cfg0.N) (h0 : ¬t.val % 11 = 0) (h1 : t.val % 11 = 10) (r : Fin 512) (d : Fin 2048) :
    (outsAt0 m c t.val t.isLt).1 (ix2 r d)
      = nrm (fun d => aX m c ⟨t.val / 88, by have := lt_N t; omega⟩ ⟨t.val / 11 % 8 * 512 + r.val, by omega⟩ d + ((outsAt0 m c (t.val - 1) (by have := t.isLt; omega)).2.2 (ix2 r d)
          + stepV m c (outsAt0 m c (t.val - 1) (by have := t.isLt; omega)).2.1 t r d)) (aOG m c) d := by
  rw [outsAt0_C m c t h0 h1]
  frame_out
  simp only [read_unread_whole]
  simp (disch := decide) only [View.readCov_eq_canon', View.canon_cons_unit_lit']
  generalize hx : k0_pay9 (F := Ideal) _ _ _ _ _ _ _ _ _ _ _ _ = xx
  have hxx : ∀ r d, xx (ix2 r d) = (outsAt0 m c (t.val - 1) (by have := t.isLt; omega)).2.2 (ix2 r d)
      + stepV m c (outsAt0 m c (t.val - 1) (by have := t.isLt; omega)).2.1 t r d := fun r d => by
    rw [← hx]
    pointwise [k0_pay9, k0_pay8, k0_pay7, k0_pay6]
    rfl
  clear hx
  pointwise [k0_pay1]
  simp only [hxx, blk0, blk10]
  rfl

end Cert.Proof.Ffn

end
-- ==== Proof.FfnOut.lean ====
/-
  Hand-written, untrusted. The feed-forward kernel's result array: the points of a tile of rows added up, the tiles put
  together, and the array equal to the reference's.
-/
module

public import proofs.«01_k».proof.Proof.FfnKer
public import proofs.«01_k».proof.Proof.Gen.Kernel2Ideal.Value

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-! ## A tile's rows against the padded up-projection -/

/-- Scratch row `p` of tile `i`, from the fourteenth on, is padded position `i % 8 * 512 + p - 14`. -/
theorem rowsum (i : Fin 64) (p : Fin 528) (hp : 14 ≤ p.val) (f : Fin 11264) :
    ∑ k, XN m c i (ix2 p k) * aW m c k f = upP (aX m c) (aG m c) (aW m c) ⟨i.val / 8, by omega⟩ (i.val % 8 * 512 + p.val - 14) f := by
  unfold upP
  by_cases h : i.val % 8 = 0 ∧ p.val < 16
  · have h' : ¬(2 ≤ i.val % 8 * 512 + p.val - 14 ∧ i.val % 8 * 512 + p.val - 14 - 2 < 4096) := by omega
    rw [dif_neg h']
    refine Finset.sum_eq_zero fun k _ => ?_
    have : XN m c i (ix2 p k) = 0 := dif_pos h
    rw [this, zero_mul]
  · have h' : 2 ≤ i.val % 8 * 512 + p.val - 14 ∧ i.val % 8 * 512 + p.val - 14 - 2 < 4096 := by omega
    rw [dif_pos h']
    refine Finset.sum_congr rfl fun k _ => ?_
    have : XN m c i (ix2 p k) = nrm (aX m c ⟨i.val / 8, by omega⟩ ⟨i.val % 8 * 512 + p.val - 16, by omega⟩) (aG m c) k := dif_neg h
    rw [this]
    congr 3

/-- The convolution tile of the gate half. -/
theorem cvt_gate (t : Fin cfg0.N) (r x : Fin 512) (h : t.val % 11 * 512 + x.val < 11264) :
    cvt (XN m c (til t)) (iblk m c 3 t) (iblk m c 5 t) (iblk m c 7 t) r x
      = cnv (aX m c) (aG m c) (aW m c) (aCW m c) (aCB m c) ⟨t.val / 88, by have := lt_N t; omega⟩ (t.val / 11 % 8 * 512 + r.val) ⟨t.val % 11 * 512 + x.val, h⟩ := by
  have hb : (⟨(til t).val / 8, by have := (til t).isLt; omega⟩ : Fin 8) = ⟨t.val / 88, by have := lt_N t; omega⟩ := Fin.ext (by show t.val / 11 / 8 = t.val / 88; omega)
  have ht : (til t).val = t.val / 11 := rfl
  unfold cvt cnv
  simp only [blk3, blk5, blk7]
  rw [rowsum m c (til t) ⟨14 + r.val, by omega⟩ (by show 14 ≤ 14 + r.val; omega), rowsum m c (til t) ⟨15 + r.val, by omega⟩ (by show 14 ≤ 15 + r.val; omega), rowsum m c (til t) ⟨16 + r.val, by omega⟩ (by show 14 ≤ 16 + r.val; omega), hb]
  simp only [ht]
  rw [show t.val / 11 % 8 * 512 + (14 + r.val) - 14 = t.val / 11 % 8 * 512 + r.val by omega,
    show t.val / 11 % 8 * 512 + (15 + r.val) - 14 = 1 + (t.val / 11 % 8 * 512 + r.val) by omega,
    show t.val / 11 % 8 * 512 + (16 + r.val) - 14 = 2 + (t.val / 11 % 8 * 512 + r.val) by omega]

/-- The convolution tile of the value half. -/
theorem cvt_val (t : Fin cfg0.N) (r x : Fin 512) (h : 5632 + (t.val % 11 * 512 + x.val) < 11264) :
    cvt (XN m c (til t)) (iblk m c 4 t) (iblk m c 6 t) (iblk m c 8 t) r x
      = cnv (aX m c) (aG m c) (aW m c) (aCW m c) (aCB m c) ⟨t.val / 88, by have := lt_N t; omega⟩ (t.val / 11 % 8 * 512 + r.val) ⟨5632 + (t.val % 11 * 512 + x.val), h⟩ := by
  have hb : (⟨(til t).val / 8, by have := (til t).isLt; omega⟩ : Fin 8) = ⟨t.val / 88, by have := lt_N t; omega⟩ := Fin.ext (by show t.val / 11 / 8 = t.val / 88; omega)
  have ht : (til t).val = t.val / 11 := rfl
  unfold cvt cnv
  simp only [blk4, blk6, blk8]
  rw [rowsum m c (til t) ⟨14 + r.val, by omega⟩ (by show 14 ≤ 14 + r.val; omega), rowsum m c (til t) ⟨15 + r.val, by omega⟩ (by show 14 ≤ 15 + r.val; omega), rowsum m c (til t) ⟨16 + r.val, by omega⟩ (by show 14 ≤ 16 + r.val; omega), hb]
  simp only [ht]
  rw [show t.val / 11 % 8 * 512 + (14 + r.val) - 14 = t.val / 11 % 8 * 512 + r.val by omega,
    show t.val / 11 % 8 * 512 + (15 + r.val) - 14 = 1 + (t.val / 11 % 8 * 512 + r.val) by omega,
    show t.val / 11 % 8 * 512 + (16 + r.val) - 14 = 2 + (t.val / 11 % 8 * 512 + r.val) by omega]

/-- One hidden feature's term of the down-projection, at row `r` of tile `i` (zero past the last feature). -/
def pf (i : Fin 64) (r : Fin 512) (d : Fin 2048) (f : ℕ) : EReal :=
  if h : f < 5632 then act (aX m c) (aG m c) (aW m c) (aCW m c) (aCB m c) ⟨i.val / 8, by omega⟩ (i.val % 8 * 512 + r.val) ⟨f, h⟩ * aWD m c ⟨f, h⟩ d else 0

/-- A point's step: its 512 hidden features. -/
theorem step_eq (t : Fin cfg0.N) (r : Fin 512) (d : Fin 2048) :
    stepV m c (XN m c (til t)) t r d = ∑ x ∈ Finset.range 512, pf m c (til t) r d (t.val % 11 * 512 + x) := by
  rw [Finset.sum_range]
  unfold stepV
  refine Finset.sum_congr rfl fun x _ => ?_
  have h : t.val % 11 * 512 + x.val < 5632 := by omega
  have hb : (⟨(til t).val / 8, by have := (til t).isLt; omega⟩ : Fin 8) = ⟨t.val / 88, by have := lt_N t; omega⟩ := Fin.ext (by show t.val / 11 / 8 = t.val / 88; omega)
  rw [cvt_gate m c t r x (by omega), cvt_val m c t r x (by omega), blk9]
  unfold pf
  rw [dif_pos h, hb]
  rfl

/-! ## The points of a tile, added up -/

theorem acc_at (i : Fin 64) : ∀ (s : ℕ) (hs : s < 10),
    (outsAt0 m c (11 * i.val + s) (by have : cfg0.N = 704 := rfl; omega)).2.1 = XN m c i
    ∧ ∀ (r : Fin 512) (d : Fin 2048), (outsAt0 m c (11 * i.val + s) (by have : cfg0.N = 704 := rfl; omega)).2.2 (ix2 r d)
        = ∑ a ∈ Finset.range (s + 1), ∑ x ∈ Finset.range 512, pf m c i r d (a * 512 + x)
  | 0, hs => by
    have hN : cfg0.N = 704 := rfl
    let t : Fin cfg0.N := ⟨11 * i.val + 0, by omega⟩
    have h0 : t.val % 11 = 0 := by show (11 * i.val + 0) % 11 = 0; omega
    have ht : til t = i := Fin.ext (by show (11 * i.val + 0) / 11 = _; omega)
    have e1 := rows_A m c t h0 (by omega)
    rw [ht] at e1
    refine ⟨e1, fun r d => ?_⟩
    have e2 := acc_A m c t h0 (by omega) r d _ e1
    refine e2.trans ?_
    have e3 := step_eq m c t r d
    rw [ht, h0] at e3
    rw [e3, Finset.sum_range_one]
  | s + 1, hs => by
    have hN : cfg0.N = 704 := rfl
    obtain ⟨i1, i2⟩ := acc_at i s (by omega)
    let t : Fin cfg0.N := ⟨11 * i.val + (s + 1), by omega⟩
    have h0 : t.val % 11 = s + 1 := by show (11 * i.val + (s + 1)) % 11 = s + 1; omega
    have ht : til t = i := Fin.ext (by show (11 * i.val + (s + 1)) / 11 = _; omega)
    have e1 := rows_B m c t (by omega) (by omega)
    have e1' := e1.trans i1
    refine ⟨e1', fun r d => ?_⟩
    have e2 := acc_B m c t (by omega) (by omega) r d
    refine e2.trans ?_
    have e3 := step_eq m c t r d
    rw [ht, h0] at e3
    rw [Finset.sum_range_succ, ← e3]
    refine congrArg₂ (· + ·) (i2 r d) ?_
    exact congrArg (fun X => stepV m c X t r d) i1

/-- All the hidden features, in eleven points of 512. -/
theorem sum_pf (i : Fin 64) (r : Fin 512) (d : Fin 2048) :
    ∑ a ∈ Finset.range 11, ∑ x ∈ Finset.range 512, pf m c i r d (a * 512 + x)
      = ∑ f, act (aX m c) (aG m c) (aW m c) (aCW m c) (aCB m c) ⟨i.val / 8, by omega⟩ (i.val % 8 * 512 + r.val) f * aWD m c f d := by
  rw [← Finset.sum_range_mul_split 11 512 (pf m c i r d), Finset.sum_range]
  exact Finset.sum_congr rfl fun f _ => dif_pos f.isLt

/-- The output block of a tile's last point. -/
theorem out_at (t : Fin cfg0.N) (h1 : t.val % 11 = 10) (r : Fin 512) (d : Fin 2048) :
    (outsAt0 m c t.val t.isLt).1 (ix2 r d)
      = nrm (hid (aX m c) (aG m c) (aW m c) (aCW m c) (aCB m c) (aWD m c) ⟨t.val / 88, by have := lt_N t; omega⟩ ⟨t.val / 11 % 8 * 512 + r.val, by omega⟩) (aOG m c) d := by
  have hN := lt_N t
  rw [out_C m c t (by omega) h1 r d]
  obtain ⟨i1, i2⟩ := acc_at m c (til t) 9 (by omega)
  have hv : 11 * (til t).val + 9 = t.val - 1 := by show 11 * (t.val / 11) + 9 = _; omega
  simp only [hv] at i1 i2
  congr 1
  funext d
  unfold hid
  refine congrArg (aX m c _ _ d + ·) ?_
  rw [i2 r d, i1, step_eq, h1, ← Finset.sum_range_succ (fun a => ∑ x ∈ Finset.range 512, pf m c (til t) r d (a * 512 + x)) 10, sum_pf]
  have hb : (⟨(til t).val / 8, by have := (til t).isLt; omega⟩ : Fin 8) = ⟨t.val / 88, by omega⟩ := Fin.ext (by show t.val / 11 / 8 = t.val / 88; omega)
  rw [hb]
  rfl

/-! ## The array -/

/-- The result array: each row the final norm of the layer's output there. -/
def G : FVec Ideal S32768x2048 .f32 := fun y =>
  nrm (hid (aX m c) (aG m c) (aW m c) (aCW m c) (aCB m c) (aWD m c) ⟨(y 0 : Fin 32768).val / 4096, by have : (y 0 : Fin 32768).val < 32768 := (y 0).isLt; omega⟩
    ⟨(y 0 : Fin 32768).val % 4096, Nat.mod_lt _ (by omega)⟩) (aOG m c) (y 1 : Fin 2048)

theorem final (c : Dev nD) : (dats m 0 c).arrAt 11 cfg0.N = G m c := by
  refine (dats m 0 c).arrAt_eq_of_covers 11 _ (by decide +kernel) fun t hf y => ?_
  blk_simp
  rw [after0_11]
  have h1 := (flush0_11 t).mp hf
  have hN := lt_N t
  idx_vars y
  refine (out_at m c t h1 y0 y1).trans ?_
  have e : ∀ (a : Fin 32768), a.val = t.val / 11 * 512 + y0.val →
      nrm (hid (aX m c) (aG m c) (aW m c) (aCW m c) (aCB m c) (aWD m c) ⟨t.val / 88, by omega⟩ ⟨t.val / 11 % 8 * 512 + y0.val, by omega⟩) (aOG m c) y1
      = G m c (ix2 a y1) := by
    intro a ha
    have hb : (⟨t.val / 88, by omega⟩ : Fin 8) = ⟨a.val / 4096, by omega⟩ := Fin.ext (by show t.val / 88 = a.val / 4096; omega)
    have hs : (⟨t.val / 11 % 8 * 512 + y0.val, by omega⟩ : Fin 4096) = ⟨a.val % 4096, by omega⟩ := Fin.ext (by show t.val / 11 % 8 * 512 + y0.val = a.val % 4096; omega)
    rw [hb, hs]
    rfl
  refine (e ⟨t.val / 11 * 512 + y0.val, by omega⟩ rfl).trans ?_
  congr 1
  blk_ext [idx t]

end Cert.Proof.Ffn

end
-- ==== Proof.FfnClaim.lean ====
/-
  Hand-written, untrusted. The last feed-forward layer's value claim: the kernel's array and the reference's are one function of
  the arguments.
-/
module

public import proofs.«01_k».proof.Defs
public import proofs.«01_k».proof.Proof.FfnOut
public import proofs.«01_k».proof.Proof.FfnRef
public import proofs.«01_k».proof.Proof.Gen.Kernel2Ideal.Value
public import proofs.«01_k».proof.Proof.Gen.Reference2Ideal.Run
public import Idealize.ShloMosaic.Lib.Claim

@[expose] public section

set_option maxRecDepth 16384

noncomputable section

namespace Cert.Proof.Ffn

open Idealize.ShloMosaic Idealize.ShloMosaic.TcCoe Idealize.SL.Sem

/-- The reference's term over the kernel's arguments is the kernel's array. -/
theorem ref_eq (m : (ℓ : Loc Cert.Kernel2Ideal.nD Cert.Kernel2Ideal.τ Cert.Kernel2Ideal.sig) → Buf (Elt Ideal) ℓ) (c : Dev Cert.Kernel2Ideal.nD) :
    refT (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
        (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3))
        (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5))
        (m ((c : Thread Cert.Kernel2Ideal.nD Cert.Kernel2Ideal.τ).loc Cert.Kernel2Ideal.main_arg6))
      = G m c := by
  funext y
  idx_vars y
  exact refT_at _ _ _ _ _ _ _ y0 y1

theorem algebraic : Cert.algebraic_Kernel2Ideal_Reference2Ideal (hKernel2Ideal := Cert.Kernel2Ideal.Gen.facts) (hReference2Ideal := Cert.Reference2Ideal.Gen.facts) := by
  intro m g m' g' hpre hag
  refine ⟨fun c => G m c, ?_, ?_⟩
  · refine (θ_run _ _ _).mono (fun r h c => ⟨(h c).1.trans (final m c), (h c).2⟩) (Cert.Kernel2Ideal.Value.run_blocks m g)
  · refine (θ_run _ _ _).mono (fun r h c => ⟨(h c).1.trans ?_, (h c).2⟩) (Cert.Reference2Ideal.Value.run m' g')
    refine Eq.trans (res_eq m' c) ?_
    obtain ⟨h0, h1, h2, h3, h4, h5, h6⟩ := hag c
    rw [h0, h1, h2, h3, h4, h5, h6]
    exact ref_eq m c

end Cert.Proof.Ffn

end
-- ==== Proof.FfpKer.lean ====
/-
  Hand-written, untrusted. The feed-forward kernel as the first three layers call it, without the final norm: what a grid point leaves in its output block and in
  the two buffers it carries (the normalised rows, the accumulated down-projection), and the last point's block as
  formulas over the extended reals.
-/
module

public import proofs.«01_k».proof.Proof.FfnKer
public import proofs.«01_k».proof.Proof.Gen.Kernel3Ideal.Frame
public import Idealize.ShloMosaic.Lib.Pointwise
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Proof.Ffp

open Idealize.ShloMosaic Idealize.ShloMosaic.TcCoe Idealize.SL.Sem
open Cert.Kernel3Ideal Cert.Kernel3Ideal.Gen
open Cert.Proof.Ffn (nrm upv upP cnv act hid sel_at)

variable (m : (ℓ : Loc nD τ sig) → Buf (Elt Ideal) ℓ) (c : Dev nD)

/-! ## The arguments as functions of their coordinates -/

/-- The input, by sequence, position and feature. -/
abbrev aX (b : Fin 8) (s : Fin 4096) (d : Fin 2048) : EReal := (m ((c : Thread nD τ).loc main_arg0) : FVec Ideal S8x4096x2048 .f32) (ix3 b s d)
/-- The input gain. -/
abbrev aG (d : Fin 2048) : EReal := (m ((c : Thread nD τ).loc main_arg1) : FVec Ideal S2048 .f32) (ix1 d)
/-- The up-projection. -/
abbrev aW (d : Fin 2048) (f : Fin 11264) : EReal := (m ((c : Thread nD τ).loc main_arg2) : FVec Ideal S2048x11264 .f32) (ix2 d f)
/-- The convolution's weights. -/
abbrev aCW (a : Fin 3) (f : Fin 11264) : EReal := (m ((c : Thread nD τ).loc main_arg3) : FVec Ideal S3x11264 .f32) (ix2 a f)
/-- The convolution's bias. -/
abbrev aCB (f : Fin 11264) : EReal := (m ((c : Thread nD τ).loc main_arg4) : FVec Ideal S11264 .f32) (ix1 f)
/-- The down-projection. -/
abbrev aWD (f : Fin 5632) (d : Fin 2048) : EReal := (m ((c : Thread nD τ).loc main_arg5) : FVec Ideal S5632x2048 .f32) (ix2 f d)
/-! ## The blocks a point reads -/

theorem lt_N (t : Fin cfg0.N) : t.val < 704 := t.isLt

theorem idx : ∀ t : Fin cfg0.N, win0_0.index t = ![t.val / 11, 0] ∧ win0_1.index t = ![t.val / 11 * 32 - 1, 0] ∧ win0_2.index t = ![0, 0]
    ∧ win0_3.index t = ![0, t.val % 11] ∧ win0_4.index t = ![0, 11 + t.val % 11] ∧ win0_5.index t = ![0, t.val % 11]
    ∧ win0_6.index t = ![0, 11 + t.val % 11] ∧ win0_7.index t = ![0, t.val % 11] ∧ win0_8.index t = ![0, 11 + t.val % 11]
    ∧ win0_9.index t = ![t.val % 11, 0] ∧ win0_10.index t = ![0, 0] ∧ win0_11.index t = ![t.val / 11, 0] := (by decide +kernel : ∀ t : Fin grid0.N, _)

theorem blk0 (t : Fin cfg0.N) (r : Fin 512) (d : Fin 2048) :
    (iblk m c 0 t : FVec Ideal S512x2048 .f32) (ix2 r d) = aX m c ⟨t.val / 88, by have := lt_N t; omega⟩ ⟨t.val / 11 % 8 * 512 + r.val, by omega⟩ d := by
  have := lt_N t
  blk_simp [iblk, idx t]
  entry_read
  pointwise
  blk_ext [idx t]

theorem blk1 (t : Fin cfg0.N) (ht : t.val / 11 % 8 ≠ 0) (r : Fin 16) (d : Fin 2048) :
    (iblk m c 1 t : FVec Ideal S16x2048 .f32) (ix2 r d) = aX m c ⟨t.val / 88, by have := lt_N t; omega⟩ ⟨t.val / 11 % 8 * 512 + r.val - 16, by omega⟩ d := by
  have := lt_N t
  blk_simp [iblk, idx t]
  entry_read
  pointwise
  blk_ext [idx t]

theorem blk2 (t : Fin cfg0.N) (d : Fin 2048) : (iblk m c 2 t : FVec Ideal S1x2048 .f32) (ix2 0 d) = aG m c d := by
  have := lt_N t
  blk_simp [iblk, idx t]
  entry_read
  pointwise
  blk_ext [idx t]

theorem blk3 (t : Fin cfg0.N) (k : Fin 2048) (x : Fin 512) :
    (iblk m c 3 t : FVec Ideal S2048x512 .bf16) (ix2 k x) = aW m c k ⟨t.val % 11 * 512 + x.val, by omega⟩ := by
  have := lt_N t
  blk_simp [iblk, idx t]
  entry_read
  pointwise
  blk_ext [idx t]

theorem blk4 (t : Fin cfg0.N) (k : Fin 2048) (x : Fin 512) :
    (iblk m c 4 t : FVec Ideal S2048x512 .bf16) (ix2 k x) = aW m c k ⟨5632 + (t.val % 11 * 512 + x.val), by omega⟩ := by
  have := lt_N t
  blk_simp [iblk, idx t]
  entry_read
  pointwise
  blk_ext [idx t]

theorem blk5 (t : Fin cfg0.N) (a : Fin 3) (x : Fin 512) :
    (iblk m c 5 t : FVec Ideal S3x512 .f32) (ix2 a x) = aCW m c a ⟨t.val % 11 * 512 + x.val, by omega⟩ := by
  have := lt_N t
  blk_ext [iblk, V, idx t]

theorem blk6 (t : Fin cfg0.N) (a : Fin 3) (x : Fin 512) :
    (iblk m c 6 t : FVec Ideal S3x512 .f32) (ix2 a x) = aCW m c a ⟨5632 + (t.val % 11 * 512 + x.val), by omega⟩ := by
  have := lt_N t
  blk_ext [iblk, V, idx t]

theorem blk7 (t : Fin cfg0.N) (x : Fin 512) :
    (iblk m c 7 t : FVec Ideal S1x512 .f32) (ix2 0 x) = aCB m c ⟨t.val % 11 * 512 + x.val, by omega⟩ := by
  have := lt_N t
  blk_simp [iblk, idx t]
  entry_read
  pointwise
  blk_ext [idx t]

theorem blk8 (t : Fin cfg0.N) (x : Fin 512) :
    (iblk m c 8 t : FVec Ideal S1x512 .f32) (ix2 0 x) = aCB m c ⟨5632 + (t.val % 11 * 512 + x.val), by omega⟩ := by
  have := lt_N t
  blk_simp [iblk, idx t]
  entry_read
  pointwise
  blk_ext [idx t]

theorem blk9 (t : Fin cfg0.N) (x : Fin 512) (d : Fin 2048) :
    (iblk m c 9 t : FVec Ideal S512x2048 .bf16) (ix2 x d) = aWD m c ⟨t.val % 11 * 512 + x.val, by omega⟩ d := by
  have := lt_N t
  blk_simp [iblk, idx t]
  entry_read
  pointwise
  blk_ext [idx t]

/-! ## One point's step -/

/-- A tile of the convolution at the rows after the sixteen of the halo, from the normalised rows and one half's blocks. -/
def cvt (xn : FVec Ideal S528x2048 .bf16) (w : FVec Ideal S2048x512 .bf16) (cw : FVec Ideal S3x512 .f32) (b : FVec Ideal S1x512 .f32)
    (r x : Fin 512) : EReal :=
  b (ix2 0 x) + cw (ix2 0 x) * (∑ k, xn (ix2 ⟨14 + r.val, by omega⟩ k) * w (ix2 k x))
    + cw (ix2 1 x) * (∑ k, xn (ix2 ⟨15 + r.val, by omega⟩ k) * w (ix2 k x))
    + cw (ix2 2 x) * (∑ k, xn (ix2 ⟨16 + r.val, by omega⟩ k) * w (ix2 k x))

/-- What a point adds to the accumulated down-projection. -/
def stepV (xn : FVec Ideal S528x2048 .bf16) (t : Fin cfg0.N) (r : Fin 512) (d : Fin 2048) : EReal :=
  ∑ x, cvt xn (iblk m c 3 t) (iblk m c 5 t) (iblk m c 7 t) r x * Ideal.logistic (cvt xn (iblk m c 3 t) (iblk m c 5 t) (iblk m c 7 t) r x)
     * cvt xn (iblk m c 4 t) (iblk m c 6 t) (iblk m c 8 t) r x * iblk m c 9 t (ix2 x d)

theorem coord0 : ∀ t : Fin cfg0.N, (grid0.coords t 0).val = t.val / 11 := (by decide +kernel : ∀ t : Fin grid0.N, (grid0.coords t 0).val = t.val / 11)

/-- The normalised rows of tile `i`, its sixteen halo rows first: zeros at the start of a sequence. -/
def XN (i : Fin 64) : FVec Ideal S528x2048 .bf16 := fun y =>
  if h : i.val % 8 = 0 ∧ (y 0 : Fin 528).val < 16 then 0
  else nrm (aX m c ⟨i.val / 8, by omega⟩ ⟨i.val % 8 * 512 + (y 0 : Fin 528).val - 16, by have : (y 0 : Fin 528).val < 528 := (y 0).isLt; omega⟩) (aG m c) (y 1 : Fin 2048)

/-- The tile of rows a point works on. -/
def til (t : Fin cfg0.N) : Fin 64 := ⟨t.val / 11, by have := lt_N t; omega⟩

/-- The first point of a tile leaves the normalised rows in the carried buffer. -/
theorem rows_A (t : Fin cfg0.N) (h0 : t.val % 11 = 0) (h1 : ¬t.val % 11 = 10) :
    (outsAt0 m c t.val t.isLt).2.1 = XN m c (til t) := by
  have htN := lt_N t
  rw [outsAt0_A m c t h0 h1]
  frame_out
  clear h0 h1
  have hs := sel_at (grid0.coords t 0)
  rw [coord0] at hs
  funext y
  idx_vars y
  canon_tiles x h using (by
    by_cases hr : y0.val < 16
    · refine ⟨_, List.mem_cons_self, (Rect.mem_set_unit (inb := inb_S528x2048_S16x2048_0_0)).2 fun a => ?_⟩
      match a with
      | ⟨0, _⟩ => exact ⟨Nat.zero_le _, by show y0.val < 0 + 16; omega⟩
      | ⟨1, _⟩ => exact ⟨Nat.zero_le _, by show y1.val < 0 + 2048; omega⟩
    · refine ⟨_, List.mem_cons_of_mem _ List.mem_cons_self, (Rect.mem_set_unit (inb := inb_S528x2048_S512x2048_16_0)).2 fun a => ?_⟩
      match a with
      | ⟨0, _⟩ => exact ⟨Nat.not_lt.1 hr, by show y0.val < 16 + 512; omega⟩
      | ⟨1, _⟩ => exact ⟨Nat.zero_le _, by show y1.val < 0 + 2048; omega⟩)
  case piece0 =>
    pointwise [k0_pay2, k0_pay3, k0_pay4, h0, h1]
    idx_vars x
    have e0 : y0.val = x0.val := h0
    have e1 : y1 = x1 := Fin.ext h1
    subst e1
    rw [coord0, hs]
    show _ = if h : t.val / 11 % 8 = 0 ∧ y0.val < 16 then _ else _
    by_cases ht : t.val / 11 % 8 = 0
    · rw [if_pos ht, dif_pos ⟨ht, by omega⟩]; rfl
    · rw [if_neg ht, dif_neg (fun h => ht h.1)]
      simp only [blk1 m c t ht, blk2]
      refine Eq.trans (b := nrm (aX m c ⟨t.val / 88, by omega⟩ ⟨t.val / 11 % 8 * 512 + x0.val - 16, by omega⟩) (aG m c) y1) rfl ?_
      congr 2
      · exact Fin.ext (by show t.val / 88 = t.val / 11 / 8; omega)
      · exact Fin.ext (by show t.val / 11 % 8 * 512 + x0.val - 16 = t.val / 11 % 8 * 512 + y0.val - 16; omega)
  case piece1 =>
    pointwise [k0_pay2, k0_pay3, k0_pay4, h0, h1]
    idx_vars x
    have e0 : y0.val = 16 + x0.val := h0
    have e1 : y1 = x1 := Fin.ext h1
    subst e1
    show _ = if h : t.val / 11 % 8 = 0 ∧ y0.val < 16 then _ else _
    rw [dif_neg (fun h => by omega)]
    simp only [blk0, blk2]
    refine Eq.trans (b := nrm (aX m c ⟨t.val / 88, by omega⟩ ⟨t.val / 11 % 8 * 512 + x0.val, by omega⟩) (aG m c) y1) rfl ?_
    congr 2
    · exact Fin.ext (by show t.val / 88 = t.val / 11 / 8; omega)
    · exact Fin.ext (by show t.val / 11 % 8 * 512 + x0.val = t.val / 11 % 8 * 512 + y0.val - 16; omega)

/-- The other points of a tile keep them. -/
theorem rows_B (t : Fin cfg0.N) (h0 : ¬t.val % 11 = 0) (h1 : ¬t.val % 11 = 10) :
    (outsAt0 m c t.val t.isLt).2.1 = (outsAt0 m c (t.val - 1) (by have := t.isLt; omega)).2.1 := by
  rw [outsAt0_B m c t h0 h1]
  rfl

/-- The first point's accumulated down-projection. -/
theorem acc_A (t : Fin cfg0.N) (h0 : t.val % 11 = 0) (h1 : ¬t.val % 11 = 10) (r : Fin 512) (d : Fin 2048) : ∀ (X : FVec Ideal S528x2048 .bf16)
    (hX : (outsAt0 m c t.val t.isLt).2.1 = X), (outsAt0 m c t.val t.isLt).2.2 (ix2 r d) = stepV m c X t r d := by
  rw [outsAt0_A m c t h0 h1]
  simp (disch := decide) only [↓ View.readCov_skip, ↓ View.readCov_cons_toLoadRect, ↓ View.readCov_fill]
  frame_out
  intro X hX
  simp (disch := decide) only [View.readCov_eq_canon', View.canon_cons_unit_lit', hX]
  pointwise [k0_pay9, k0_pay8, k0_pay7, k0_pay6, k0_pay5]
  rfl

/-- A middle point's: the one before's plus the step. -/
theorem acc_B (t : Fin cfg0.N) (h0 : ¬t.val % 11 = 0) (h1 : ¬t.val % 11 = 10) (r : Fin 512) (d : Fin 2048) :
    (outsAt0 m c t.val t.isLt).2.2 (ix2 r d) = (outsAt0 m c (t.val - 1) (by have := t.isLt; omega)).2.2 (ix2 r d)
      + stepV m c (outsAt0 m c (t.val - 1) (by have := t.isLt; omega)).2.1 t r d := by
  rw [outsAt0_B m c t h0 h1]
  frame_out
  simp only [read_unread_whole]
  simp (disch := decide) only [View.readCov_eq_canon', View.canon_cons_unit_lit']
  pointwise [k0_pay9, k0_pay8, k0_pay7, k0_pay6]
  rfl

/-- The last point's output block: the input plus the finished down-projection, as it is. -/
theorem out_C (t : Fin cfg0.N) (h0 : ¬t.val % 11 = 0) (h1 : t.val % 11 = 10) (r : Fin 512) (d : Fin 2048) :
    (outsAt0 m c t.val t.isLt).1 (ix2 r d)
      = aX m c ⟨t.val / 88, by have := lt_N t; omega⟩ ⟨t.val / 11 % 8 * 512 + r.val, by omega⟩ d + ((outsAt0 m c (t.val - 1) (by have := t.isLt; omega)).2.2 (ix2 r d)
          + stepV m c (outsAt0 m c (t.val - 1) (by have := t.isLt; omega)).2.1 t r d) := by
  rw [outsAt0_C m c t h0 h1]
  frame_out
  simp only [read_unread_whole]
  simp (disch := decide) only [View.readCov_eq_canon', View.canon_cons_unit_lit']
  generalize hx : k0_pay9 (F := Ideal) _ _ _ _ _ _ _ _ _ _ _ _ = xx
  have hxx : ∀ r d, xx (ix2 r d) = (outsAt0 m c (t.val - 1) (by have := t.isLt; omega)).2.2 (ix2 r d)
      + stepV m c (outsAt0 m c (t.val - 1) (by have := t.isLt; omega)).2.1 t r d := fun r d => by
    rw [← hx]
    pointwise [k0_pay9, k0_pay8, k0_pay7, k0_pay6]
    rfl
  clear hx
  pointwise [k0_pay1]
  simp only [hxx, blk0]

end Cert.Proof.Ffp

end
-- ==== Proof.FfpOut.lean ====
/-
  Hand-written, untrusted. The feed-forward kernel's result array, without the final norm: the points of a tile of rows added up, the tiles put
  together, and the array equal to the reference's.
-/
module

public import proofs.«01_k».proof.Proof.FfpKer
public import proofs.«01_k».proof.Proof.Gen.Kernel3Ideal.Value

@[expose] public section

set_option maxRecDepth 16384

noncomputable section

namespace Cert.Proof.Ffp

open Idealize.ShloMosaic Idealize.ShloMosaic.TcCoe Idealize.SL.Sem
open Cert.Kernel3Ideal Cert.Kernel3Ideal.Gen
open Cert.Proof.Ffn (nrm upv upP cnv act hid)

variable (m : (ℓ : Loc nD τ sig) → Buf (Elt Ideal) ℓ) (c : Dev nD)

/-! ## A tile's rows against the padded up-projection -/

/-- Scratch row `p` of tile `i`, from the fourteenth on, is padded position `i % 8 * 512 + p - 14`. -/
theorem rowsum (i : Fin 64) (p : Fin 528) (hp : 14 ≤ p.val) (f : Fin 11264) :
    ∑ k, XN m c i (ix2 p k) * aW m c k f = upP (aX m c) (aG m c) (aW m c) ⟨i.val / 8, by omega⟩ (i.val % 8 * 512 + p.val - 14) f := by
  unfold upP
  by_cases h : i.val % 8 = 0 ∧ p.val < 16
  · have h' : ¬(2 ≤ i.val % 8 * 512 + p.val - 14 ∧ i.val % 8 * 512 + p.val - 14 - 2 < 4096) := by omega
    rw [dif_neg h']
    refine Finset.sum_eq_zero fun k _ => ?_
    have : XN m c i (ix2 p k) = 0 := dif_pos h
    rw [this, zero_mul]
  · have h' : 2 ≤ i.val % 8 * 512 + p.val - 14 ∧ i.val % 8 * 512 + p.val - 14 - 2 < 4096 := by omega
    rw [dif_pos h']
    refine Finset.sum_congr rfl fun k _ => ?_
    have : XN m c i (ix2 p k) = nrm (aX m c ⟨i.val / 8, by omega⟩ ⟨i.val % 8 * 512 + p.val - 16, by omega⟩) (aG m c) k := dif_neg h
    rw [this]
    congr 3

/-- The convolution tile of the gate half. -/
theorem cvt_gate (t : Fin cfg0.N) (r x : Fin 512) (h : t.val % 11 * 512 + x.val < 11264) :
    cvt (XN m c (til t)) (iblk m c 3 t) (iblk m c 5 t) (iblk m c 7 t) r x
      = cnv (aX m c) (aG m c) (aW m c) (aCW m c) (aCB m c) ⟨t.val / 88, by have := lt_N t; omega⟩ (t.val / 11 % 8 * 512 + r.val) ⟨t.val % 11 * 512 + x.val, h⟩ := by
  have hb : (⟨(til t).val / 8, by have := (til t).isLt; omega⟩ : Fin 8) = ⟨t.val / 88, by have := lt_N t; omega⟩ := Fin.ext (by show t.val / 11 / 8 = t.val / 88; omega)
  have ht : (til t).val = t.val / 11 := rfl
  unfold cvt cnv
  simp only [blk3, blk5, blk7]
  rw [rowsum m c (til t) ⟨14 + r.val, by omega⟩ (by show 14 ≤ 14 + r.val; omega), rowsum m c (til t) ⟨15 + r.val, by omega⟩ (by show 14 ≤ 15 + r.val; omega), rowsum m c (til t) ⟨16 + r.val, by omega⟩ (by show 14 ≤ 16 + r.val; omega), hb]
  simp only [ht]
  rw [show t.val / 11 % 8 * 512 + (14 + r.val) - 14 = t.val / 11 % 8 * 512 + r.val by omega,
    show t.val / 11 % 8 * 512 + (15 + r.val) - 14 = 1 + (t.val / 11 % 8 * 512 + r.val) by omega,
    show t.val / 11 % 8 * 512 + (16 + r.val) - 14 = 2 + (t.val / 11 % 8 * 512 + r.val) by omega]

/-- The convolution tile of the value half. -/
theorem cvt_val (t : Fin cfg0.N) (r x : Fin 512) (h : 5632 + (t.val % 11 * 512 + x.val) < 11264) :
    cvt (XN m c (til t)) (iblk m c 4 t) (iblk m c 6 t) (iblk m c 8 t) r x
      = cnv (aX m c) (aG m c) (aW m c) (aCW m c) (aCB m c) ⟨t.val / 88, by have := lt_N t; omega⟩ (t.val / 11 % 8 * 512 + r.val) ⟨5632 + (t.val % 11 * 512 + x.val), h⟩ := by
  have hb : (⟨(til t).val / 8, by have := (til t).isLt; omega⟩ : Fin 8) = ⟨t.val / 88, by have := lt_N t; omega⟩ := Fin.ext (by show t.val / 11 / 8 = t.val / 88; omega)
  have ht : (til t).val = t.val / 11 := rfl
  unfold cvt cnv
  simp only [blk4, blk6, blk8]
  rw [rowsum m c (til t) ⟨14 + r.val, by omega⟩ (by show 14 ≤ 14 + r.val; omega), rowsum m c (til t) ⟨15 + r.val, by omega⟩ (by show 14 ≤ 15 + r.val; omega), rowsum m c (til t) ⟨16 + r.val, by omega⟩ (by show 14 ≤ 16 + r.val; omega), hb]
  simp only [ht]
  rw [show t.val / 11 % 8 * 512 + (14 + r.val) - 14 = t.val / 11 % 8 * 512 + r.val by omega,
    show t.val / 11 % 8 * 512 + (15 + r.val) - 14 = 1 + (t.val / 11 % 8 * 512 + r.val) by omega,
    show t.val / 11 % 8 * 512 + (16 + r.val) - 14 = 2 + (t.val / 11 % 8 * 512 + r.val) by omega]

/-- One hidden feature's term of the down-projection, at row `r` of tile `i` (zero past the last feature). -/
def pf (i : Fin 64) (r : Fin 512) (d : Fin 2048) (f : ℕ) : EReal :=
  if h : f < 5632 then act (aX m c) (aG m c) (aW m c) (aCW m c) (aCB m c) ⟨i.val / 8, by omega⟩ (i.val % 8 * 512 + r.val) ⟨f, h⟩ * aWD m c ⟨f, h⟩ d else 0

/-- A point's step: its 512 hidden features. -/
theorem step_eq (t : Fin cfg0.N) (r : Fin 512) (d : Fin 2048) :
    stepV m c (XN m c (til t)) t r d = ∑ x ∈ Finset.range 512, pf m c (til t) r d (t.val % 11 * 512 + x) := by
  rw [Finset.sum_range]
  unfold stepV
  refine Finset.sum_congr rfl fun x _ => ?_
  have h : t.val % 11 * 512 + x.val < 5632 := by omega
  have hb : (⟨(til t).val / 8, by have := (til t).isLt; omega⟩ : Fin 8) = ⟨t.val / 88, by have := lt_N t; omega⟩ := Fin.ext (by show t.val / 11 / 8 = t.val / 88; omega)
  rw [cvt_gate m c t r x (by omega), cvt_val m c t r x (by omega), blk9]
  unfold pf
  rw [dif_pos h, hb]
  rfl

/-! ## The points of a tile, added up -/

theorem acc_at (i : Fin 64) : ∀ (s : ℕ) (hs : s < 10),
    (outsAt0 m c (11 * i.val + s) (by have : cfg0.N = 704 := rfl; omega)).2.1 = XN m c i
    ∧ ∀ (r : Fin 512) (d : Fin 2048), (outsAt0 m c (11 * i.val + s) (by have : cfg0.N = 704 := rfl; omega)).2.2 (ix2 r d)
        = ∑ a ∈ Finset.range (s + 1), ∑ x ∈ Finset.range 512, pf m c i r d (a * 512 + x)
  | 0, hs => by
    have hN : cfg0.N = 704 := rfl
    let t : Fin cfg0.N := ⟨11 * i.val + 0, by omega⟩
    have h0 : t.val % 11 = 0 := by show (11 * i.val + 0) % 11 = 0; omega
    have ht : til t = i := Fin.ext (by show (11 * i.val + 0) / 11 = _; omega)
    have e1 := rows_A m c t h0 (by omega)
    rw [ht] at e1
    refine ⟨e1, fun r d => ?_⟩
    have e2 := acc_A m c t h0 (by omega) r d _ e1
    refine e2.trans ?_
    have e3 := step_eq m c t r d
    rw [ht, h0] at e3
    rw [e3, Finset.sum_range_one]
  | s + 1, hs => by
    have hN : cfg0.N = 704 := rfl
    obtain ⟨i1, i2⟩ := acc_at i s (by omega)
    let t : Fin cfg0.N := ⟨11 * i.val + (s + 1), by omega⟩
    have h0 : t.val % 11 = s + 1 := by show (11 * i.val + (s + 1)) % 11 = s + 1; omega
    have ht : til t = i := Fin.ext (by show (11 * i.val + (s + 1)) / 11 = _; omega)
    have e1 := rows_B m c t (by omega) (by omega)
    have e1' := e1.trans i1
    refine ⟨e1', fun r d => ?_⟩
    have e2 := acc_B m c t (by omega) (by omega) r d
    refine e2.trans ?_
    have e3 := step_eq m c t r d
    rw [ht, h0] at e3
    rw [Finset.sum_range_succ, ← e3]
    refine congrArg₂ (· + ·) (i2 r d) ?_
    exact congrArg (fun X => stepV m c X t r d) i1

/-- All the hidden features, in eleven points of 512. -/
theorem sum_pf (i : Fin 64) (r : Fin 512) (d : Fin 2048) :
    ∑ a ∈ Finset.range 11, ∑ x ∈ Finset.range 512, pf m c i r d (a * 512 + x)
      = ∑ f, act (aX m c) (aG m c) (aW m c) (aCW m c) (aCB m c) ⟨i.val / 8, by omega⟩ (i.val % 8 * 512 + r.val) f * aWD m c f d := by
  rw [← Finset.sum_range_mul_split 11 512 (pf m c i r d), Finset.sum_range]
  exact Finset.sum_congr rfl fun f _ => dif_pos f.isLt

/-- The output block of a tile's last point. -/
theorem out_at (t : Fin cfg0.N) (h1 : t.val % 11 = 10) (r : Fin 512) (d : Fin 2048) :
    (outsAt0 m c t.val t.isLt).1 (ix2 r d)
      = hid (aX m c) (aG m c) (aW m c) (aCW m c) (aCB m c) (aWD m c) ⟨t.val / 88, by have := lt_N t; omega⟩ ⟨t.val / 11 % 8 * 512 + r.val, by omega⟩ d := by
  have hN := lt_N t
  rw [out_C m c t (by omega) h1 r d]
  obtain ⟨i1, i2⟩ := acc_at m c (til t) 9 (by omega)
  have hv : 11 * (til t).val + 9 = t.val - 1 := by show 11 * (t.val / 11) + 9 = _; omega
  simp only [hv] at i1 i2
  unfold hid
  refine congrArg (aX m c _ _ d + ·) ?_
  rw [i2 r d, i1, step_eq, h1, ← Finset.sum_range_succ (fun a => ∑ x ∈ Finset.range 512, pf m c (til t) r d (a * 512 + x)) 10, sum_pf]
  have hb : (⟨(til t).val / 8, by have := (til t).isLt; omega⟩ : Fin 8) = ⟨t.val / 88, by omega⟩ := Fin.ext (by show t.val / 11 / 8 = t.val / 88; omega)
  rw [hb]
  rfl

/-! ## The array -/

/-- The result array: each row the layer's output there. -/
def G : FVec Ideal S32768x2048 .f32 := fun y =>
  hid (aX m c) (aG m c) (aW m c) (aCW m c) (aCB m c) (aWD m c) ⟨(y 0 : Fin 32768).val / 4096, by have : (y 0 : Fin 32768).val < 32768 := (y 0).isLt; omega⟩
    ⟨(y 0 : Fin 32768).val % 4096, Nat.mod_lt _ (by omega)⟩ (y 1 : Fin 2048)

theorem final (c : Dev nD) : (dats m 0 c).arrAt 11 cfg0.N = G m c := by
  refine (dats m 0 c).arrAt_eq_of_covers 11 _ (by decide +kernel) fun t hf y => ?_
  blk_simp
  rw [after0_11]
  have h1 := (flush0_11 t).mp hf
  have hN := lt_N t
  idx_vars y
  refine (out_at m c t h1 y0 y1).trans ?_
  have e : ∀ (a : Fin 32768), a.val = t.val / 11 * 512 + y0.val →
      hid (aX m c) (aG m c) (aW m c) (aCW m c) (aCB m c) (aWD m c) ⟨t.val / 88, by omega⟩ ⟨t.val / 11 % 8 * 512 + y0.val, by omega⟩ y1
      = G m c (ix2 a y1) := by
    intro a ha
    have hb : (⟨t.val / 88, by omega⟩ : Fin 8) = ⟨a.val / 4096, by omega⟩ := Fin.ext (by show t.val / 88 = a.val / 4096; omega)
    have hs : (⟨t.val / 11 % 8 * 512 + y0.val, by omega⟩ : Fin 4096) = ⟨a.val % 4096, by omega⟩ := Fin.ext (by show t.val / 11 % 8 * 512 + y0.val = a.val % 4096; omega)
    rw [hb, hs]
    rfl
  refine (e ⟨t.val / 11 * 512 + y0.val, by omega⟩ rfl).trans ?_
  congr 1
  blk_ext [idx t]

end Cert.Proof.Ffp

end
-- ==== Proof.FfpClaim.lean ====
/-
  Hand-written, untrusted. The value claim of the feed-forward layer without the final norm: the kernel's array and the reference's are one function of
  the arguments.
-/
module

public import proofs.«01_k».proof.Defs
public import proofs.«01_k».proof.Proof.FfpOut
public import proofs.«01_k».proof.Proof.FfnRef
public import proofs.«01_k».proof.Proof.Gen.Kernel3Ideal.Value
public import proofs.«01_k».proof.Proof.Gen.Reference3Ideal.Run
public import Idealize.ShloMosaic.Lib.Claim

@[expose] public section

set_option maxRecDepth 16384

noncomputable section

namespace Cert.Proof.Ffp

open Idealize.ShloMosaic Idealize.ShloMosaic.TcCoe Idealize.SL.Sem
open Cert.Proof.Ffn (normT upT padT convT gateT hidT layer_at)

/-- The reference's result, by the stages of the layer: those of the layer with the final norm, short of that norm. -/
def refT (x : FVec Ideal Cert.Reference3Ideal.S8x4096x2048 .f32) (g : FVec Ideal Cert.Reference3Ideal.S2048 .f32) (w : FVec Ideal Cert.Reference3Ideal.S2048x11264 .f32)
    (cw : FVec Ideal Cert.Reference3Ideal.S3x11264 .f32) (cb : FVec Ideal Cert.Reference3Ideal.S11264 .f32) (wd : FVec Ideal Cert.Reference3Ideal.S5632x2048 .f32) :
    FVec Ideal Cert.Reference3Ideal.S32768x2048 .f32 :=
  shapeCast Cert.Reference3Ideal.S32768x2048 (hidT x (gateT (convT (padT (upT (normT x g) w)) cw cb)) wd) Cert.Reference3Ideal.Gen.facts.shapeCasts_S8x4096x2048_S32768x2048

theorem res_eq (m : (ℓ : Loc Cert.Reference3Ideal.nD Cert.Reference3Ideal.τ Cert.Reference3Ideal.sig) → Buf (Elt Ideal) ℓ) (c : Dev Cert.Reference3Ideal.nD) :
    Cert.Reference3Ideal.Value.res_out0 m c = refT
      (m ((c.tc : Thread Cert.Reference3Ideal.nD Cert.Reference3Ideal.τ).loc Cert.Reference3Ideal.main_arg0))
      (m ((c.tc : Thread Cert.Reference3Ideal.nD Cert.Reference3Ideal.τ).loc Cert.Reference3Ideal.main_arg1))
      (m ((c.tc : Thread Cert.Reference3Ideal.nD Cert.Reference3Ideal.τ).loc Cert.Reference3Ideal.main_arg2))
      (m ((c.tc : Thread Cert.Reference3Ideal.nD Cert.Reference3Ideal.τ).loc Cert.Reference3Ideal.main_arg3))
      (m ((c.tc : Thread Cert.Reference3Ideal.nD Cert.Reference3Ideal.τ).loc Cert.Reference3Ideal.main_arg4))
      (m ((c.tc : Thread Cert.Reference3Ideal.nD Cert.Reference3Ideal.τ).loc Cert.Reference3Ideal.main_arg5)) := rfl

/-- The reference's term over the kernel's arguments is the kernel's array. -/
theorem ref_eq (m : (ℓ : Loc Cert.Kernel3Ideal.nD Cert.Kernel3Ideal.τ Cert.Kernel3Ideal.sig) → Buf (Elt Ideal) ℓ) (c : Dev Cert.Kernel3Ideal.nD) :
    refT
      (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg4))
      (m ((c : Thread Cert.Kernel3Ideal.nD Cert.Kernel3Ideal.τ).loc Cert.Kernel3Ideal.main_arg5))
      = G m c := by
  funext y
  idx_vars y
  pointwise [refT]
  exact layer_at _ _ _ _ _ _ _ _ y1

theorem algebraic : Cert.algebraic_Kernel3Ideal_Reference3Ideal (hKernel3Ideal := Cert.Kernel3Ideal.Gen.facts) (hReference3Ideal := Cert.Reference3Ideal.Gen.facts) := by
  intro m g m' g' hpre hag
  refine ⟨fun c => G m c, ?_, ?_⟩
  · refine (θ_run _ _ _).mono (fun r h c => ⟨(h c).1.trans (final m c), (h c).2⟩) (Cert.Kernel3Ideal.Value.run_blocks m g)
  · refine (θ_run _ _ _).mono (fun r h c => ⟨(h c).1.trans ?_, (h c).2⟩) (Cert.Reference3Ideal.Value.run m' g')
    refine Eq.trans (res_eq m' c) ?_
    obtain ⟨h0, h1, h2, h3, h4, h5⟩ := hag c
    rw [h0, h1, h2, h3, h4, h5]
    exact ref_eq m c

end Cert.Proof.Ffp

end
-- ==== Proof.MmQ.lean ====
/-
  Hand-written, untrusted. The query projection of the three-branch sparse attention (NSA): the normalised rows
  kept from one point of a tile to the next, the kernel's blocks, the array they make, and the value claim.
-/
module

public import proofs.«01_k».proof.Defs
public import proofs.«01_k».proof.Proof.FfnRef
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384

noncomputable section

namespace Cert.Proof.MmQ

open Idealize.ShloMosaic Idealize.ShloMosaic.TcCoe Idealize.SL.Sem
open Cert.Proof.Ffn (nrm normT normT_at)

section Reference

open Cert.Reference4Ideal Cert.Reference4Ideal.Gen

/-- The normalised rows projected to all the features the layer takes from them. -/
def prjT (x : FVec Ideal S8x4096x2048 .f32) (g : FVec Ideal S2048 .f32) (w : FVec Ideal S2048x13200 .f32) : FVec Ideal S8x4096x13200 .f32 :=
  Host.dotGeneral dot_S8x4096x2048_S2048x13200_S8x4096x13200_2_0_01_1_n_n none (normT x g) w

theorem prjT_at (x : FVec Ideal S8x4096x2048 .f32) (g : FVec Ideal S2048 .f32) (w : FVec Ideal S2048x13200 .f32) (b : Fin 8) (s : Fin 4096) (f : Fin 13200) :
    prjT x g w (ix3 b s f) = ∑ k, nrm (fun d => x (ix3 b s d)) (fun d => g (ix1 d)) k * w (ix2 k f) := by
  pointwise [prjT]
  exact Finset.sum_congr rfl fun k _ => by rw [normT_at]

/-- The reference's result. -/
def refT (x : FVec Ideal S8x4096x2048 .f32) (g : FVec Ideal S2048 .f32) (w : FVec Ideal S2048x13200 .f32) : FVec Ideal S32768x9216 .bf16 :=
  truncf .bf16 (shapeCast S32768x9216 (extractStridedSlice S8x4096x9216 ![0, 0, 0] (prjT x g w) slices_S8x4096x13200_S8x4096x9216_0_0_0) shapeCasts_S8x4096x9216_S32768x9216) bitsLt_bf16_f32

theorem refT_at (x : FVec Ideal S8x4096x2048 .f32) (g : FVec Ideal S2048 .f32) (w : FVec Ideal S2048x13200 .f32) (r : Fin 32768) (f : Fin 9216) :
    refT x g w (ix2 r f) = ∑ k, nrm (fun d => x (ix3 ⟨r.val / 4096, by omega⟩ ⟨r.val % 4096, by omega⟩ d)) (fun d => g (ix1 d)) k * w (ix2 k ⟨f.val, by omega⟩) := by
  pointwise [refT]
  rw [prjT_at]

end Reference

open Cert.Kernel4Ideal Cert.Kernel4Ideal.Gen

variable (m : (ℓ : Loc nD τ sig) → Buf (Elt Ideal) ℓ) (c : Dev nD)

/-- The layer's input, by sequence, position and feature. -/
abbrev aX (b : Fin 8) (s : Fin 4096) (d : Fin 2048) : EReal := (m ((c : Thread nD τ).loc main_arg0) : FVec Ideal S8x4096x2048 .f32) (ix3 b s d)
/-- The norm's gain. -/
abbrev aG (d : Fin 2048) : EReal := (m ((c : Thread nD τ).loc main_arg1) : FVec Ideal S2048 .f32) (ix1 d)
/-- The projection, of which the call takes the queries' columns. -/
abbrev aW (d : Fin 2048) (f : Fin 13200) : EReal := (m ((c : Thread nD τ).loc main_arg2) : FVec Ideal S2048x13200 .f32) (ix2 d f)

/-- The columns of the queries. -/
abbrev wc (k : Fin 2048) (f : Fin 9216) : EReal := aW m c k ⟨f.val, by omega⟩

theorem lt_N (t : Fin cfg0.N) : t.val < 288 := t.isLt

theorem idx : ∀ t : Fin cfg0.N, win0_0.index t = ![t.val / 9, 0] ∧ win0_1.index t = ![0, t.val % 9] ∧ win0_2.index t = ![0, 0]
    ∧ win0_3.index t = ![t.val / 9, t.val % 9] := (by decide +kernel : ∀ t : Fin grid0.N, _)

theorem blk0 (t : Fin cfg0.N) (r : Fin 1024) (k : Fin 2048) :
    (iblk m c 0 t : FVec Ideal S1024x2048 .f32) (ix2 r k) = aX m c ⟨t.val / 36, by have := lt_N t; omega⟩ ⟨t.val / 9 % 4 * 1024 + r.val, by omega⟩ k := by
  have := lt_N t
  blk_simp [iblk, idx t]
  entry_read
  pointwise
  blk_ext [idx t]

theorem blk1 (t : Fin cfg0.N) (k : Fin 2048) (x : Fin 1024) :
    (iblk m c 1 t : FVec Ideal S2048x1024 .bf16) (ix2 k x) = wc m c k ⟨t.val % 9 * 1024 + x.val, by omega⟩ := by
  have := lt_N t
  blk_simp [iblk, idx t]
  entry_read
  pointwise
  blk_ext [idx t]

theorem blk2 (t : Fin cfg0.N) (d : Fin 2048) : (iblk m c 2 t : FVec Ideal S1x2048 .f32) (ix2 0 d) = aG m c d := by
  have := lt_N t
  blk_simp [iblk, idx t]
  entry_read
  pointwise
  blk_ext [idx t]

/-! ## The normalised rows, carried through a tile's points -/

/-- The normalised rows of tile `i`. -/
def XN (i : Fin 32) : FVec Ideal S1024x2048 .bf16 := fun y =>
  nrm (aX m c ⟨i.val / 4, by omega⟩ ⟨i.val % 4 * 1024 + (y 0 : Fin 1024).val, by have : (y 0 : Fin 1024).val < 1024 := (y 0).isLt; omega⟩) (aG m c) (y 1 : Fin 2048)

/-- The tile of rows a point works on. -/
def til (t : Fin cfg0.N) : Fin 32 := ⟨t.val / 9, by have := lt_N t; omega⟩

theorem rows_A (t : Fin cfg0.N) (h0 : t.val % 9 = 0) : (outsAt0 m c t.val t.isLt).2 = XN m c (til t) := by
  have hN := lt_N t
  rw [outsAt0_A m c t h0]
  frame_out
  funext y
  idx_vars y
  pointwise [k0_pay1]
  simp only [blk0, blk2]
  refine Eq.trans (b := nrm (aX m c ⟨t.val / 36, by omega⟩ ⟨t.val / 9 % 4 * 1024 + y0.val, by omega⟩) (aG m c) y1) rfl ?_
  have hb : (⟨t.val / 36, by omega⟩ : Fin 8) = ⟨t.val / 9 / 4, by omega⟩ := Fin.ext (by show t.val / 36 = t.val / 9 / 4; omega)
  rw [hb]
  rfl

theorem rows_B (t : Fin cfg0.N) (h0 : ¬t.val % 9 = 0) :
    (outsAt0 m c t.val t.isLt).2 = (outsAt0 m c (t.val - 1) (by have := t.isLt; omega)).2 := by
  rw [outsAt0_B m c t h0]
  rfl

theorem rows_at (i : Fin 32) : ∀ (s : ℕ) (hs : s < 9), (outsAt0 m c (9 * i.val + s) (by have : cfg0.N = 288 := rfl; omega)).2 = XN m c i
  | 0, hs => by
    have hN : cfg0.N = 288 := rfl
    let t : Fin cfg0.N := ⟨9 * i.val + 0, by omega⟩
    have e1 := rows_A m c t (by show (9 * i.val + 0) % 9 = 0; omega)
    rwa [show til t = i from Fin.ext (by show (9 * i.val + 0) / 9 = _; omega)] at e1
  | s + 1, hs => by
    have hN : cfg0.N = 288 := rfl
    let t : Fin cfg0.N := ⟨9 * i.val + (s + 1), by omega⟩
    exact (rows_B m c t (by show ¬(9 * i.val + (s + 1)) % 9 = 0; omega)).trans (rows_at i s (by omega))

theorem rows (t : Fin cfg0.N) : (outsAt0 m c t.val t.isLt).2 = XN m c (til t) := by
  have e := rows_at m c (til t) (t.val % 9) (by omega)
  have hv : 9 * (til t).val + t.val % 9 = t.val := by show 9 * (t.val / 9) + t.val % 9 = _; omega
  simp only [hv] at e
  exact e

/-! ## The blocks and the array -/

theorem out_A (t : Fin cfg0.N) (h0 : t.val % 9 = 0) (r x : Fin 1024) : ∀ (X : FVec Ideal S1024x2048 .bf16)
    (hX : (outsAt0 m c t.val t.isLt).2 = X), (outsAt0 m c t.val t.isLt).1 (ix2 r x) = ∑ k, X (ix2 r k) * iblk m c 1 t (ix2 k x) := by
  rw [outsAt0_A m c t h0]
  simp (disch := decide) only [↓ View.readCov_skip, ↓ View.readCov_cons_toLoadRect, ↓ View.readCov_fill]
  frame_out
  intro X hX
  simp (disch := decide) only [View.readCov_eq_canon', View.canon_cons_unit_lit', hX]
  pointwise [k0_pay2]

theorem out_B (t : Fin cfg0.N) (h0 : ¬t.val % 9 = 0) (r x : Fin 1024) :
    (outsAt0 m c t.val t.isLt).1 (ix2 r x) = ∑ k, (outsAt0 m c (t.val - 1) (by have := t.isLt; omega)).2 (ix2 r k) * iblk m c 1 t (ix2 k x) := by
  rw [outsAt0_B m c t h0]
  frame_out
  simp only [read_unread_whole]
  pointwise [k0_pay2]

/-- One feature of the projection of a normalised row. -/
def val (b : Fin 8) (s : Fin 4096) (f : Fin 9216) : EReal := ∑ k, nrm (aX m c b s) (aG m c) k * wc m c k f

/-- What a point writes back. -/
theorem out_at (t : Fin cfg0.N) (r x : Fin 1024) :
    (outsAt0 m c t.val t.isLt).1 (ix2 r x)
      = val m c ⟨t.val / 36, by have := lt_N t; omega⟩ ⟨t.val / 9 % 4 * 1024 + r.val, by omega⟩ ⟨t.val % 9 * 1024 + x.val, by omega⟩ := by
  have hN := lt_N t
  have e : (outsAt0 m c t.val t.isLt).1 (ix2 r x) = ∑ k, XN m c (til t) (ix2 r k) * iblk m c 1 t (ix2 k x) := by
    by_cases h0 : t.val % 9 = 0
    · exact out_A m c t h0 r x _ (rows m c t)
    · refine (out_B m c t h0 r x).trans (Finset.sum_congr rfl fun k _ => ?_)
      rw [← rows_B m c t h0, rows]
  refine e.trans (Finset.sum_congr rfl fun k _ => ?_)
  have hb : (⟨t.val / 36, by omega⟩ : Fin 8) = ⟨t.val / 9 / 4, by omega⟩ := Fin.ext (by show t.val / 36 = t.val / 9 / 4; omega)
  rw [blk1, hb]
  rfl

/-- The result array. -/
def G : FVec Ideal S32768x9216 .bf16 := fun y =>
  val m c ⟨(y 0 : Fin 32768).val / 4096, by have : (y 0 : Fin 32768).val < 32768 := (y 0).isLt; omega⟩
    ⟨(y 0 : Fin 32768).val % 4096, Nat.mod_lt _ (by omega)⟩ (y 1 : Fin 9216)

theorem final (c : Dev nD) : (dats m 0 c).arrAt 3 cfg0.N = G m c := by
  refine (dats m 0 c).arrAt_eq_of_covers 3 _ (by decide +kernel) fun t hf y => ?_
  blk_simp
  rw [after0_3]
  have hN := lt_N t
  idx_vars y
  refine (out_at m c t y0 y1).trans ?_
  have e : ∀ (a : Fin 32768) (d : Fin 9216), a.val = t.val / 9 * 1024 + y0.val → d.val = t.val % 9 * 1024 + y1.val →
      val m c ⟨t.val / 36, by omega⟩ ⟨t.val / 9 % 4 * 1024 + y0.val, by omega⟩ ⟨t.val % 9 * 1024 + y1.val, by omega⟩ = G m c (ix2 a d) := by
    intro a d ha hd
    have hb : (⟨t.val / 36, by omega⟩ : Fin 8) = ⟨a.val / 4096, by omega⟩ := Fin.ext (by show t.val / 36 = a.val / 4096; omega)
    have hs : (⟨t.val / 9 % 4 * 1024 + y0.val, by omega⟩ : Fin 4096) = ⟨a.val % 4096, by omega⟩ := Fin.ext (by show t.val / 9 % 4 * 1024 + y0.val = a.val % 4096; omega)
    have hd' : (⟨t.val % 9 * 1024 + y1.val, by omega⟩ : Fin 9216) = d := Fin.ext hd.symm
    rw [hb, hs, hd']
    rfl
  refine (e ⟨t.val / 9 * 1024 + y0.val, by omega⟩ ⟨t.val % 9 * 1024 + y1.val, by omega⟩ rfl rfl).trans ?_
  congr 1
  blk_ext [idx t]

theorem algebraic : Cert.algebraic_Kernel4Ideal_Reference4Ideal (hKernel4Ideal := Cert.Kernel4Ideal.Gen.facts) (hReference4Ideal := Cert.Reference4Ideal.Gen.facts) := by
  intro m g m' g' hpre hag
  refine ⟨fun c => G m c, ?_, ?_⟩
  · refine (θ_run _ _ _).mono (fun r h c => ⟨(h c).1.trans (final m c), (h c).2⟩) (Cert.Kernel4Ideal.Value.run_blocks m g)
  · refine (θ_run _ _ _).mono (fun r h c => ⟨(h c).1.trans ?_, (h c).2⟩) (Cert.Reference4Ideal.Value.run m' g')
    obtain ⟨h0, h1, h2⟩ := hag c
    rw [h0, h1, h2]
    funext y
    idx_vars y
    exact refT_at _ _ _ y0 y1

end Cert.Proof.MmQ

end
-- ==== Proof.MmRest.lean ====
/-
  Hand-written, untrusted. The projection of the three-branch sparse attention (NSA) to its keys, values and gates: the normalised rows
  kept from one point of a tile to the next, the kernel's blocks, the array they make, and the value claim.
-/
module

public import proofs.«01_k».proof.Defs
public import proofs.«01_k».proof.Proof.FfnRef
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384

noncomputable section

namespace Cert.Proof.MmRest

open Idealize.ShloMosaic Idealize.ShloMosaic.TcCoe Idealize.SL.Sem
open Cert.Proof.Ffn (nrm normT normT_at)

section Reference

open Cert.Reference5Ideal Cert.Reference5Ideal.Gen

/-- The normalised rows projected to all the features the layer takes from them. -/
def prjT (x : FVec Ideal S8x4096x2048 .f32) (g : FVec Ideal S2048 .f32) (w : FVec Ideal S2048x13200 .f32) : FVec Ideal S8x4096x13200 .f32 :=
  Host.dotGeneral dot_S8x4096x2048_S2048x13200_S8x4096x13200_2_0_01_1_n_n none (normT x g) w

theorem prjT_at (x : FVec Ideal S8x4096x2048 .f32) (g : FVec Ideal S2048 .f32) (w : FVec Ideal S2048x13200 .f32) (b : Fin 8) (s : Fin 4096) (f : Fin 13200) :
    prjT x g w (ix3 b s f) = ∑ k, nrm (fun d => x (ix3 b s d)) (fun d => g (ix1 d)) k * w (ix2 k f) := by
  pointwise [prjT]
  exact Finset.sum_congr rfl fun k _ => by rw [normT_at]

/-- The reference's result: the features after the queries', and zero columns up to the width of the array. -/
def refT (x : FVec Ideal S8x4096x2048 .f32) (g : FVec Ideal S2048 .f32) (w : FVec Ideal S2048x13200 .f32) : FVec Ideal S32768x4096 .f32 :=
  pad S32768x4096 ![0, 0] ![0, 112] ![0, 0] (shapeCast S32768x3984 (extractStridedSlice S8x4096x3984 ![0, 0, 9216] (prjT x g w) slices_S8x4096x13200_S8x4096x3984_0_0_9216) shapeCasts_S8x4096x3984_S32768x3984)
    (sitofp .f32 (constantI S_ 32 0#32)) pads_S32768x3984_S32768x4096_000_01120 h_S_

theorem refT_at (x : FVec Ideal S8x4096x2048 .f32) (g : FVec Ideal S2048 .f32) (w : FVec Ideal S2048x13200 .f32) (r : Fin 32768) (f : Fin 4096) :
    refT x g w (ix2 r f) = ∑ k, nrm (fun d => x (ix3 ⟨r.val / 4096, by omega⟩ ⟨r.val % 4096, by omega⟩ d)) (fun d => g (ix1 d)) k
      * (if h : f.val < 3984 then w (ix2 k ⟨9216 + f.val, by omega⟩) else 0) := by
  pointwise [refT]
  by_cases h : f.val < 3984
  · simp only [h, dif_pos]
    rw [prjT_at]
  · simp only [h, dif_neg, not_false_eq_true, mul_zero, Finset.sum_const_zero]
    show (((0#32 : BitVec 32).toInt : ℝ) : EReal) = 0
    norm_num

end Reference

open Cert.Kernel5Ideal Cert.Kernel5Ideal.Gen

variable (m : (ℓ : Loc nD τ sig) → Buf (Elt Ideal) ℓ) (c : Dev nD)

/-- The layer's input, by sequence, position and feature. -/
abbrev aX (b : Fin 8) (s : Fin 4096) (d : Fin 2048) : EReal := (m ((c : Thread nD τ).loc main_arg0) : FVec Ideal S8x4096x2048 .f32) (ix3 b s d)
/-- The norm's gain. -/
abbrev aG (d : Fin 2048) : EReal := (m ((c : Thread nD τ).loc main_arg1) : FVec Ideal S2048 .f32) (ix1 d)
/-- The projection, of which the call takes the columns after the queries'. -/
abbrev aW (d : Fin 2048) (f : Fin 13200) : EReal := (m ((c : Thread nD τ).loc main_arg2) : FVec Ideal S2048x13200 .f32) (ix2 d f)

/-- The columns after the queries', and zeros up to the width the call works at. -/
abbrev wc (k : Fin 2048) (f : Fin 4096) : EReal := if h : f.val < 3984 then aW m c k ⟨9216 + f.val, by omega⟩ else 0

theorem lt_N (t : Fin cfg0.N) : t.val < 128 := t.isLt

theorem idx : ∀ t : Fin cfg0.N, win0_0.index t = ![t.val / 4, 0] ∧ win0_1.index t = ![0, t.val % 4] ∧ win0_2.index t = ![0, 0]
    ∧ win0_3.index t = ![t.val / 4, t.val % 4] := (by decide +kernel : ∀ t : Fin grid0.N, _)

/-- The rows, as one axis. -/
def rowT (x : FVec Ideal S8x4096x2048 .f32) : FVec Ideal S32768x2048 .f32 := shapeCast S32768x2048 x shapeCasts_S8x4096x2048_S32768x2048

theorem rowT_at (x : FVec Ideal S8x4096x2048 .f32) (r : Fin 32768) (d : Fin 2048) :
    rowT x (ix2 r d) = x (ix3 ⟨r.val / 4096, by omega⟩ ⟨r.val % 4096, by omega⟩ d) := by
  pointwise [rowT]

theorem V_v0 : V m c main_v0 = rowT (m ((c : Thread nD τ).loc main_arg0) : FVec Ideal S8x4096x2048 .f32) := rfl

/-- The weights after the queries' columns, filled up with zero columns. -/
def padW (w : FVec Ideal S2048x13200 .f32) : FVec Ideal S2048x4096 .bf16 :=
  truncf .bf16 (pad S2048x4096 ![0, 0] ![0, 112] ![0, 0] (extractStridedSlice S2048x3984 ![0, 9216] w slices_S2048x13200_S2048x3984_0_9216 : FVec Ideal S2048x3984 .f32) (sitofp .f32 (constantI S_ 32 0#32) : FVec Ideal S_ .f32) pads_S2048x3984_S2048x4096_000_01120 h_S_) bitsLt_bf16_f32

theorem padW_at (w : FVec Ideal S2048x13200 .f32) (k : Fin 2048) (f : Fin 4096) :
    padW w (ix2 k f) = if h : f.val < 3984 then w (ix2 k ⟨9216 + f.val, by omega⟩) else 0 := by
  pointwise [padW]
  split
  · rfl
  · show (((0#32 : BitVec 32).toInt : ℝ) : EReal) = 0
    norm_num

theorem V_v3 : V m c main_v3 = padW (m ((c : Thread nD τ).loc main_arg2) : FVec Ideal S2048x13200 .f32) := rfl

/-- The gain, as a row. -/
def gainT (g : FVec Ideal S2048 .f32) : FVec Ideal S1x2048 .f32 := shapeCast S1x2048 g shapeCasts_S2048_S1x2048

theorem gainT_at (g : FVec Ideal S2048 .f32) (d : Fin 2048) : gainT g (ix2 0 d) = g (ix1 d) := by
  pointwise [gainT]

theorem V_v4 : V m c main_v4 = gainT (m ((c : Thread nD τ).loc main_arg1) : FVec Ideal S2048 .f32) := rfl

theorem blk0 (t : Fin cfg0.N) (r : Fin 1024) (k : Fin 2048) :
    (iblk m c 0 t : FVec Ideal S1024x2048 .f32) (ix2 r k) = aX m c ⟨t.val / 16, by have := lt_N t; omega⟩ ⟨t.val / 4 % 4 * 1024 + r.val, by omega⟩ k := by
  have := lt_N t
  blk_simp [iblk, idx t]
  rw [V_v0]
  refine Eq.trans (b := rowT (m ((c : Thread nD τ).loc main_arg0)) (ix2 ⟨t.val / 4 * 1024 + r.val, by omega⟩ k)) (congrArg (rowT _) ?_) ((rowT_at _ _ k).trans ?_)
  · blk_ext [idx t]
  · have hb : (⟨(t.val / 4 * 1024 + r.val) / 4096, by omega⟩ : Fin 8) = ⟨t.val / 16, by omega⟩ := Fin.ext (by show (t.val / 4 * 1024 + r.val) / 4096 = t.val / 16; omega)
    have hs : (⟨(t.val / 4 * 1024 + r.val) % 4096, by omega⟩ : Fin 4096) = ⟨t.val / 4 % 4 * 1024 + r.val, by omega⟩ := Fin.ext (by show (t.val / 4 * 1024 + r.val) % 4096 = t.val / 4 % 4 * 1024 + r.val; omega)
    exact congrArg₂ (fun b s => (m ((c : Thread nD τ).loc main_arg0) : FVec Ideal S8x4096x2048 .f32) (ix3 b s k)) hb hs

theorem blk1 (t : Fin cfg0.N) (k : Fin 2048) (x : Fin 1024) :
    (iblk m c 1 t : FVec Ideal S2048x1024 .bf16) (ix2 k x) = wc m c k ⟨t.val % 4 * 1024 + x.val, by omega⟩ := by
  have := lt_N t
  blk_simp [iblk, idx t]
  rw [V_v3]
  refine Eq.trans (congrArg (padW _) ?_) (padW_at _ k ⟨t.val % 4 * 1024 + x.val, by omega⟩)
  blk_ext [idx t]

theorem blk2 (t : Fin cfg0.N) (d : Fin 2048) : (iblk m c 2 t : FVec Ideal S1x2048 .f32) (ix2 0 d) = aG m c d := by
  have := lt_N t
  blk_simp [iblk, idx t]
  rw [V_v4]
  refine Eq.trans (congrArg (gainT _) ?_) (gainT_at _ d)
  blk_ext [idx t]

/-! ## The normalised rows, carried through a tile's points -/

/-- The normalised rows of tile `i`. -/
def XN (i : Fin 32) : FVec Ideal S1024x2048 .bf16 := fun y =>
  nrm (aX m c ⟨i.val / 4, by omega⟩ ⟨i.val % 4 * 1024 + (y 0 : Fin 1024).val, by have : (y 0 : Fin 1024).val < 1024 := (y 0).isLt; omega⟩) (aG m c) (y 1 : Fin 2048)

/-- The tile of rows a point works on. -/
def til (t : Fin cfg0.N) : Fin 32 := ⟨t.val / 4, by have := lt_N t; omega⟩

theorem rows_A (t : Fin cfg0.N) (h0 : t.val % 4 = 0) : (outsAt0 m c t.val t.isLt).2 = XN m c (til t) := by
  have hN := lt_N t
  rw [outsAt0_A m c t h0]
  frame_out
  funext y
  idx_vars y
  pointwise [k0_pay1]
  simp only [blk0, blk2]
  refine Eq.trans (b := nrm (aX m c ⟨t.val / 16, by omega⟩ ⟨t.val / 4 % 4 * 1024 + y0.val, by omega⟩) (aG m c) y1) rfl ?_
  have hb : (⟨t.val / 16, by omega⟩ : Fin 8) = ⟨t.val / 4 / 4, by omega⟩ := Fin.ext (by show t.val / 16 = t.val / 4 / 4; omega)
  rw [hb]
  rfl

theorem rows_B (t : Fin cfg0.N) (h0 : ¬t.val % 4 = 0) :
    (outsAt0 m c t.val t.isLt).2 = (outsAt0 m c (t.val - 1) (by have := t.isLt; omega)).2 := by
  rw [outsAt0_B m c t h0]
  rfl

theorem rows_at (i : Fin 32) : ∀ (s : ℕ) (hs : s < 4), (outsAt0 m c (4 * i.val + s) (by have : cfg0.N = 128 := rfl; omega)).2 = XN m c i
  | 0, hs => by
    have hN : cfg0.N = 128 := rfl
    let t : Fin cfg0.N := ⟨4 * i.val + 0, by omega⟩
    have e1 := rows_A m c t (by show (4 * i.val + 0) % 4 = 0; omega)
    rwa [show til t = i from Fin.ext (by show (4 * i.val + 0) / 4 = _; omega)] at e1
  | s + 1, hs => by
    have hN : cfg0.N = 128 := rfl
    let t : Fin cfg0.N := ⟨4 * i.val + (s + 1), by omega⟩
    exact (rows_B m c t (by show ¬(4 * i.val + (s + 1)) % 4 = 0; omega)).trans (rows_at i s (by omega))

theorem rows (t : Fin cfg0.N) : (outsAt0 m c t.val t.isLt).2 = XN m c (til t) := by
  have e := rows_at m c (til t) (t.val % 4) (by omega)
  have hv : 4 * (til t).val + t.val % 4 = t.val := by show 4 * (t.val / 4) + t.val % 4 = _; omega
  simp only [hv] at e
  exact e

/-! ## The blocks and the array -/

theorem out_A (t : Fin cfg0.N) (h0 : t.val % 4 = 0) (r x : Fin 1024) : ∀ (X : FVec Ideal S1024x2048 .bf16)
    (hX : (outsAt0 m c t.val t.isLt).2 = X), (outsAt0 m c t.val t.isLt).1 (ix2 r x) = ∑ k, X (ix2 r k) * iblk m c 1 t (ix2 k x) := by
  rw [outsAt0_A m c t h0]
  simp (disch := decide) only [↓ View.readCov_skip, ↓ View.readCov_cons_toLoadRect, ↓ View.readCov_fill]
  frame_out
  intro X hX
  simp (disch := decide) only [View.readCov_eq_canon', View.canon_cons_unit_lit', hX]
  pointwise [k0_pay2]

theorem out_B (t : Fin cfg0.N) (h0 : ¬t.val % 4 = 0) (r x : Fin 1024) :
    (outsAt0 m c t.val t.isLt).1 (ix2 r x) = ∑ k, (outsAt0 m c (t.val - 1) (by have := t.isLt; omega)).2 (ix2 r k) * iblk m c 1 t (ix2 k x) := by
  rw [outsAt0_B m c t h0]
  frame_out
  simp only [read_unread_whole]
  pointwise [k0_pay2]

/-- One feature of the projection of a normalised row. -/
def val (b : Fin 8) (s : Fin 4096) (f : Fin 4096) : EReal := ∑ k, nrm (aX m c b s) (aG m c) k * wc m c k f

/-- What a point writes back. -/
theorem out_at (t : Fin cfg0.N) (r x : Fin 1024) :
    (outsAt0 m c t.val t.isLt).1 (ix2 r x)
      = val m c ⟨t.val / 16, by have := lt_N t; omega⟩ ⟨t.val / 4 % 4 * 1024 + r.val, by omega⟩ ⟨t.val % 4 * 1024 + x.val, by omega⟩ := by
  have hN := lt_N t
  have e : (outsAt0 m c t.val t.isLt).1 (ix2 r x) = ∑ k, XN m c (til t) (ix2 r k) * iblk m c 1 t (ix2 k x) := by
    by_cases h0 : t.val % 4 = 0
    · exact out_A m c t h0 r x _ (rows m c t)
    · refine (out_B m c t h0 r x).trans (Finset.sum_congr rfl fun k _ => ?_)
      rw [← rows_B m c t h0, rows]
  refine e.trans (Finset.sum_congr rfl fun k _ => ?_)
  have hb : (⟨t.val / 16, by omega⟩ : Fin 8) = ⟨t.val / 4 / 4, by omega⟩ := Fin.ext (by show t.val / 16 = t.val / 4 / 4; omega)
  rw [blk1, hb]
  rfl

/-- The result array. -/
def G : FVec Ideal S32768x4096 .f32 := fun y =>
  val m c ⟨(y 0 : Fin 32768).val / 4096, by have : (y 0 : Fin 32768).val < 32768 := (y 0).isLt; omega⟩
    ⟨(y 0 : Fin 32768).val % 4096, Nat.mod_lt _ (by omega)⟩ (y 1 : Fin 4096)

theorem final (c : Dev nD) : (dats m 0 c).arrAt 3 cfg0.N = G m c := by
  refine (dats m 0 c).arrAt_eq_of_covers 3 _ (by decide +kernel) fun t hf y => ?_
  blk_simp
  rw [after0_3]
  have hN := lt_N t
  idx_vars y
  refine (out_at m c t y0 y1).trans ?_
  have e : ∀ (a : Fin 32768) (d : Fin 4096), a.val = t.val / 4 * 1024 + y0.val → d.val = t.val % 4 * 1024 + y1.val →
      val m c ⟨t.val / 16, by omega⟩ ⟨t.val / 4 % 4 * 1024 + y0.val, by omega⟩ ⟨t.val % 4 * 1024 + y1.val, by omega⟩ = G m c (ix2 a d) := by
    intro a d ha hd
    have hb : (⟨t.val / 16, by omega⟩ : Fin 8) = ⟨a.val / 4096, by omega⟩ := Fin.ext (by show t.val / 16 = a.val / 4096; omega)
    have hs : (⟨t.val / 4 % 4 * 1024 + y0.val, by omega⟩ : Fin 4096) = ⟨a.val % 4096, by omega⟩ := Fin.ext (by show t.val / 4 % 4 * 1024 + y0.val = a.val % 4096; omega)
    have hd' : (⟨t.val % 4 * 1024 + y1.val, by omega⟩ : Fin 4096) = d := Fin.ext hd.symm
    rw [hb, hs, hd']
    rfl
  refine (e ⟨t.val / 4 * 1024 + y0.val, by omega⟩ ⟨t.val % 4 * 1024 + y1.val, by omega⟩ rfl rfl).trans ?_
  congr 1
  blk_ext [idx t]

theorem algebraic : Cert.algebraic_Kernel5Ideal_Reference5Ideal (hKernel5Ideal := Cert.Kernel5Ideal.Gen.facts) (hReference5Ideal := Cert.Reference5Ideal.Gen.facts) := by
  intro m g m' g' hpre hag
  refine ⟨fun c => G m c, ?_, ?_⟩
  · refine (θ_run _ _ _).mono (fun r h c => ⟨(h c).1.trans (final m c), (h c).2⟩) (Cert.Kernel5Ideal.Value.run_blocks m g)
  · refine (θ_run _ _ _).mono (fun r h c => ⟨(h c).1.trans ?_, (h c).2⟩) (Cert.Reference5Ideal.Value.run m' g')
    obtain ⟨h0, h1, h2⟩ := hag c
    rw [h0, h1, h2]
    funext y
    idx_vars y
    exact refT_at _ _ _ y0 y1

end Cert.Proof.MmRest

end
-- ==== Proof.MmDsa.lean ====
/-
  Hand-written, untrusted. The output projection of the sparse attention (DSA), added to the layer's input: the kernel's blocks, the array they make,
  and the value claim.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384

noncomputable section

namespace Cert.Proof.MmDsa

open Idealize.ShloMosaic Idealize.ShloMosaic.TcCoe Idealize.SL.Sem

section Reference

open Cert.Reference6Ideal Cert.Reference6Ideal.Gen

/-- The reference's result. -/
def refT (x : FVec Ideal S8x4096x2048 .f32) (o : FVec Ideal S8x4096x4096 .bf16) (w : FVec Ideal S4096x2048 .f32) : FVec Ideal S32768x2048 .f32 :=
  shapeCast S32768x2048 (addf x (Host.dotGeneral dot_S8x4096x4096_S4096x2048_S8x4096x2048_2_0_01_1_n_n none (extf .f32 o bitsLt_bf16_f32) w)) shapeCasts_S8x4096x2048_S32768x2048

theorem refT_at (x : FVec Ideal S8x4096x2048 .f32) (o : FVec Ideal S8x4096x4096 .bf16) (w : FVec Ideal S4096x2048 .f32) (r : Fin 32768) (d : Fin 2048) :
    refT x o w (ix2 r d) = x (ix3 ⟨r.val / 4096, by omega⟩ ⟨r.val % 4096, by omega⟩ d)
      + ∑ k, o (ix3 ⟨r.val / 4096, by omega⟩ ⟨r.val % 4096, by omega⟩ k) * w (ix2 k d) := by
  pointwise [refT]

end Reference

open Cert.Kernel6Ideal Cert.Kernel6Ideal.Gen

variable (m : (ℓ : Loc nD τ sig) → Buf (Elt Ideal) ℓ) (c : Dev nD)

/-- The layer's input, by sequence, position and feature. -/
abbrev aX (b : Fin 8) (s : Fin 4096) (d : Fin 2048) : EReal := (m ((c : Thread nD τ).loc main_arg0) : FVec Ideal S8x4096x2048 .f32) (ix3 b s d)
/-- The heads' outputs side by side. -/
abbrev aO (b : Fin 8) (s : Fin 4096) (k : Fin 4096) : EReal := (m ((c : Thread nD τ).loc main_arg1) : FVec Ideal S8x4096x4096 .bf16) (ix3 b s k)
/-- The projection. -/
abbrev aW (k : Fin 4096) (d : Fin 2048) : EReal := (m ((c : Thread nD τ).loc main_arg2) : FVec Ideal S4096x2048 .f32) (ix2 k d)

theorem lt_N (t : Fin cfg0.N) : t.val < 128 := t.isLt

theorem idx : ∀ t : Fin cfg0.N, win0_0.index t = ![t.val / 4, 0] ∧ win0_1.index t = ![0, t.val % 4] ∧ win0_2.index t = ![t.val / 4, t.val % 4]
    ∧ win0_3.index t = ![t.val / 4, t.val % 4] := (by decide +kernel : ∀ t : Fin grid0.N, _)

theorem blk0 (t : Fin cfg0.N) (r : Fin 1024) (k : Fin 4096) :
    (iblk m c 0 t : FVec Ideal S1024x4096 .bf16) (ix2 r k) = aO m c ⟨t.val / 16, by have := lt_N t; omega⟩ ⟨t.val / 4 % 4 * 1024 + r.val, by omega⟩ k := by
  have := lt_N t
  blk_simp [iblk, idx t]
  entry_read
  pointwise
  blk_ext [idx t]

theorem blk1 (t : Fin cfg0.N) (k : Fin 4096) (x : Fin 512) :
    (iblk m c 1 t : FVec Ideal S4096x512 .bf16) (ix2 k x) = aW m c k ⟨t.val % 4 * 512 + x.val, by omega⟩ := by
  have := lt_N t
  blk_simp [iblk, idx t]
  entry_read
  pointwise
  blk_ext [idx t]

theorem blk2 (t : Fin cfg0.N) (r : Fin 1024) (x : Fin 512) :
    (iblk m c 2 t : FVec Ideal S1024x512 .f32) (ix2 r x)
      = aX m c ⟨t.val / 16, by have := lt_N t; omega⟩ ⟨t.val / 4 % 4 * 1024 + r.val, by omega⟩ ⟨t.val % 4 * 512 + x.val, by omega⟩ := by
  have := lt_N t
  blk_simp [iblk, idx t]
  entry_read
  pointwise
  blk_ext [idx t]

/-- The projected row added to the input, at one feature. -/
def val (b : Fin 8) (s : Fin 4096) (d : Fin 2048) : EReal := aX m c b s d + ∑ k, aO m c b s k * aW m c k d

/-- What a point writes back. -/
theorem out_at (t : Fin cfg0.N) (r : Fin 1024) (x : Fin 512) :
    (out0_3 (iblk m c 0 t) (iblk m c 1 t) (iblk m c 2 t) : FVec Ideal S1024x512 .f32) (ix2 r x)
      = val m c ⟨t.val / 16, by have := lt_N t; omega⟩ ⟨t.val / 4 % 4 * 1024 + r.val, by omega⟩ ⟨t.val % 4 * 512 + x.val, by omega⟩ := by
  frame_out
  pointwise [k0_pay1]
  simp only [blk0, blk1, blk2]
  exact add_comm _ _

/-- The result array. -/
def G : FVec Ideal S32768x2048 .f32 := fun y =>
  val m c ⟨(y 0 : Fin 32768).val / 4096, by have : (y 0 : Fin 32768).val < 32768 := (y 0).isLt; omega⟩
    ⟨(y 0 : Fin 32768).val % 4096, Nat.mod_lt _ (by omega)⟩ (y 1 : Fin 2048)

theorem final (c : Dev nD) : (dats m 0 c).arrAt 3 cfg0.N = G m c := by
  refine (dats m 0 c).arrAt_eq_of_covers 3 _ (by decide +kernel) fun t hf y => ?_
  blk_simp
  rw [after0_3]
  have hN := lt_N t
  idx_vars y
  refine (out_at m c t y0 y1).trans ?_
  have e : ∀ (a : Fin 32768) (d : Fin 2048), a.val = t.val / 4 * 1024 + y0.val → d.val = t.val % 4 * 512 + y1.val →
      val m c ⟨t.val / 16, by omega⟩ ⟨t.val / 4 % 4 * 1024 + y0.val, by omega⟩ ⟨t.val % 4 * 512 + y1.val, by omega⟩ = G m c (ix2 a d) := by
    intro a d ha hd
    have hb : (⟨t.val / 16, by omega⟩ : Fin 8) = ⟨a.val / 4096, by omega⟩ := Fin.ext (by show t.val / 16 = a.val / 4096; omega)
    have hs : (⟨t.val / 4 % 4 * 1024 + y0.val, by omega⟩ : Fin 4096) = ⟨a.val % 4096, by omega⟩ := Fin.ext (by show t.val / 4 % 4 * 1024 + y0.val = a.val % 4096; omega)
    have hd' : (⟨t.val % 4 * 512 + y1.val, by omega⟩ : Fin 2048) = d := Fin.ext hd.symm
    rw [hb, hs, hd']
    rfl
  refine (e ⟨t.val / 4 * 1024 + y0.val, by omega⟩ ⟨t.val % 4 * 512 + y1.val, by omega⟩ rfl rfl).trans ?_
  congr 1
  blk_ext [idx t]

theorem algebraic : Cert.algebraic_Kernel6Ideal_Reference6Ideal (hKernel6Ideal := Cert.Kernel6Ideal.Gen.facts) (hReference6Ideal := Cert.Reference6Ideal.Gen.facts) := by
  intro m g m' g' hpre hag
  refine ⟨fun c => G m c, ?_, ?_⟩
  · refine (θ_run _ _ _).mono (fun r h c => ⟨(h c).1.trans (final m c), (h c).2⟩) (Cert.Kernel6Ideal.Value.run_blocks m g)
  · refine (θ_run _ _ _).mono (fun r h c => ⟨(h c).1.trans ?_, (h c).2⟩) (Cert.Reference6Ideal.Value.run m' g')
    obtain ⟨h0, h1, h2⟩ := hag c
    rw [h0, h1, h2]
    funext y
    idx_vars y
    exact refT_at _ _ _ y0 y1

end Cert.Proof.MmDsa

end
-- ==== Proof.MmNsa.lean ====
/-
  Hand-written, untrusted. The output projection of the three-branch sparse attention (NSA), added to the layer's input: the kernel's blocks, the array they make,
  and the value claim.
-/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384

noncomputable section

namespace Cert.Proof.MmNsa

open Idealize.ShloMosaic Idealize.ShloMosaic.TcCoe Idealize.SL.Sem

section Reference

open Cert.Reference7Ideal Cert.Reference7Ideal.Gen

/-- The reference's result. -/
def refT (x : FVec Ideal S8x4096x2048 .f32) (o : FVec Ideal S8x4096x6144 .bf16) (w : FVec Ideal S6144x2048 .f32) : FVec Ideal S32768x2048 .f32 :=
  shapeCast S32768x2048 (addf x (Host.dotGeneral dot_S8x4096x6144_S6144x2048_S8x4096x2048_2_0_01_1_n_n none (extf .f32 o bitsLt_bf16_f32) w)) shapeCasts_S8x4096x2048_S32768x2048

theorem refT_at (x : FVec Ideal S8x4096x2048 .f32) (o : FVec Ideal S8x4096x6144 .bf16) (w : FVec Ideal S6144x2048 .f32) (r : Fin 32768) (d : Fin 2048) :
    refT x o w (ix2 r d) = x (ix3 ⟨r.val / 4096, by omega⟩ ⟨r.val % 4096, by omega⟩ d)
      + ∑ k, o (ix3 ⟨r.val / 4096, by omega⟩ ⟨r.val % 4096, by omega⟩ k) * w (ix2 k d) := by
  pointwise [refT]

end Reference

open Cert.Kernel7Ideal Cert.Kernel7Ideal.Gen

variable (m : (ℓ : Loc nD τ sig) → Buf (Elt Ideal) ℓ) (c : Dev nD)

/-- The layer's input, by sequence, position and feature. -/
abbrev aX (b : Fin 8) (s : Fin 4096) (d : Fin 2048) : EReal := (m ((c : Thread nD τ).loc main_arg0) : FVec Ideal S8x4096x2048 .f32) (ix3 b s d)
/-- The heads' outputs side by side. -/
abbrev aO (b : Fin 8) (s : Fin 4096) (k : Fin 6144) : EReal := (m ((c : Thread nD τ).loc main_arg1) : FVec Ideal S8x4096x6144 .bf16) (ix3 b s k)
/-- The projection. -/
abbrev aW (k : Fin 6144) (d : Fin 2048) : EReal := (m ((c : Thread nD τ).loc main_arg2) : FVec Ideal S6144x2048 .f32) (ix2 k d)

theorem lt_N (t : Fin cfg0.N) : t.val < 128 := t.isLt

theorem idx : ∀ t : Fin cfg0.N, win0_0.index t = ![t.val / 4, 0] ∧ win0_1.index t = ![0, t.val % 4] ∧ win0_2.index t = ![t.val / 4, t.val % 4]
    ∧ win0_3.index t = ![t.val / 4, t.val % 4] := (by decide +kernel : ∀ t : Fin grid0.N, _)

theorem blk0 (t : Fin cfg0.N) (r : Fin 1024) (k : Fin 6144) :
    (iblk m c 0 t : FVec Ideal S1024x6144 .bf16) (ix2 r k) = aO m c ⟨t.val / 16, by have := lt_N t; omega⟩ ⟨t.val / 4 % 4 * 1024 + r.val, by omega⟩ k := by
  have := lt_N t
  blk_simp [iblk, idx t]
  entry_read
  pointwise
  blk_ext [idx t]

theorem blk1 (t : Fin cfg0.N) (k : Fin 6144) (x : Fin 512) :
    (iblk m c 1 t : FVec Ideal S6144x512 .bf16) (ix2 k x) = aW m c k ⟨t.val % 4 * 512 + x.val, by omega⟩ := by
  have := lt_N t
  blk_simp [iblk, idx t]
  entry_read
  pointwise
  blk_ext [idx t]

theorem blk2 (t : Fin cfg0.N) (r : Fin 1024) (x : Fin 512) :
    (iblk m c 2 t : FVec Ideal S1024x512 .f32) (ix2 r x)
      = aX m c ⟨t.val / 16, by have := lt_N t; omega⟩ ⟨t.val / 4 % 4 * 1024 + r.val, by omega⟩ ⟨t.val % 4 * 512 + x.val, by omega⟩ := by
  have := lt_N t
  blk_simp [iblk, idx t]
  entry_read
  pointwise
  blk_ext [idx t]

/-- The projected row added to the input, at one feature. -/
def val (b : Fin 8) (s : Fin 4096) (d : Fin 2048) : EReal := aX m c b s d + ∑ k, aO m c b s k * aW m c k d

/-- What a point writes back. -/
theorem out_at (t : Fin cfg0.N) (r : Fin 1024) (x : Fin 512) :
    (out0_3 (iblk m c 0 t) (iblk m c 1 t) (iblk m c 2 t) : FVec Ideal S1024x512 .f32) (ix2 r x)
      = val m c ⟨t.val / 16, by have := lt_N t; omega⟩ ⟨t.val / 4 % 4 * 1024 + r.val, by omega⟩ ⟨t.val % 4 * 512 + x.val, by omega⟩ := by
  frame_out
  pointwise [k0_pay1]
  simp only [blk0, blk1, blk2]
  exact add_comm _ _

/-- The result array. -/
def G : FVec Ideal S32768x2048 .f32 := fun y =>
  val m c ⟨(y 0 : Fin 32768).val / 4096, by have : (y 0 : Fin 32768).val < 32768 := (y 0).isLt; omega⟩
    ⟨(y 0 : Fin 32768).val % 4096, Nat.mod_lt _ (by omega)⟩ (y 1 : Fin 2048)

theorem final (c : Dev nD) : (dats m 0 c).arrAt 3 cfg0.N = G m c := by
  refine (dats m 0 c).arrAt_eq_of_covers 3 _ (by decide +kernel) fun t hf y => ?_
  blk_simp
  rw [after0_3]
  have hN := lt_N t
  idx_vars y
  refine (out_at m c t y0 y1).trans ?_
  have e : ∀ (a : Fin 32768) (d : Fin 2048), a.val = t.val / 4 * 1024 + y0.val → d.val = t.val % 4 * 512 + y1.val →
      val m c ⟨t.val / 16, by omega⟩ ⟨t.val / 4 % 4 * 1024 + y0.val, by omega⟩ ⟨t.val % 4 * 512 + y1.val, by omega⟩ = G m c (ix2 a d) := by
    intro a d ha hd
    have hb : (⟨t.val / 16, by omega⟩ : Fin 8) = ⟨a.val / 4096, by omega⟩ := Fin.ext (by show t.val / 16 = a.val / 4096; omega)
    have hs : (⟨t.val / 4 % 4 * 1024 + y0.val, by omega⟩ : Fin 4096) = ⟨a.val % 4096, by omega⟩ := Fin.ext (by show t.val / 4 % 4 * 1024 + y0.val = a.val % 4096; omega)
    have hd' : (⟨t.val % 4 * 512 + y1.val, by omega⟩ : Fin 2048) = d := Fin.ext hd.symm
    rw [hb, hs, hd']
    rfl
  refine (e ⟨t.val / 4 * 1024 + y0.val, by omega⟩ ⟨t.val % 4 * 512 + y1.val, by omega⟩ rfl rfl).trans ?_
  congr 1
  blk_ext [idx t]

theorem algebraic : Cert.algebraic_Kernel7Ideal_Reference7Ideal (hKernel7Ideal := Cert.Kernel7Ideal.Gen.facts) (hReference7Ideal := Cert.Reference7Ideal.Gen.facts) := by
  intro m g m' g' hpre hag
  refine ⟨fun c => G m c, ?_, ?_⟩
  · refine (θ_run _ _ _).mono (fun r h c => ⟨(h c).1.trans (final m c), (h c).2⟩) (Cert.Kernel7Ideal.Value.run_blocks m g)
  · refine (θ_run _ _ _).mono (fun r h c => ⟨(h c).1.trans ?_, (h c).2⟩) (Cert.Reference7Ideal.Value.run m' g')
    obtain ⟨h0, h1, h2⟩ := hag c
    rw [h0, h1, h2]
    funext y
    idx_vars y
    exact refT_at _ _ _ y0 y1

end Cert.Proof.MmNsa

end
-- ==== Proof.MmFox.lean ====
/-
  Hand-written, untrusted. The output projection of the forgetting attention, added to the layer's input: the kernel's blocks, the array they make,
  and the value claim.
-/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384

noncomputable section

namespace Cert.Proof.MmFox

open Idealize.ShloMosaic Idealize.ShloMosaic.TcCoe Idealize.SL.Sem

section Reference

open Cert.Reference8Ideal Cert.Reference8Ideal.Gen

/-- The reference's result. -/
def refT (x : FVec Ideal S8x4096x2048 .f32) (o : FVec Ideal S8x4096x2048 .bf16) (w : FVec Ideal S2048x2048 .f32) : FVec Ideal S32768x2048 .f32 :=
  shapeCast S32768x2048 (addf x (Host.dotGeneral dot_S8x4096x2048_S2048x2048_S8x4096x2048_2_0_01_1_n_n none (extf .f32 o bitsLt_bf16_f32) w)) shapeCasts_S8x4096x2048_S32768x2048

theorem refT_at (x : FVec Ideal S8x4096x2048 .f32) (o : FVec Ideal S8x4096x2048 .bf16) (w : FVec Ideal S2048x2048 .f32) (r : Fin 32768) (d : Fin 2048) :
    refT x o w (ix2 r d) = x (ix3 ⟨r.val / 4096, by omega⟩ ⟨r.val % 4096, by omega⟩ d)
      + ∑ k, o (ix3 ⟨r.val / 4096, by omega⟩ ⟨r.val % 4096, by omega⟩ k) * w (ix2 k d) := by
  pointwise [refT]

end Reference

open Cert.Kernel8Ideal Cert.Kernel8Ideal.Gen

variable (m : (ℓ : Loc nD τ sig) → Buf (Elt Ideal) ℓ) (c : Dev nD)

/-- The layer's input, by sequence, position and feature. -/
abbrev aX (b : Fin 8) (s : Fin 4096) (d : Fin 2048) : EReal := (m ((c : Thread nD τ).loc main_arg0) : FVec Ideal S8x4096x2048 .f32) (ix3 b s d)
/-- The heads' outputs side by side. -/
abbrev aO (b : Fin 8) (s : Fin 4096) (k : Fin 2048) : EReal := (m ((c : Thread nD τ).loc main_arg1) : FVec Ideal S8x4096x2048 .bf16) (ix3 b s k)
/-- The projection. -/
abbrev aW (k : Fin 2048) (d : Fin 2048) : EReal := (m ((c : Thread nD τ).loc main_arg2) : FVec Ideal S2048x2048 .f32) (ix2 k d)

theorem lt_N (t : Fin cfg0.N) : t.val < 128 := t.isLt

theorem idx : ∀ t : Fin cfg0.N, win0_0.index t = ![t.val / 4, 0] ∧ win0_1.index t = ![0, t.val % 4] ∧ win0_2.index t = ![t.val / 4, t.val % 4]
    ∧ win0_3.index t = ![t.val / 4, t.val % 4] := (by decide +kernel : ∀ t : Fin grid0.N, _)

theorem blk0 (t : Fin cfg0.N) (r : Fin 1024) (k : Fin 2048) :
    (iblk m c 0 t : FVec Ideal S1024x2048 .bf16) (ix2 r k) = aO m c ⟨t.val / 16, by have := lt_N t; omega⟩ ⟨t.val / 4 % 4 * 1024 + r.val, by omega⟩ k := by
  have := lt_N t
  blk_simp [iblk, idx t]
  entry_read
  pointwise
  blk_ext [idx t]

theorem blk1 (t : Fin cfg0.N) (k : Fin 2048) (x : Fin 512) :
    (iblk m c 1 t : FVec Ideal S2048x512 .bf16) (ix2 k x) = aW m c k ⟨t.val % 4 * 512 + x.val, by omega⟩ := by
  have := lt_N t
  blk_simp [iblk, idx t]
  entry_read
  pointwise
  blk_ext [idx t]

theorem blk2 (t : Fin cfg0.N) (r : Fin 1024) (x : Fin 512) :
    (iblk m c 2 t : FVec Ideal S1024x512 .f32) (ix2 r x)
      = aX m c ⟨t.val / 16, by have := lt_N t; omega⟩ ⟨t.val / 4 % 4 * 1024 + r.val, by omega⟩ ⟨t.val % 4 * 512 + x.val, by omega⟩ := by
  have := lt_N t
  blk_simp [iblk, idx t]
  entry_read
  pointwise
  blk_ext [idx t]

/-- The projected row added to the input, at one feature. -/
def val (b : Fin 8) (s : Fin 4096) (d : Fin 2048) : EReal := aX m c b s d + ∑ k, aO m c b s k * aW m c k d

/-- What a point writes back. -/
theorem out_at (t : Fin cfg0.N) (r : Fin 1024) (x : Fin 512) :
    (out0_3 (iblk m c 0 t) (iblk m c 1 t) (iblk m c 2 t) : FVec Ideal S1024x512 .f32) (ix2 r x)
      = val m c ⟨t.val / 16, by have := lt_N t; omega⟩ ⟨t.val / 4 % 4 * 1024 + r.val, by omega⟩ ⟨t.val % 4 * 512 + x.val, by omega⟩ := by
  frame_out
  pointwise [k0_pay1]
  simp only [blk0, blk1, blk2]
  exact add_comm _ _

/-- The result array. -/
def G : FVec Ideal S32768x2048 .f32 := fun y =>
  val m c ⟨(y 0 : Fin 32768).val / 4096, by have : (y 0 : Fin 32768).val < 32768 := (y 0).isLt; omega⟩
    ⟨(y 0 : Fin 32768).val % 4096, Nat.mod_lt _ (by omega)⟩ (y 1 : Fin 2048)

theorem final (c : Dev nD) : (dats m 0 c).arrAt 3 cfg0.N = G m c := by
  refine (dats m 0 c).arrAt_eq_of_covers 3 _ (by decide +kernel) fun t hf y => ?_
  blk_simp
  rw [after0_3]
  have hN := lt_N t
  idx_vars y
  refine (out_at m c t y0 y1).trans ?_
  have e : ∀ (a : Fin 32768) (d : Fin 2048), a.val = t.val / 4 * 1024 + y0.val → d.val = t.val % 4 * 512 + y1.val →
      val m c ⟨t.val / 16, by omega⟩ ⟨t.val / 4 % 4 * 1024 + y0.val, by omega⟩ ⟨t.val % 4 * 512 + y1.val, by omega⟩ = G m c (ix2 a d) := by
    intro a d ha hd
    have hb : (⟨t.val / 16, by omega⟩ : Fin 8) = ⟨a.val / 4096, by omega⟩ := Fin.ext (by show t.val / 16 = a.val / 4096; omega)
    have hs : (⟨t.val / 4 % 4 * 1024 + y0.val, by omega⟩ : Fin 4096) = ⟨a.val % 4096, by omega⟩ := Fin.ext (by show t.val / 4 % 4 * 1024 + y0.val = a.val % 4096; omega)
    have hd' : (⟨t.val % 4 * 512 + y1.val, by omega⟩ : Fin 2048) = d := Fin.ext hd.symm
    rw [hb, hs, hd']
    rfl
  refine (e ⟨t.val / 4 * 1024 + y0.val, by omega⟩ ⟨t.val % 4 * 512 + y1.val, by omega⟩ rfl rfl).trans ?_
  congr 1
  blk_ext [idx t]

theorem algebraic : Cert.algebraic_Kernel8Ideal_Reference8Ideal (hKernel8Ideal := Cert.Kernel8Ideal.Gen.facts) (hReference8Ideal := Cert.Reference8Ideal.Gen.facts) := by
  intro m g m' g' hpre hag
  refine ⟨fun c => G m c, ?_, ?_⟩
  · refine (θ_run _ _ _).mono (fun r h c => ⟨(h c).1.trans (final m c), (h c).2⟩) (Cert.Kernel8Ideal.Value.run_blocks m g)
  · refine (θ_run _ _ _).mono (fun r h c => ⟨(h c).1.trans ?_, (h c).2⟩) (Cert.Reference8Ideal.Value.run m' g')
    obtain ⟨h0, h1, h2⟩ := hag c
    rw [h0, h1, h2]
    funext y
    idx_vars y
    exact refT_at _ _ _ y0 y1

end Cert.Proof.MmFox

end
-- ==== Proof.MmDsaIn.lean ====
/-
  Hand-written, untrusted. The first projection of the low-rank sparse attention (DSA): the
  kernel's blocks, the array they make, and the value claim.
-/
module

public import proofs.«01_k».proof.Defs
public import proofs.«01_k».proof.Proof.FfnRef
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384

noncomputable section

namespace Cert.Proof.MmDsaIn

open Idealize.ShloMosaic Idealize.ShloMosaic.TcCoe Idealize.SL.Sem
open Cert.Proof.Ffn (nrm normT normT_at)

/-- The columns the call works with: the low-rank queries (512), keys and values (256), the rotary key (48, filled up with zeros to 128),
    the index key (128) and the index weights (16, filled up with zeros to 128). -/
def col (w : Fin 960 → EReal) (f : Fin 1152) : EReal :=
  if h1 : f.val < 512 then w ⟨f.val, by omega⟩
  else if h2 : f.val - 512 < 256 then w ⟨512 + (f.val - 512), by omega⟩
  else if h3 : f.val - 512 - 256 < 128 then (if h : f.val - 512 - 256 < 48 then w ⟨768 + (f.val - 512 - 256), by omega⟩ else 0)
  else if h4 : f.val - 512 - 256 - 128 < 128 then w ⟨816 + (f.val - 512 - 256 - 128), by omega⟩
  else (if h : f.val - 512 - 256 - 128 - 128 < 16 then w ⟨944 + (f.val - 512 - 256 - 128 - 128), by omega⟩ else 0)

section Reference

open Cert.Reference9Ideal Cert.Reference9Ideal.Gen

/-- The normalised rows projected. -/
def prjT (x : FVec Ideal S8x4096x2048 .f32) (g : FVec Ideal S2048 .f32) (w : FVec Ideal S2048x960 .f32) : FVec Ideal S8x4096x960 .f32 :=
  Host.dotGeneral dot_S8x4096x2048_S2048x960_S8x4096x960_2_0_01_1_n_n none (normT x g) w

theorem prjT_at (x : FVec Ideal S8x4096x2048 .f32) (g : FVec Ideal S2048 .f32) (w : FVec Ideal S2048x960 .f32) (b : Fin 8) (s : Fin 4096) (f : Fin 960) :
    prjT x g w (ix3 b s f) = ∑ k, nrm (fun d => x (ix3 b s d)) (fun d => g (ix1 d)) k * w (ix2 k f) := by
  pointwise [prjT]
  exact Finset.sum_congr rfl fun k _ => by rw [normT_at]

/-- The projected rows, as one axis. -/
def flatT (p : FVec Ideal S8x4096x960 .f32) : FVec Ideal S32768x960 .f32 := shapeCast S32768x960 p shapeCasts_S8x4096x960_S32768x960

theorem flatT_at (p : FVec Ideal S8x4096x960 .f32) (r : Fin 32768) (f : Fin 960) :
    flatT p (ix2 r f) = p (ix3 ⟨r.val / 4096, by omega⟩ ⟨r.val % 4096, by omega⟩ f) := by
  pointwise [flatT]

/-- The rotary key, filled up with zeros. -/
def kpeT (p : FVec Ideal S32768x960 .f32) : FVec Ideal S32768x128 .f32 :=
  pad S32768x128 ![0, 0] ![0, 80] ![0, 0] (extractStridedSlice S32768x48 ![0, 768] p slices_S32768x960_S32768x48_0_768 : FVec Ideal S32768x48 .f32) (sitofp .f32 (constantI S_ 32 0#32) : FVec Ideal S_ .f32) pads_S32768x48_S32768x128_000_0800 h_S_

theorem kpeT_at (p : FVec Ideal S32768x960 .f32) (r : Fin 32768) (f : Fin 128) :
    kpeT p (ix2 r f) = if h : f.val < 48 then p (ix2 r ⟨768 + f.val, by omega⟩) else 0 := by
  pointwise [kpeT]
  split
  · rfl
  · show (((0#32 : BitVec 32).toInt : ℝ) : EReal) = 0
    norm_num

/-- The index weights, filled up with zeros. -/
def widT (p : FVec Ideal S32768x960 .f32) : FVec Ideal S32768x128 .f32 :=
  pad S32768x128 ![0, 0] ![0, 112] ![0, 0] (extractStridedSlice S32768x16 ![0, 944] p slices_S32768x960_S32768x16_0_944 : FVec Ideal S32768x16 .f32) (sitofp .f32 (constantI S_ 32 0#32) : FVec Ideal S_ .f32) pads_S32768x16_S32768x128_000_01120 h_S_

theorem widT_at (p : FVec Ideal S32768x960 .f32) (r : Fin 32768) (f : Fin 128) :
    widT p (ix2 r f) = if h : f.val < 16 then p (ix2 r ⟨944 + f.val, by omega⟩) else 0 := by
  pointwise [widT]
  split
  · rfl
  · show (((0#32 : BitVec 32).toInt : ℝ) : EReal) = 0
    norm_num

/-- The five parts side by side. -/
def catT (p : FVec Ideal S32768x960 .f32) : FVec Ideal S32768x1152 .f32 :=
  concatenate S32768x1152 1 [⟨S32768x512, (extractStridedSlice S32768x512 ![0, 0] p slices_S32768x960_S32768x512_0_0 : FVec Ideal S32768x512 .f32)⟩,
    ⟨S32768x256, (extractStridedSlice S32768x256 ![0, 512] p slices_S32768x960_S32768x256_0_512 : FVec Ideal S32768x256 .f32)⟩,
    ⟨S32768x128, (kpeT p : FVec Ideal S32768x128 .f32)⟩,
    ⟨S32768x128, (extractStridedSlice S32768x128 ![0, 816] p slices_S32768x960_S32768x128_0_816 : FVec Ideal S32768x128 .f32)⟩,
    ⟨S32768x128, (widT p : FVec Ideal S32768x128 .f32)⟩] concatenates_S32768x512_S32768x256_S32768x128_S32768x128_S32768x128_S32768x1152_d1

theorem catT_at (p : FVec Ideal S32768x960 .f32) (r : Fin 32768) (f : Fin 1152) : catT p (ix2 r f) = col (fun f => p (ix2 r f)) f := by
  unfold col
  pointwise [catT]
  by_cases h1 : f.val < 512
  · simp only [h1, dif_pos]
  · simp only [h1, dif_neg, not_false_eq_true]
    by_cases h2 : f.val - 512 < 256
    · simp only [h2, dif_pos]
    · simp only [h2, dif_neg, not_false_eq_true]
      by_cases h3 : f.val - 512 - 256 < 128
      · simp only [h3, dif_pos]
        rw [kpeT_at]
      · simp only [h3, dif_neg, not_false_eq_true]
        by_cases h4 : f.val - 512 - 256 - 128 < 128
        · simp only [h4, dif_pos]
        · simp only [h4, dif_neg, not_false_eq_true]
          rw [widT_at]

/-- The reference's result. -/
def refT (x : FVec Ideal S8x4096x2048 .f32) (g : FVec Ideal S2048 .f32) (w : FVec Ideal S2048x960 .f32) : FVec Ideal S32768x1152 .f32 := catT (flatT (prjT x g w))

/-- A column of a sum of products is the sum of the products with that column. -/
theorem col_sum {ι : Type} [Fintype ι] (n : ι → EReal) (w : ι → Fin 960 → EReal) (f : Fin 1152) :
    col (fun f => ∑ k, n k * w k f) f = ∑ k, n k * col (w k) f := by
  unfold col
  split_ifs <;> simp only [mul_zero, Finset.sum_const_zero]

theorem refT_at (x : FVec Ideal S8x4096x2048 .f32) (g : FVec Ideal S2048 .f32) (w : FVec Ideal S2048x960 .f32) (r : Fin 32768) (f : Fin 1152) :
    refT x g w (ix2 r f) = ∑ k, nrm (fun d => x (ix3 ⟨r.val / 4096, by omega⟩ ⟨r.val % 4096, by omega⟩ d)) (fun d => g (ix1 d)) k
      * col (fun f => w (ix2 k f)) f := by
  unfold refT
  rw [catT_at, ← col_sum]
  refine congrArg (fun p => col p f) (funext fun d => ?_)
  rw [flatT_at, prjT_at]

end Reference

open Cert.Kernel9Ideal Cert.Kernel9Ideal.Gen

variable (m : (ℓ : Loc nD τ sig) → Buf (Elt Ideal) ℓ) (c : Dev nD)

/-- The layer's input, by sequence, position and feature. -/
abbrev aX (b : Fin 8) (s : Fin 4096) (d : Fin 2048) : EReal := (m ((c : Thread nD τ).loc main_arg0) : FVec Ideal S8x4096x2048 .f32) (ix3 b s d)
/-- The norm's gain. -/
abbrev aG (d : Fin 2048) : EReal := (m ((c : Thread nD τ).loc main_arg1) : FVec Ideal S2048 .f32) (ix1 d)
/-- The weights. -/
abbrev aW (d : Fin 2048) (f : Fin 960) : EReal := (m ((c : Thread nD τ).loc main_arg2) : FVec Ideal S2048x960 .f32) (ix2 d f)

theorem lt_N (t : Fin cfg0.N) : t.val < 32 := t.isLt

theorem idx : ∀ t : Fin cfg0.N, win0_0.index t = ![t.val, 0] ∧ win0_1.index t = ![0, 0] ∧ win0_2.index t = ![0, 0]
    ∧ win0_3.index t = ![t.val, 0] := (by decide +kernel : ∀ t : Fin grid0.N, _)

/-! ## What the host hands to the call -/

/-- The rows, as one axis. -/
def rowT (x : FVec Ideal S8x4096x2048 .f32) : FVec Ideal S32768x2048 .f32 := shapeCast S32768x2048 x shapeCasts_S8x4096x2048_S32768x2048

theorem rowT_at (x : FVec Ideal S8x4096x2048 .f32) (r : Fin 32768) (d : Fin 2048) :
    rowT x (ix2 r d) = x (ix3 ⟨r.val / 4096, by omega⟩ ⟨r.val % 4096, by omega⟩ d) := by
  pointwise [rowT]

theorem V_v0 : V m c main_v0 = rowT (m ((c : Thread nD τ).loc main_arg0) : FVec Ideal S8x4096x2048 .f32) := rfl

/-- The low-rank queries' columns. -/
def cqW (w : FVec Ideal S2048x960 .f32) : FVec Ideal S2048x512 .f32 :=
  pad S2048x512 ![0, 0] ![0, 0] ![0, 0] (extractStridedSlice S2048x512 ![0, 0] w slices_S2048x960_S2048x512_0_0 : FVec Ideal S2048x512 .f32) (sitofp .f32 (constantI S_ 32 0#32) : FVec Ideal S_ .f32) pads_S2048x512_S2048x512_000_000 h_S_

theorem cqW_at (w : FVec Ideal S2048x960 .f32) (r : Fin 2048) (f : Fin 512) : cqW w (ix2 r f) = w (ix2 r ⟨f.val, by omega⟩) := by
  pointwise [cqW]
/-- The low-rank keys' and values' columns. -/
def ckvW (w : FVec Ideal S2048x960 .f32) : FVec Ideal S2048x256 .f32 :=
  pad S2048x256 ![0, 0] ![0, 0] ![0, 0] (extractStridedSlice S2048x256 ![0, 512] w slices_S2048x960_S2048x256_0_512 : FVec Ideal S2048x256 .f32) (sitofp .f32 (constantI S_ 32 0#32) : FVec Ideal S_ .f32) pads_S2048x256_S2048x256_000_000 h_S_

theorem ckvW_at (w : FVec Ideal S2048x960 .f32) (r : Fin 2048) (f : Fin 256) : ckvW w (ix2 r f) = w (ix2 r ⟨512 + f.val, by omega⟩) := by
  pointwise [ckvW]
/-- The rotary key's columns, filled up with zeros. -/
def kpeW (w : FVec Ideal S2048x960 .f32) : FVec Ideal S2048x128 .f32 :=
  pad S2048x128 ![0, 0] ![0, 80] ![0, 0] (extractStridedSlice S2048x48 ![0, 768] w slices_S2048x960_S2048x48_0_768 : FVec Ideal S2048x48 .f32) (sitofp .f32 (constantI S_ 32 0#32) : FVec Ideal S_ .f32) pads_S2048x48_S2048x128_000_0800 h_S_

theorem kpeW_at (w : FVec Ideal S2048x960 .f32) (r : Fin 2048) (f : Fin 128) :
    kpeW w (ix2 r f) = if h : f.val < 48 then w (ix2 r ⟨768 + f.val, by omega⟩) else 0 := by
  pointwise [kpeW]
  split
  · rfl
  · show (((0#32 : BitVec 32).toInt : ℝ) : EReal) = 0
    norm_num

/-- The index key's columns. -/
def kixW (w : FVec Ideal S2048x960 .f32) : FVec Ideal S2048x128 .f32 :=
  pad S2048x128 ![0, 0] ![0, 0] ![0, 0] (extractStridedSlice S2048x128 ![0, 816] w slices_S2048x960_S2048x128_0_816 : FVec Ideal S2048x128 .f32) (sitofp .f32 (constantI S_ 32 0#32) : FVec Ideal S_ .f32) pads_S2048x128_S2048x128_000_000 h_S_

theorem kixW_at (w : FVec Ideal S2048x960 .f32) (r : Fin 2048) (f : Fin 128) : kixW w (ix2 r f) = w (ix2 r ⟨816 + f.val, by omega⟩) := by
  pointwise [kixW]
/-- The index weights' columns, filled up with zeros. -/
def widW (w : FVec Ideal S2048x960 .f32) : FVec Ideal S2048x128 .f32 :=
  pad S2048x128 ![0, 0] ![0, 112] ![0, 0] (extractStridedSlice S2048x16 ![0, 944] w slices_S2048x960_S2048x16_0_944 : FVec Ideal S2048x16 .f32) (sitofp .f32 (constantI S_ 32 0#32) : FVec Ideal S_ .f32) pads_S2048x16_S2048x128_000_01120 h_S_

theorem widW_at (w : FVec Ideal S2048x960 .f32) (r : Fin 2048) (f : Fin 128) :
    widW w (ix2 r f) = if h : f.val < 16 then w (ix2 r ⟨944 + f.val, by omega⟩) else 0 := by
  pointwise [widW]
  split
  · rfl
  · show (((0#32 : BitVec 32).toInt : ℝ) : EReal) = 0
    norm_num

/-- The weights the call works with. -/
def catW (w : FVec Ideal S2048x960 .f32) : FVec Ideal S2048x1152 .bf16 :=
  truncf .bf16 (concatenate S2048x1152 1 [⟨S2048x512, (cqW w : FVec Ideal S2048x512 .f32)⟩, ⟨S2048x256, (ckvW w : FVec Ideal S2048x256 .f32)⟩,
    ⟨S2048x128, (kpeW w : FVec Ideal S2048x128 .f32)⟩, ⟨S2048x128, (kixW w : FVec Ideal S2048x128 .f32)⟩,
    ⟨S2048x128, (widW w : FVec Ideal S2048x128 .f32)⟩] concatenates_S2048x512_S2048x256_S2048x128_S2048x128_S2048x128_S2048x1152_d1) bitsLt_bf16_f32

theorem catW_at (w : FVec Ideal S2048x960 .f32) (k : Fin 2048) (f : Fin 1152) : catW w (ix2 k f) = col (fun f => w (ix2 k f)) f := by
  unfold col
  pointwise [catW]
  by_cases h1 : f.val < 512
  · simp only [h1, dif_pos]
    rw [cqW_at]
  · simp only [h1, dif_neg, not_false_eq_true]
    by_cases h2 : f.val - 512 < 256
    · simp only [h2, dif_pos]
      rw [ckvW_at]
    · simp only [h2, dif_neg, not_false_eq_true]
      by_cases h3 : f.val - 512 - 256 < 128
      · simp only [h3, dif_pos]
        rw [kpeW_at]
      · simp only [h3, dif_neg, not_false_eq_true]
        by_cases h4 : f.val - 512 - 256 - 128 < 128
        · simp only [h4, dif_pos]
          rw [kixW_at]
        · simp only [h4, dif_neg, not_false_eq_true]
          rw [widW_at]

theorem V_v12 : V m c main_v12 = catW (m ((c : Thread nD τ).loc main_arg2) : FVec Ideal S2048x960 .f32) := rfl

/-- The gain, as a row. -/
def gainT (g : FVec Ideal S2048 .f32) : FVec Ideal S1x2048 .f32 := shapeCast S1x2048 g shapeCasts_S2048_S1x2048

theorem gainT_at (g : FVec Ideal S2048 .f32) (d : Fin 2048) : gainT g (ix2 0 d) = g (ix1 d) := by
  pointwise [gainT]

theorem V_v13 : V m c main_v13 = gainT (m ((c : Thread nD τ).loc main_arg1) : FVec Ideal S2048 .f32) := rfl

/-! ## The blocks a point reads -/

theorem blk0 (t : Fin cfg0.N) (r : Fin 1024) (k : Fin 2048) :
    (iblk m c 0 t : FVec Ideal S1024x2048 .f32) (ix2 r k) = aX m c ⟨(t.val * 1024 + r.val) / 4096, by have := lt_N t; omega⟩ ⟨(t.val * 1024 + r.val) % 4096, by omega⟩ k := by
  have := lt_N t
  blk_simp [iblk, idx t]
  rw [V_v0]
  refine Eq.trans (b := rowT (m ((c : Thread nD τ).loc main_arg0)) (ix2 ⟨t.val * 1024 + r.val, by omega⟩ k)) (congrArg (rowT _) ?_) (rowT_at _ _ k)
  blk_ext [idx t]

theorem blk1 (t : Fin cfg0.N) (k : Fin 2048) (x : Fin 1152) :
    (iblk m c 1 t : FVec Ideal S2048x1152 .bf16) (ix2 k x) = col (aW m c k) x := by
  have := lt_N t
  blk_simp [iblk, idx t]
  rw [V_v12]
  refine Eq.trans (congrArg (catW _) ?_) (catW_at _ k x)
  blk_ext [idx t]

theorem blk2 (t : Fin cfg0.N) (d : Fin 2048) : (iblk m c 2 t : FVec Ideal S1x2048 .f32) (ix2 0 d) = aG m c d := by
  have := lt_N t
  blk_simp [iblk, idx t]
  rw [V_v13]
  refine Eq.trans (congrArg (gainT _) ?_) (gainT_at _ d)
  blk_ext [idx t]

/-! ## The blocks written and the array -/

/-- One feature of the projection of a normalised row. -/
def val (r : Fin 32768) (f : Fin 1152) : EReal :=
  ∑ k, nrm (aX m c ⟨r.val / 4096, by omega⟩ ⟨r.val % 4096, by omega⟩) (aG m c) k * col (aW m c k) f

theorem pay_at (X : FVec Ideal S1024x2048 .f32) (g : FVec Ideal S1x2048 .f32) (r : Fin 1024) (k : Fin 2048) :
    (k0_pay1 X g : FVec Ideal S1024x2048 .bf16) (ix2 r k) = nrm (fun d => X (ix2 r d)) (fun d => g (ix2 0 d)) k := by
  pointwise [k0_pay1]
  rfl

/-- What a point writes back. -/
theorem out_at (t : Fin cfg0.N) (r : Fin 1024) (x : Fin 1152) :
    outsAt0 m c t (ix2 r x) = val m c ⟨t.val * 1024 + r.val, by have := lt_N t; omega⟩ x := by
  have hN := lt_N t
  unfold outsAt0
  frame_out
  pointwise [k0_pay2]
  refine Finset.sum_congr rfl fun k _ => ?_
  rw [blk1]
  exact congrArg (· * _) ((pay_at _ _ r k).trans (congrArg₂ (fun x g => nrm x g k) (funext fun d => blk0 m c t r d) (funext fun d => blk2 m c t d)))

/-- The result array. -/
def G : FVec Ideal S32768x1152 .f32 := fun y => val m c (y 0 : Fin 32768) (y 1 : Fin 1152)

theorem final (c : Dev nD) : (dats m 0 c).arrAt 3 cfg0.N = G m c := by
  refine (dats m 0 c).arrAt_eq_of_covers 3 _ (by decide +kernel) fun t hf y => ?_
  blk_simp
  rw [after0_3]
  have hN := lt_N t
  idx_vars y
  refine (out_at m c t y0 y1).trans ?_
  refine (rfl : _ = G m c (ix2 ⟨t.val * 1024 + y0.val, by omega⟩ y1)).trans ?_
  congr 1
  blk_ext [idx t]

theorem algebraic : Cert.algebraic_Kernel9Ideal_Reference9Ideal (hKernel9Ideal := Cert.Kernel9Ideal.Gen.facts) (hReference9Ideal := Cert.Reference9Ideal.Gen.facts) := by
  intro m g m' g' hpre hag
  refine ⟨fun c => G m c, ?_, ?_⟩
  · refine (θ_run _ _ _).mono (fun r h c => ⟨(h c).1.trans (final m c), (h c).2⟩) (Cert.Kernel9Ideal.Value.run_blocks m g)
  · refine (θ_run _ _ _).mono (fun r h c => ⟨(h c).1.trans ?_, (h c).2⟩) (Cert.Reference9Ideal.Value.run m' g')
    obtain ⟨h0, h1, h2⟩ := hag c
    unfold Cert.Reference9Ideal.Value.res_main_v22
    rw [h0, h1, h2]
    funext y
    idx_vars y
    exact refT_at _ _ _ y0 y1

end Cert.Proof.MmDsaIn

end
-- ==== Proof.MmDsaQ.lean ====
/-
  Hand-written, untrusted. The query projection of the low-rank sparse attention (DSA): the
  kernel's blocks, the array they make, and the value claim.
-/
module

public import proofs.«01_k».proof.Defs
public import proofs.«01_k».proof.Proof.FfnRef
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384

noncomputable section

namespace Cert.Proof.MmDsaQ

open Idealize.ShloMosaic Idealize.ShloMosaic.TcCoe Idealize.SL.Sem

/-- One feature of a row of the low-rank queries divided by its root mean square, times its gain. -/
def nrm (x g : Fin 512 → EReal) (d : Fin 512) : EReal :=
  x d * Ideal.rsqrt (Ideal.div (∑ k, x k * x k) (Ideal.ofBits FTy.f32 0x44000000#32) + Ideal.ofBits FTy.f32 0x358637BD#32) * g d

/-- A column of the weights the call works with: a head's 192 columns and 64 zero columns, 32 times, then the index queries' columns. -/
def col (w : Fin 8192 → EReal) (f : Fin 10240) : EReal :=
  if h : f.val < 8192 then (if h' : f.val % 256 < 192 then w ⟨f.val / 256 * 192 + f.val % 256, by omega⟩ else 0) else w ⟨6144 + (f.val - 8192), by omega⟩

section Reference

open Cert.Reference10Ideal Cert.Reference10Ideal.Gen

/-- The low-rank queries, normalised. -/
def norT (x : FVec Ideal S32768x1152 .f32) (g : FVec Ideal S512 .f32) : FVec Ideal S32768x512 .f32 :=
  mulf (mulf (extractStridedSlice S32768x512 ![0, 0] x slices_S32768x1152_S32768x512_0_0) (broadcastInDim S32768x512 ![0, 1] bcast_S32768x1_S32768x512_0_1 (Host.rsqrt (addf (Host.divf (broadcastInDim S32768x1 ![0] bcast_S32768_S32768x1_0 (Host.reduceAdd (mulf (extractStridedSlice S32768x512 ![0, 0] x slices_S32768x1152_S32768x512_0_0) (extractStridedSlice S32768x512 ![0, 0] x slices_S32768x1152_S32768x512_0_0)) (constant S_ .f32 0x00000000#32) reducesTo_S32768x512_S32768_d1 h_S_)) (broadcastInDim S32768x1 ![] bcast_S_S32768x1 (constant S_ .f32 0x44000000#32))) (broadcastInDim S32768x1 ![] bcast_S_S32768x1 (constant S_ .f32 0x358637BD#32)))))) (broadcastInDim S32768x512 ![0, 1] bcast_S1x512_S32768x512_0_1 (broadcastInDim S1x512 ![1] bcast_S512_S1x512_1 g))

theorem norT_at (x : FVec Ideal S32768x1152 .f32) (g : FVec Ideal S512 .f32) (r : Fin 32768) (d : Fin 512) :
    norT x g (ix2 r d) = nrm (fun k => x (ix2 r ⟨k.val, by omega⟩)) (fun k => g (ix1 k)) d := by
  pointwise [norT]
  rfl

/-- The normalised rows projected. -/
def prjT (x : FVec Ideal S32768x1152 .f32) (g : FVec Ideal S512 .f32) (w : FVec Ideal S512x8192 .f32) : FVec Ideal S32768x8192 .f32 :=
  Host.dotGeneral dot_S32768x512_S512x8192_S32768x8192_1_0_0_1_n_n none (norT x g) w

theorem prjT_at (x : FVec Ideal S32768x1152 .f32) (g : FVec Ideal S512 .f32) (w : FVec Ideal S512x8192 .f32) (r : Fin 32768) (f : Fin 8192) :
    prjT x g w (ix2 r f) = ∑ k, nrm (fun d => x (ix2 r ⟨d.val, by omega⟩)) (fun d => g (ix1 d)) k * w (ix2 k f) := by
  pointwise [prjT]
  exact Finset.sum_congr rfl fun k _ => by rw [norT_at]

/-- A head's 192 features filled up to 256 with zeros, head after head. -/
def padH (p : FVec Ideal S32768x8192 .f32) : FVec Ideal S32768x8192 .f32 :=
  shapeCast S32768x8192 (pad S32768x32x256 ![0, 0, 0] ![0, 0, 64] ![0, 0, 0] (shapeCast S32768x32x192 (extractStridedSlice S32768x6144 ![0, 0] p slices_S32768x8192_S32768x6144_0_0) shapeCasts_S32768x6144_S32768x32x192 : FVec Ideal S32768x32x192 .f32) (sitofp .f32 (constantI S_ 32 0#32) : FVec Ideal S_ .f32) pads_S32768x32x192_S32768x32x256_000_000_0640 h_S_) shapeCasts_S32768x32x256_S32768x8192

theorem padH_at (p : FVec Ideal S32768x8192 .f32) (r : Fin 32768) (f : Fin 8192) :
    padH p (ix2 r f) = if h : f.val % 256 < 192 then p (ix2 r ⟨f.val / 256 * 192 + f.val % 256, by omega⟩) else 0 := by
  pointwise [padH]
  have hf : f.val / 256 < 32 := by omega
  by_cases h : f.val % 256 < 192
  · rw [dif_pos ⟨hf, h⟩, dif_pos h]
  · rw [dif_neg (fun h' => h h'.2), dif_neg h]
    show (((0#32 : BitVec 32).toInt : ℝ) : EReal) = 0
    norm_num

/-- The reference's result. -/
def refT (x : FVec Ideal S32768x1152 .f32) (g : FVec Ideal S512 .f32) (w : FVec Ideal S512x8192 .f32) : FVec Ideal S32768x10240 .bf16 :=
  truncf .bf16 (concatenate S32768x10240 1 [⟨S32768x8192, (padH (prjT x g w) : FVec Ideal S32768x8192 .f32)⟩,
    ⟨S32768x2048, (extractStridedSlice S32768x2048 ![0, 6144] (prjT x g w) slices_S32768x8192_S32768x2048_0_6144 : FVec Ideal S32768x2048 .f32)⟩] concatenates_S32768x8192_S32768x2048_S32768x10240_d1) bitsLt_bf16_f32

theorem refT_at (x : FVec Ideal S32768x1152 .f32) (g : FVec Ideal S512 .f32) (w : FVec Ideal S512x8192 .f32) (r : Fin 32768) (f : Fin 10240) :
    refT x g w (ix2 r f) = ∑ k, nrm (fun d => x (ix2 r ⟨d.val, by omega⟩)) (fun d => g (ix1 d)) k * col (fun f => w (ix2 k f)) f := by
  unfold col
  pointwise [refT]
  by_cases h : f.val < 8192
  · simp only [h, dif_pos]
    rw [padH_at]
    by_cases h' : f.val % 256 < 192
    · simp only [h', dif_pos]
      exact prjT_at x g w r _
    · simp only [h', dif_neg, not_false_eq_true, mul_zero, Finset.sum_const_zero]
  · simp only [h, dif_neg, not_false_eq_true]
    exact prjT_at x g w r _

end Reference

open Cert.Kernel10Ideal Cert.Kernel10Ideal.Gen

variable (m : (ℓ : Loc nD τ sig) → Buf (Elt Ideal) ℓ) (c : Dev nD)

/-- The rows of the first projection. -/
abbrev aX (r : Fin 32768) (d : Fin 1152) : EReal := (m ((c : Thread nD τ).loc main_arg0) : FVec Ideal S32768x1152 .f32) (ix2 r d)
/-- The norm's gain. -/
abbrev aG (d : Fin 512) : EReal := (m ((c : Thread nD τ).loc main_arg1) : FVec Ideal S512 .f32) (ix1 d)
/-- The weights. -/
abbrev aW (d : Fin 512) (f : Fin 8192) : EReal := (m ((c : Thread nD τ).loc main_arg2) : FVec Ideal S512x8192 .f32) (ix2 d f)

theorem lt_N (t : Fin cfg0.N) : t.val < 64 := t.isLt

theorem idx : ∀ t : Fin cfg0.N, win0_0.index t = ![t.val, 0] ∧ win0_1.index t = ![0, 0] ∧ win0_2.index t = ![0, 0]
    ∧ win0_3.index t = ![t.val, 0] := (by decide +kernel : ∀ t : Fin grid0.N, _)

/-! ## What the host hands to the call -/

/-- A head's 192 columns of the weights filled up to 256 with zeros, head after head. -/
def padW (w : FVec Ideal S512x8192 .f32) : FVec Ideal S512x8192 .f32 :=
  shapeCast S512x8192 (pad S512x32x256 ![0, 0, 0] ![0, 0, 64] ![0, 0, 0] (shapeCast S512x32x192 (extractStridedSlice S512x6144 ![0, 0] w slices_S512x8192_S512x6144_0_0) shapeCasts_S512x6144_S512x32x192 : FVec Ideal S512x32x192 .f32) (sitofp .f32 (constantI S_ 32 0#32) : FVec Ideal S_ .f32) pads_S512x32x192_S512x32x256_000_000_0640 h_S_) shapeCasts_S512x32x256_S512x8192

theorem padW_at (w : FVec Ideal S512x8192 .f32) (k : Fin 512) (f : Fin 8192) :
    padW w (ix2 k f) = if h : f.val % 256 < 192 then w (ix2 k ⟨f.val / 256 * 192 + f.val % 256, by omega⟩) else 0 := by
  pointwise [padW]
  have hf : f.val / 256 < 32 := by omega
  by_cases h : f.val % 256 < 192
  · rw [dif_pos ⟨hf, h⟩, dif_pos h]
  · rw [dif_neg (fun h' => h h'.2), dif_neg h]
    show (((0#32 : BitVec 32).toInt : ℝ) : EReal) = 0
    norm_num

/-- The weights the call works with. -/
def catW (w : FVec Ideal S512x8192 .f32) : FVec Ideal S512x10240 .bf16 :=
  truncf .bf16 (concatenate S512x10240 1 [⟨S512x8192, (padW w : FVec Ideal S512x8192 .f32)⟩,
    ⟨S512x2048, (extractStridedSlice S512x2048 ![0, 6144] w slices_S512x8192_S512x2048_0_6144 : FVec Ideal S512x2048 .f32)⟩] concatenates_S512x8192_S512x2048_S512x10240_d1) bitsLt_bf16_f32

theorem catW_at (w : FVec Ideal S512x8192 .f32) (k : Fin 512) (f : Fin 10240) : catW w (ix2 k f) = col (fun f => w (ix2 k f)) f := by
  unfold col
  pointwise [catW]
  by_cases h : f.val < 8192
  · simp only [h, dif_pos]
    rw [padW_at]
  · simp only [h, dif_neg, not_false_eq_true]

theorem V_v6 : V m c main_v6 = catW (m ((c : Thread nD τ).loc main_arg2) : FVec Ideal S512x8192 .f32) := rfl

/-- The gain, as a row. -/
def gainT (g : FVec Ideal S512 .f32) : FVec Ideal S1x512 .f32 := shapeCast S1x512 g shapeCasts_S512_S1x512

theorem gainT_at (g : FVec Ideal S512 .f32) (d : Fin 512) : gainT g (ix2 0 d) = g (ix1 d) := by
  pointwise [gainT]

theorem V_v7 : V m c main_v7 = gainT (m ((c : Thread nD τ).loc main_arg1) : FVec Ideal S512 .f32) := rfl

/-! ## The blocks a point reads -/

theorem blk0 (t : Fin cfg0.N) (r k : Fin 512) :
    (X0_0 m c t : FVec Ideal S512x512 .f32) (ix2 r k) = aX m c ⟨t.val * 512 + r.val, by have := lt_N t; omega⟩ ⟨k.val, by omega⟩ := by
  have := lt_N t
  unfold X0_0 Pipeline.Window.fill
  rw [dif_pos (moved0_0 t _)]
  blk_simp [iblk, idx t]
  rw [V_main_arg0]
  refine congrArg (m ((c : Thread nD τ).loc main_arg0) : FVec Ideal S32768x1152 .f32) ?_
  blk_ext [idx t]

theorem blk1 (t : Fin cfg0.N) (k : Fin 512) (x : Fin 10240) :
    (iblk m c 1 t : FVec Ideal S512x10240 .bf16) (ix2 k x) = col (aW m c k) x := by
  have := lt_N t
  blk_simp [iblk, idx t]
  rw [V_v6]
  refine Eq.trans (congrArg (catW _) ?_) (catW_at _ k x)
  blk_ext [idx t]

theorem blk2 (t : Fin cfg0.N) (d : Fin 512) : (iblk m c 2 t : FVec Ideal S1x512 .f32) (ix2 0 d) = aG m c d := by
  have := lt_N t
  blk_simp [iblk, idx t]
  rw [V_v7]
  refine Eq.trans (congrArg (gainT _) ?_) (gainT_at _ d)
  blk_ext [idx t]

/-! ## The blocks written and the array -/

/-- One feature of the projection of a normalised row. -/
def val (r : Fin 32768) (f : Fin 10240) : EReal := ∑ k, nrm (fun d => aX m c r ⟨d.val, by omega⟩) (aG m c) k * col (aW m c k) f

theorem pay_at (X : FVec Ideal S512x512 .f32) (g : FVec Ideal S1x512 .f32) (r k : Fin 512) :
    (k0_pay1 X g : FVec Ideal S512x512 .bf16) (ix2 r k) = nrm (fun d => X (ix2 r d)) (fun d => g (ix2 0 d)) k := by
  pointwise [k0_pay1]
  rfl

/-- What a point writes back. -/
theorem out_at (t : Fin cfg0.N) (r : Fin 512) (x : Fin 10240) :
    outsAt0 m c t (ix2 r x) = val m c ⟨t.val * 512 + r.val, by have := lt_N t; omega⟩ x := by
  have hN := lt_N t
  unfold outsAt0
  frame_out
  pointwise [k0_pay2]
  refine Finset.sum_congr rfl fun k _ => ?_
  rw [blk1]
  exact congrArg (· * _) ((pay_at _ _ r k).trans (congrArg₂ (fun x g => nrm x g k) (funext fun d => blk0 m c t r d) (funext fun d => blk2 m c t d)))

/-- The result array. -/
def G : FVec Ideal S32768x10240 .bf16 := fun y => val m c (y 0 : Fin 32768) (y 1 : Fin 10240)

theorem final (c : Dev nD) : (dats m 0 c).arrAt 3 cfg0.N = G m c := by
  refine (dats m 0 c).arrAt_eq_of_covers 3 _ (by decide +kernel) fun t hf y => ?_
  blk_simp
  rw [after0_3]
  have hN := lt_N t
  idx_vars y
  refine (out_at m c t y0 y1).trans ?_
  refine (rfl : _ = G m c (ix2 ⟨t.val * 512 + y0.val, by omega⟩ y1)).trans ?_
  congr 1
  blk_ext [idx t]

theorem algebraic : Cert.algebraic_Kernel10Ideal_Reference10Ideal (hKernel10Ideal := Cert.Kernel10Ideal.Gen.facts) (hReference10Ideal := Cert.Reference10Ideal.Gen.facts) := by
  intro m g m' g' hpre hag
  refine ⟨fun c => G m c, ?_, ?_⟩
  · refine (θ_run _ _ _).mono (fun r h c => ⟨(h c).1.trans (final m c), (h c).2⟩) (Cert.Kernel10Ideal.Value.run_blocks m g)
  · refine (θ_run _ _ _).mono (fun r h c => ⟨(h c).1.trans ?_, (h c).2⟩) (Cert.Reference10Ideal.Value.run m' g')
    obtain ⟨h0, h1, h2⟩ := hag c
    rw [h0, h1, h2]
    funext y
    idx_vars y
    exact refT_at _ _ _ y0 y1

end Cert.Proof.MmDsaQ

end
-- ==== Proof.FoxRef.lean ====
/-
  Hand-written, untrusted. The forgetting-attention reference read at an index: its composed term cut into the stages the
  problem names (the log of the forget gate, its running sum, the logits, the causal mask, the softmax), each read as a
  formula over the extended reals.
-/
module

public import proofs.«01_k».proof.Proof.Gen.ReferenceIdeal.Run
public import Idealize.ShloMosaic.Lib.Pointwise

@[expose] public section

set_option maxRecDepth 16384

noncomputable section

namespace Cert.Proof.Fox

open Idealize.ShloMosaic Idealize.ShloMosaic.TcCoe Idealize.SL.Sem
open Cert.ReferenceIdeal Cert.ReferenceIdeal.Gen

/-! ## The stages as array terms -/

/-- The log of the forget gate. -/
def lfT (f : FVec Ideal S8x4096x16 .f32) (b : FVec Ideal S16 .f32) : FVec Ideal S8x4096x16 .f32 :=
  (Host.negf (select (cmpf .une (subf (Host.negf (addf f (broadcastInDim S8x4096x16 ![0, 1, 2] bcast_S1x1x16_S8x4096x16_0_1_2 (broadcastInDim S1x1x16 ![2] bcast_S16_S1x1x16_2 b)))) (broadcastInDim S8x4096x16 ![] bcast_S_S8x4096x16 (constant S_ .f32 0x00000000#32))) (subf (Host.negf (addf f (broadcastInDim S8x4096x16 ![0, 1, 2] bcast_S1x1x16_S8x4096x16_0_1_2 (broadcastInDim S1x1x16 ![2] bcast_S16_S1x1x16_2 b)))) (broadcastInDim S8x4096x16 ![] bcast_S_S8x4096x16 (constant S_ .f32 0x00000000#32)))) (addf (Host.negf (addf f (broadcastInDim S8x4096x16 ![0, 1, 2] bcast_S1x1x16_S8x4096x16_0_1_2 (broadcastInDim S1x1x16 ![2] bcast_S16_S1x1x16_2 b)))) (broadcastInDim S8x4096x16 ![] bcast_S_S8x4096x16 (constant S_ .f32 0x00000000#32))) (addf (maximumf (Host.negf (addf f (broadcastInDim S8x4096x16 ![0, 1, 2] bcast_S1x1x16_S8x4096x16_0_1_2 (broadcastInDim S1x1x16 ![2] bcast_S16_S1x1x16_2 b)))) (broadcastInDim S8x4096x16 ![] bcast_S_S8x4096x16 (constant S_ .f32 0x00000000#32))) (Host.log1p (Host.exp (Host.negf (Host.absf (subf (Host.negf (addf f (broadcastInDim S8x4096x16 ![0, 1, 2] bcast_S1x1x16_S8x4096x16_0_1_2 (broadcastInDim S1x1x16 ![2] bcast_S16_S1x1x16_2 b)))) (broadcastInDim S8x4096x16 ![] bcast_S_S8x4096x16 (constant S_ .f32 0x00000000#32))))))))))

/-- The running sum of the log forget gates along the sequence. -/
def cumT (l : FVec Ideal S8x4096x16 .f32) : FVec Ideal S8x4096x16 .f32 :=
  Host.reduceWindowAdd ![1, 4096, 1] ![1, 1, 1] ![0, 4095, 0] ![0, 0, 0] l (broadcastInDim S_ ![] bcast_S_S_ (constant S_ .f32 0x00000000#32)) reduceWindows_S8x4096x16_S8x4096x16_w1s1p0_0_w4096s1p4095_0_w1s1p0_0 h_S_

/-- The running sum with the head before the position. -/
def cumH (u : FVec Ideal S8x4096x16 .f32) : FVec Ideal S8x16x4096 .f32 :=
  transpose S8x16x4096 [0, 2, 1] u transposes_S8x4096x16_S8x16x4096_0_2_1

/-- The causal mask: key position at most the query's. -/
def maskT : IVec S8x16x4096x4096 1 :=
  (broadcastInDim S8x16x4096x4096 ![2, 3] bcast_S4096x4096_S8x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The logits: the scaled product of query and key plus the decay between them. -/
def logT (q k : FVec Ideal S8x4096x2048 .f32) (u : FVec Ideal S8x16x4096 .f32) : FVec Ideal S8x16x4096x4096 .f32 :=
  (addf (mulf (Host.dotGeneral dot_S8x4096x16x128_S8x4096x16x128_S8x16x4096x4096_3_3_1_1_02_02 none (shapeCast _ q shapeCasts_S8x4096x2048_S8x4096x16x128) (shapeCast _ k shapeCasts_S8x4096x2048_S8x4096x16x128)) (broadcastInDim S8x16x4096x4096 ![] bcast_S_S8x16x4096x4096 (Host.rsqrt (constant S_ .f32 0x43000000#32)))) (subf (broadcastInDim S8x16x4096x4096 ![0, 1, 2, 3] bcast_S8x16x4096x1_S8x16x4096x4096_0_1_2_3 (broadcastInDim S8x16x4096x1 ![0, 1, 2] bcast_S8x16x4096_S8x16x4096x1_0_1_2 u)) (broadcastInDim S8x16x4096x4096 ![0, 1, 2, 3] bcast_S8x16x1x4096_S8x16x4096x4096_0_1_2_3 (broadcastInDim S8x16x1x4096 ![0, 1, 3] bcast_S8x16x4096_S8x16x1x4096_0_1_3 u))))

/-- The masked logits. -/
def zT (l : FVec Ideal S8x16x4096x4096 .f32) : FVec Ideal S8x16x4096x4096 .f32 :=
  select maskT l (broadcastInDim S8x16x4096x4096 ![] bcast_S_S8x16x4096x4096 (id (constant S_ .f32 0xFF800000#32)))

/-- Each row's maximum. -/
def mxT (z : FVec Ideal S8x16x4096x4096 .f32) : FVec Ideal S8x16x4096 .f32 :=
  Host.reduce FloatOps.maximumf z (constant S_ .f32 0xFF800000#32) reducesTo_S8x16x4096x4096_S8x16x4096_d3 h_S_

/-- The exponentials of the masked logits less the row's maximum. -/
def eT (z : FVec Ideal S8x16x4096x4096 .f32) (mx : FVec Ideal S8x16x4096 .f32) : FVec Ideal S8x16x4096x4096 .f32 :=
  (select maskT (Host.exp (subf z (broadcastInDim S8x16x4096x4096 ![0, 1, 2, 3] bcast_S8x16x4096x1_S8x16x4096x4096_0_1_2_3 (select (cmpf .olt (Host.absf (broadcastInDim S8x16x4096x1 ![0, 1, 2] bcast_S8x16x4096_S8x16x4096x1_0_1_2 mx)) (broadcastInDim S8x16x4096x1 ![] bcast_S_S8x16x4096x1 (constant S_ .f32 0x7F800000#32))) (broadcastInDim S8x16x4096x1 ![0, 1, 2] bcast_S8x16x4096_S8x16x4096x1_0_1_2 mx) (broadcastInDim S8x16x4096x1 ![] bcast_S_S8x16x4096x1 (id (constant S_ .f32 0x00000000#32))))))) (broadcastInDim S8x16x4096x4096 ![] bcast_S_S8x16x4096x4096 (id (constant S_ .f32 0x00000000#32))))

/-- The softmax's weights: the exponentials over their row's sum (one where the sum is not positive). -/
def pT (e : FVec Ideal S8x16x4096x4096 .f32) : FVec Ideal S8x16x4096x4096 .f32 :=
  (Host.divf e (broadcastInDim S8x16x4096x4096 ![0, 1, 2, 3] bcast_S8x16x4096x1_S8x16x4096x4096_0_1_2_3 (select (cmpf .ogt (broadcastInDim S8x16x4096x1 ![0, 1, 2] bcast_S8x16x4096_S8x16x4096x1_0_1_2 (Host.reduceAdd e (constant S_ .f32 0x00000000#32) reducesTo_S8x16x4096x4096_S8x16x4096_d3 h_S_)) (broadcastInDim S8x16x4096x1 ![] bcast_S_S8x16x4096x1 (constant S_ .f32 0x00000000#32))) (broadcastInDim S8x16x4096x1 ![0, 1, 2] bcast_S8x16x4096_S8x16x4096x1_0_1_2 (Host.reduceAdd e (constant S_ .f32 0x00000000#32) reducesTo_S8x16x4096x4096_S8x16x4096_d3 h_S_)) (broadcastInDim S8x16x4096x1 ![] bcast_S_S8x16x4096x1 (id (constant S_ .f32 0x3F800000#32))))))

/-- The weighted sum of the values, heads joined. -/
def outT (v : FVec Ideal S8x4096x2048 .f32) (p : FVec Ideal S8x16x4096x4096 .f32) : FVec Ideal S8x4096x2048 .bf16 :=
  truncf .bf16 (shapeCast _ (transpose S8x4096x16x128 [0, 3, 1, 2] (Host.dotGeneral dot_S8x4096x16x128_S8x16x4096x4096_S8x16x128x4096_1_3_3_2_02_01 none (shapeCast _ v shapeCasts_S8x4096x2048_S8x4096x16x128) p) transposes_S8x16x128x4096_S8x4096x16x128_0_3_1_2) shapeCasts_S8x4096x16x128_S8x4096x2048) bitsLt_bf16_f32

/-- The reference's result, by its stages. -/
def refT (q k v : FVec Ideal S8x4096x2048 .f32) (f : FVec Ideal S8x4096x16 .f32) (b : FVec Ideal S16 .f32) : FVec Ideal S8x4096x2048 .bf16 :=
  outT v (pT (eT (zT (logT q k (cumH (cumT (lfT f b))))) (mxT (zT (logT q k (cumH (cumT (lfT f b))))))))

theorem res_eq (m : (ℓ : Loc nD τ sig) → Buf (Elt Ideal) ℓ) (c : Dev nD) :
    Cert.ReferenceIdeal.Value.res_out0 m c = refT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The stages at an index -/

theorem bits_bot : Ideal.ofBits FTy.f32 0xFF800000#32 = ⊥ := by simp [Ideal.ofBits, Ideal.ieee]

theorem bits_top : Ideal.ofBits FTy.f32 0x7F800000#32 = ⊤ := by simp [Ideal.ofBits, Ideal.ieee]

theorem bits_zero : Ideal.ofBits FTy.f32 0x00000000#32 = 0 := by simp [Ideal.ofBits, Ideal.ieee]

theorem bits_one : Ideal.ofBits FTy.f32 0x3F800000#32 = 1 := by
  simp [Ideal.ofBits, Ideal.ieee, -EReal.coe_mul]; norm_num

/-- The log of a forget gate, from its logit: minus the soft-plus of minus the logit. -/
def lgs (z : EReal) : EReal :=
  -(max (-z) 0 + Ideal.log1p (Ideal.exp (-(FloatOps.absf (F := Ideal) (φ := .f32) (-z) : EReal))))

theorem lfT_at (f : FVec Ideal S8x4096x16 .f32) (b : FVec Ideal S16 .f32) (i : Fin 8) (s : Fin 4096) (h : Fin 16) :
    lfT f b (ix3 i s h) = lgs (f (ix3 i s h) + b (ix1 h)) := by
  pointwise [lfT]
  rw [if_neg (fun h => h rfl)]
  rfl

theorem cumH_at (u : FVec Ideal S8x4096x16 .f32) (i : Fin 8) (h : Fin 16) (s : Fin 4096) :
    cumH u (ix3 i h s) = u (ix3 i s h) := by
  pointwise [cumH]

theorem maskT_at (i : Fin 8) (h : Fin 16) (t s : Fin 4096) : maskT (ix4 i h t s) = if s ≤ t then 1#1 else 0#1 := by
  pointwise [maskT]
  have h1 : (BitVec.ofNat 32 s.val).toInt = s.val := by
    rw [BitVec.toInt_eq_toNat_of_lt (by rw [BitVec.toNat_ofNat]; omega), BitVec.toNat_ofNat, Nat.mod_eq_of_lt (by omega)]
  have h2 : (BitVec.ofNat 32 t.val).toInt = t.val := by
    rw [BitVec.toInt_eq_toNat_of_lt (by rw [BitVec.toNat_ofNat]; omega), BitVec.toNat_ofNat, Nat.mod_eq_of_lt (by omega)]
  simp only [IntOp.cmpi, BitVec.sle, h1, h2, Fin.le_def]
  split <;> rename_i hh
  · rw [decide_eq_true (by exact_mod_cast hh)]; rfl
  · rw [decide_eq_false (by simpa using hh)]; rfl

/-- The logit of key `s` for query `t`, in sequence `i` and head `h`. -/
def lg (q k : Fin 8 → Fin 4096 → Fin 2048 → EReal) (u : Fin 8 → Fin 4096 → Fin 16 → EReal) (i : Fin 8) (h : Fin 16) (t s : Fin 4096) : EReal :=
  (∑ x : Fin 128, q i t ⟨h.val * 128 + x.val, by omega⟩ * k i s ⟨h.val * 128 + x.val, by omega⟩) * Ideal.rsqrt (Ideal.ofBits FTy.f32 1124073472#32)
    + (u i t h - u i s h)

theorem logT_at (q k : FVec Ideal S8x4096x2048 .f32) (u : FVec Ideal S8x4096x16 .f32) (i : Fin 8) (h : Fin 16) (t s : Fin 4096) :
    logT q k (cumH u) (ix4 i h t s) = lg (fun i s d => q (ix3 i s d)) (fun i s d => k (ix3 i s d)) (fun i s h => u (ix3 i s h)) i h t s := by
  pointwise [logT, cumH]
  rfl

/-- A row of logits with the keys after the query left out. -/
def zz (t : Fin 4096) (L : Fin 4096 → EReal) (s : Fin 4096) : EReal := if s ≤ t then L s else ⊥

theorem zT_at (l : FVec Ideal S8x16x4096x4096 .f32) (i : Fin 8) (h : Fin 16) (t s : Fin 4096) :
    zT l (ix4 i h t s) = zz t (fun s => l (ix4 i h t s)) s := by
  pointwise [zT]
  rw [maskT_at]
  unfold zz
  split
  · rfl
  · exact bits_bot

/-- The row's maximum. -/
def mx (z : Fin 4096 → EReal) : EReal := Finset.univ.sup z

theorem mxT_at (z : FVec Ideal S8x16x4096x4096 .f32) (i : Fin 8) (h : Fin 16) (t : Fin 4096) :
    mxT z (ix3 i h t) = mx fun s => z (ix4 i h t s) := by
  pointwise [mxT]
  show Finset.fold max (Ideal.ofBits FTy.f32 0xFF800000#32) _ _ = _
  rw [bits_bot]
  rfl

/-- The row's shift: its maximum where that is finite. -/
def shf (m : EReal) : EReal := if (FloatOps.absf (F := Ideal) (φ := .f32) m : EReal) < ⊤ then m else 0

theorem eT_at (z : FVec Ideal S8x16x4096x4096 .f32) (mx : FVec Ideal S8x16x4096 .f32) (i : Fin 8) (h : Fin 16) (t s : Fin 4096) :
    eT z mx (ix4 i h t s) = if s ≤ t then Ideal.exp (z (ix4 i h t s) - shf (mx (ix3 i h t))) else 0 := by
  pointwise [eT]
  rw [maskT_at]
  split
  · show Ideal.exp (_ - if _ < Ideal.ofBits FTy.f32 0x7F800000#32 then _ else Ideal.ofBits FTy.f32 0x00000000#32) = _
    rw [bits_top, bits_zero]
    rfl
  · exact bits_zero

/-- A softmax weight from the exponentials of its row. -/
def wt (e : Fin 4096 → EReal) (s : Fin 4096) : EReal := Ideal.div (e s) (if 0 < ∑ x, e x then ∑ x, e x else 1)

theorem pT_at (e : FVec Ideal S8x16x4096x4096 .f32) (i : Fin 8) (h : Fin 16) (t s : Fin 4096) :
    pT e (ix4 i h t s) = wt (fun s => e (ix4 i h t s)) s := by
  pointwise [pT]
  show Ideal.div _ (if _ then _ else Ideal.ofBits FTy.f32 0x3F800000#32) = _
  rw [bits_one]
  rfl

theorem outT_at (v : FVec Ideal S8x4096x2048 .f32) (p : FVec Ideal S8x16x4096x4096 .f32) (i : Fin 8) (t : Fin 4096) (d : Fin 2048) :
    outT v p (ix3 i t d) = ∑ s, v (ix3 i s d) * p (ix4 i ⟨d.val / 128, by omega⟩ t s) := by
  pointwise [outT]

/-- The attention's result at query `t` and feature `d`: the softmax of the masked row of logits, against the values. -/
def att (L v : Fin 4096 → EReal) (t : Fin 4096) : EReal :=
  ∑ s, v s * wt (fun s => if s ≤ t then Ideal.exp (zz t L s - shf (mx (zz t L))) else 0) s

theorem refT_at (q k v : FVec Ideal S8x4096x2048 .f32) (f : FVec Ideal S8x4096x16 .f32) (b : FVec Ideal S16 .f32)
    (i : Fin 8) (t : Fin 4096) (d : Fin 2048) :
    refT q k v f b (ix3 i t d)
      = att (lg (fun i s d => q (ix3 i s d)) (fun i s d => k (ix3 i s d)) (fun i s h => cumT (lfT f b) (ix3 i s h)) i ⟨d.val / 128, by omega⟩ t)
          (fun s => v (ix3 i s d)) t := by
  unfold refT att
  rw [outT_at]
  refine Finset.sum_congr rfl fun s _ => ?_
  rw [pT_at]
  simp only [eT_at, mxT_at, zT_at, logT_at]

end Cert.Proof.Fox

end
-- ==== Proof.FoxBlk.lean ====
/-
  Hand-written, untrusted. The forgetting-attention kernel's ideal program: the blocks a grid point reads, as formulas of
  the program's arguments.
-/
module

public import proofs.«01_k».proof.Proof.FoxRef
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Proof.Fox

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The arguments as functions of their coordinates -/

/-- The queries. -/
abbrev aQ (b : Fin 8) (s : Fin 4096) (d : Fin 2048) : EReal := (m ((c : Thread nD τ).loc main_arg0) : FVec Ideal S8x4096x2048 .f32) (ix3 b s d)
/-- The keys. -/
abbrev aK (b : Fin 8) (s : Fin 4096) (d : Fin 2048) : EReal := (m ((c : Thread nD τ).loc main_arg1) : FVec Ideal S8x4096x2048 .f32) (ix3 b s d)
/-- The values. -/
abbrev aV (b : Fin 8) (s : Fin 4096) (d : Fin 2048) : EReal := (m ((c : Thread nD τ).loc main_arg2) : FVec Ideal S8x4096x2048 .f32) (ix3 b s d)
/-- The running sum of the log forget gates. -/
abbrev aU (b : Fin 8) (s : Fin 4096) (h : Fin 16) : EReal :=
  cumT (lfT (m ((c : Thread nD τ).loc main_arg3) : FVec Ideal S8x4096x16 .f32) (m ((c : Thread nD τ).loc main_arg4) : FVec Ideal S16 .f32)) (ix3 b s h)

/-- The base-two logarithm of `e`, as the host computes it. -/
def l2e : EReal := Ideal.div 1 (Ideal.log (Ideal.ofBits FTy.f32 0x40000000#32))
/-- The queries' scale. -/
def qsc : EReal := Ideal.rsqrt (Ideal.ofBits FTy.f32 1124073472#32) * l2e

/-! ## The blocks a point reads -/

theorem lt_N (t : Fin cfg0.N) : t.val < 256 := t.isLt

theorem idx : ∀ t : Fin cfg0.N, win0_0.index t = ![t.val / 32, t.val % 4, t.val / 4 % 8] ∧ win0_1.index t = ![t.val / 32, 0, 8 + t.val / 4 % 8]
    ∧ win0_2.index t = ![t.val / 32, 0, 16 + t.val / 4 % 8] ∧ win0_3.index t = ![t.val / 32, t.val / 4 % 8, 0, 0]
    ∧ win0_4.index t = ![0, 0] ∧ win0_5.index t = ![t.val / 32, t.val % 4, t.val / 4 % 8] := (by decide +kernel : ∀ t : Fin grid0.N, _)

/-- The host's join of scaled queries, keys and values. -/
theorem V_v7 : V m c main_v7 = (concatenate S8x4096x6144 2 [⟨S8x4096x2048, mulf (m ((c : Thread nD τ).loc main_arg0) : FVec Ideal S8x4096x2048 .f32) (broadcastInDim S8x4096x2048 ![] bcast_S_S8x4096x2048 (mulf (Host.rsqrt (constant S_ .f32 0x43000000#32)) (Host.divf (constant S_ .f32 0x3F800000#32) (Host.log (constant S_ .f32 0x40000000#32)))))⟩, ⟨S8x4096x2048, (m ((c : Thread nD τ).loc main_arg1) : FVec Ideal S8x4096x2048 .f32)⟩, ⟨S8x4096x2048, (m ((c : Thread nD τ).loc main_arg2) : FVec Ideal S8x4096x2048 .f32)⟩] concatenates_S8x4096x2048_S8x4096x2048_S8x4096x2048_S8x4096x6144_d2 : FVec Ideal S8x4096x6144 .f32) := rfl

/-- The embedding of the eight bias rows: the identity's first eight rows. -/
theorem V_v34 : V m c main_v34 = (uitofp .bf16 (cmpi .eq (addi (iotaInDim S8x128 32 0) (broadcastInDim S8x128 ![] bcast_S_S8x128 (constantI S_ 32 0#32))) (iotaInDim S8x128 32 1)) : FVec Ideal S8x128 .bf16) := rfl

/-- The negated running sum in base two. -/
def negT (u : FVec Ideal S8x4096x16 .f32) : FVec Ideal S8x4096x16 .f32 :=
  mulf (Host.negf u) (broadcastInDim S8x4096x16 ![] bcast_S_S8x4096x16 (Host.divf (constant S_ .f32 0x3F800000#32) (Host.log (constant S_ .f32 0x40000000#32))))

/-- What rounding to the narrow format leaves of `w`. -/
def remT (w : FVec Ideal S8x4096x16 .f32) : FVec Ideal S8x4096x16 .f32 :=
  subf w (extf .f32 (truncf .bf16 w bitsLt_bf16_f32 : FVec Ideal S8x4096x16 .bf16) bitsLt_bf16_f32)

/-- One part of the split, rounded, with a leading axis for the join. -/
def partT (w : FVec Ideal S8x4096x16 .f32) : FVec Ideal S1x8x4096x16 .bf16 :=
  broadcastInDim S1x8x4096x16 ![1, 2, 3] bcast_S8x4096x16_S1x8x4096x16_1_2_3 (truncf .bf16 w bitsLt_bf16_f32 : FVec Ideal S8x4096x16 .bf16)

/-- The three parts joined. -/
def catT (x y z : FVec Ideal S1x8x4096x16 .bf16) : FVec Ideal S3x8x4096x16 .bf16 :=
  concatenate S3x8x4096x16 0 [⟨S1x8x4096x16, x⟩, ⟨S1x8x4096x16, y⟩, ⟨S1x8x4096x16, z⟩] concatenates_S1x8x4096x16_S1x8x4096x16_S1x8x4096x16_S3x8x4096x16_d0

/-- The bias rows: the head before the part, the part before the position. -/
def biasT (x : FVec Ideal S3x8x4096x16 .bf16) : FVec Ideal S8x16x3x4096 .bf16 :=
  transpose S8x16x3x4096 [1, 3, 0, 2] x transposes_S3x8x4096x16_S8x16x3x4096_1_3_0_2

/-- The bias rows, filled up to eight. -/
def padT (x : FVec Ideal S8x16x3x4096 .bf16) : FVec Ideal S8x16x8x4096 .bf16 :=
  pad S8x16x8x4096 ![0, 0, 0, 0] ![0, 0, 5, 0] ![0, 0, 0, 0] x (sitofp .bf16 (constantI S_ 32 0#32) : FVec Ideal S_ .bf16) pads_S8x16x3x4096_S8x16x8x4096_000_000_050_000 h_S_

theorem V_v15 : V m c main_v15 = negT (V m c main_v12 : FVec Ideal S8x4096x16 .f32) := rfl
theorem V_v18 : V m c main_v18 = remT (V m c main_v15 : FVec Ideal S8x4096x16 .f32) := rfl
theorem V_v21 : V m c main_v21 = remT (V m c main_v18 : FVec Ideal S8x4096x16 .f32) := rfl
theorem V_v23 : V m c main_v23 = partT (V m c main_v15 : FVec Ideal S8x4096x16 .f32) := rfl
theorem V_v24 : V m c main_v24 = partT (V m c main_v18 : FVec Ideal S8x4096x16 .f32) := rfl
theorem V_v25 : V m c main_v25 = partT (V m c main_v21 : FVec Ideal S8x4096x16 .f32) := rfl
set_option maxHeartbeats 2000000 in
theorem V_v26 : V m c main_v26 = catT (V m c main_v23 : FVec Ideal S1x8x4096x16 .bf16) (V m c main_v24 : FVec Ideal S1x8x4096x16 .bf16) (V m c main_v25 : FVec Ideal S1x8x4096x16 .bf16) := by
  unfold catT
  rfl
theorem V_v27 : V m c main_v27 = biasT (V m c main_v26 : FVec Ideal S3x8x4096x16 .bf16) := rfl
theorem V_v28 : V m c main_v28 = padT (V m c main_v27 : FVec Ideal S8x16x3x4096 .bf16) := rfl

theorem V_v12a : V m c main_v12 = (Host.reduceWindowAdd ![1, 4096, 1] ![1, 1, 1] ![0, 4095, 0] ![0, 0, 0] (V m c main_v11 : FVec Ideal S8x4096x16 .f32) (broadcastInDim S_ ![] bcast_S_S_ (constant S_ .f32 0x00000000#32)) reduceWindows_S8x4096x16_S8x4096x16_w1s1p0_0_w4096s1p4095_0_w1s1p0_0 h_S_ : FVec Ideal S8x4096x16 .f32) := rfl

theorem V_v11 : V m c main_v11 = lfT (m ((c : Thread nD τ).loc main_arg3) : FVec Ideal S8x4096x16 .f32) (m ((c : Thread nD τ).loc main_arg4) : FVec Ideal S16 .f32) := by
  unfold lfT
  rfl

theorem V_v12 : V m c main_v12 = cumT (lfT (m ((c : Thread nD τ).loc main_arg3) : FVec Ideal S8x4096x16 .f32) (m ((c : Thread nD τ).loc main_arg4) : FVec Ideal S16 .f32)) := by
  rw [V_v12a, V_v11]
  unfold cumT
  rfl

theorem blk0 (t : Fin cfg0.N) (r : Fin 1024) (x : Fin 256) :
    (iblk m c 0 t : FVec Ideal S1x1024x256 .bf16) (ix3 0 r x)
      = aQ m c ⟨t.val / 32, by have := lt_N t; omega⟩ ⟨t.val % 4 * 1024 + r.val, by omega⟩ ⟨t.val / 4 % 8 * 256 + x.val, by omega⟩ * qsc := by
  have := lt_N t
  blk_simp [iblk, idx t]
  rw [V_v7]
  pointwise
  have h2 : ((((View.whole main_v7).slice (win0_0.rect t)).emb (ix3 0 r x) 2 : Fin _) : ℕ) = t.val / 4 % 8 * 256 + x.val := by
    blk_simp [idx t]
  rw [dif_pos (by rw [h2]; omega)]
  congr 2
  blk_ext [idx t]

theorem eye_bits : ∀ (j : Fin 8) (l : Fin 128), IntOp.cmpi CmpIPredicate.eq (IntOp.addi (BitVec.ofNat 32 j.val) 0#32) (BitVec.ofNat 32 l.val)
    = if j.val = l.val then 1#1 else 0#1 := by decide +kernel

theorem blk1 (t : Fin cfg0.N) (s : Fin 4096) (x : Fin 256) :
    (iblk m c 1 t : FVec Ideal S1x4096x256 .bf16) (ix3 0 s x)
      = aK m c ⟨t.val / 32, by have := lt_N t; omega⟩ s ⟨t.val / 4 % 8 * 256 + x.val, by omega⟩ := by
  have := lt_N t
  blk_simp [iblk, idx t]
  rw [V_v7]
  pointwise
  have h2 : ((((View.whole main_v7).slice (win0_1.rect t)).emb (ix3 0 s x) 2 : Fin _) : ℕ) = (8 + t.val / 4 % 8) * 256 + x.val := by
    blk_simp [idx t]
  rw [dif_neg (by rw [h2]; omega), dif_pos (by rw [h2]; omega)]
  congr 1
  blk_ext [idx t]

theorem blk2 (t : Fin cfg0.N) (s : Fin 4096) (x : Fin 256) :
    (iblk m c 2 t : FVec Ideal S1x4096x256 .bf16) (ix3 0 s x)
      = aV m c ⟨t.val / 32, by have := lt_N t; omega⟩ s ⟨t.val / 4 % 8 * 256 + x.val, by omega⟩ := by
  have := lt_N t
  blk_simp [iblk, idx t]
  rw [V_v7]
  pointwise
  have h2 : ((((View.whole main_v7).slice (win0_2.rect t)).emb (ix3 0 s x) 2 : Fin _) : ℕ) = (16 + t.val / 4 % 8) * 256 + x.val := by
    blk_simp [idx t]
  rw [dif_neg (by rw [h2]; omega), dif_neg (by rw [h2]; omega)]
  congr 1
  blk_ext [idx t]

theorem blk4 (t : Fin cfg0.N) (j : Fin 8) (l : Fin 128) :
    (iblk m c 4 t : FVec Ideal S8x128 .bf16) (ix2 j l) = if j.val = l.val then (1 : EReal) else (0 : EReal) := by
  have := lt_N t
  blk_simp [iblk, idx t]
  rw [V_v34]
  pointwise
  have h0 : ((((View.whole main_v34).slice (win0_4.rect t)).emb (ix2 j l) 0 : Fin _) : ℕ) = j.val := by
    blk_simp [idx t]
  have h1 : ((((View.whole main_v34).slice (win0_4.rect t)).emb (ix2 j l) 1 : Fin _) : ℕ) = l.val := by
    blk_simp [idx t]
  rw [h0, h1, eye_bits]
  split
  · show (((1#1 : BitVec 1).toNat : ℝ) : EReal) = 1
    simp
  · show (((0#1 : BitVec 1).toNat : ℝ) : EReal) = 0
    simp

theorem padT_at (x y z : FVec Ideal S1x8x4096x16 .bf16) (b : Fin 8) (h : Fin 16) (j : Fin 8) (s : Fin 4096) :
    padT (biasT (catT x y z)) (ix4 b h j s) = if j.val = 0 then x (ix4 0 b s h) else if j.val = 1 then y (ix4 0 b s h) else if j.val = 2 then z (ix4 0 b s h) else (0 : EReal) := by
  pointwise [padT, biasT, catT]
  by_cases h0 : j.val = 0
  · rw [dif_pos (by omega), dif_pos (by omega), if_pos h0]
    congr 1
    blk_ext
  by_cases h1 : j.val = 1
  · rw [dif_pos (by omega), dif_neg (by omega), dif_pos (by omega), if_neg h0, if_pos h1]
    congr 1
    blk_ext
  by_cases h2 : j.val = 2
  · rw [dif_pos (by omega), dif_neg (by omega), dif_neg (by omega), if_neg h0, if_neg h1, if_pos h2]
    congr 1
    blk_ext
  · rw [dif_neg (by omega), if_neg h0, if_neg h1, if_neg h2]
    show (((0#32 : BitVec 32).toInt : ℝ) : EReal) = 0
    simp

theorem negT_at (u : FVec Ideal S8x4096x16 .f32) (b : Fin 8) (h : Fin 16) (s : Fin 4096) : negT u (ix3 b s h) = -(u (ix3 b s h)) * l2e := by
  pointwise [negT]
  rfl

theorem remT_at (u : FVec Ideal S8x4096x16 .f32) (b : Fin 8) (h : Fin 16) (s : Fin 4096) : remT u (ix3 b s h) = u (ix3 b s h) - u (ix3 b s h) := by
  pointwise [remT]

theorem partT_at (u : FVec Ideal S8x4096x16 .f32) (b : Fin 8) (h : Fin 16) (s : Fin 4096) : partT u (ix4 0 b s h) = u (ix3 b s h) := by
  pointwise [partT]

/-- A bias row: the negated running sum in base two, and what two roundings leave of it. -/
def c3 (u : EReal) (j : ℕ) : EReal :=
  if j = 0 then -u * l2e else if j = 1 then -u * l2e - -u * l2e else if j = 2 then (-u * l2e - -u * l2e) - (-u * l2e - -u * l2e) else 0

theorem blk3 (t : Fin cfg0.N) (a : Fin 2) (j : Fin 8) (s : Fin 4096) :
    (iblk m c 3 t : FVec Ideal S1x2x8x4096 .bf16) (ix4 0 a j s)
      = c3 (aU m c ⟨t.val / 32, by have := lt_N t; omega⟩ s ⟨t.val / 4 % 8 * 2 + a.val, by omega⟩) j.val := by
  have := lt_N t
  blk_simp [iblk, idx t]
  have e : ((View.whole main_v28).slice (win0_3.rect t)).emb (ix4 0 a j s)
      = (ix4 (⟨t.val / 32, by omega⟩ : Fin 8) (⟨t.val / 4 % 8 * 2 + a.val, by omega⟩ : Fin 16) j s) := by
    blk_ext [idx t]
  rw [e, V_v28, V_v27, V_v26, V_v23, V_v24, V_v25, V_v21, V_v18, V_v15, V_v12]
  rw [padT_at, partT_at, partT_at, partT_at]
  simp only [remT_at, negT_at]
  rfl

end Cert.Proof.Fox

end
-- ==== Proof.FoxMath.lean ====
/-
  Hand-written, untrusted. The running softmax of a row of base-two scores, chunk by chunk, over the extended reals: its
  closed form after a number of chunks, and its quotient as the softmax of the row's natural logits.
-/
module

public import proofs.«01_k».proof.Proof.FoxRef

@[expose] public section

noncomputable section

namespace Cert.Proof.Fox

open Idealize.ShloMosaic

/-! ## The running softmax -/

/-- The running maximum after `n` chunks of 1024 scores. -/
def om (z : ℕ → EReal) : ℕ → EReal
  | 0 => ⊥
  | n + 1 => max (om z n) (Finset.univ.sup fun s : Fin 1024 => z (n * 1024 + s.val))

/-- The running weighted sum after `n` chunks. -/
def oa (z v : ℕ → EReal) : ℕ → EReal
  | 0 => 0
  | n + 1 => Ideal.exp2 (om z n - om z (n + 1)) * oa z v n
      + ∑ s : Fin 1024, v (n * 1024 + s.val) * Ideal.exp2 (z (n * 1024 + s.val) - om z (n + 1))

/-- A score that is a real number or masked out. -/
def Sc (x : EReal) : Prop := x = ⊥ ∨ ∃ r : ℝ, x = (r : EReal)

theorem Sc.max {x y : EReal} (hx : Sc x) (hy : Sc y) : Sc (max x y) := by
  rcases le_total x y with h | h
  · rwa [max_eq_right h]
  · rwa [max_eq_left h]

theorem Sc.sup {ι : Type} (s : Finset ι) (f : ι → EReal) (h : ∀ i, Sc (f i)) : Sc (s.sup f) := by
  classical
  induction s using Finset.induction_on with
  | empty => exact Or.inl rfl
  | insert a s ha ih => rw [Finset.sup_insert]; exact (h a).max ih

theorem om_sc (z : ℕ → EReal) (h : ∀ i, Sc (z i)) : ∀ n, Sc (om z n)
  | 0 => Or.inl rfl
  | n + 1 => (om_sc z h n).max (Sc.sup _ _ fun i => h _)

theorem om_le_succ (z : ℕ → EReal) (n : ℕ) : om z n ≤ om z (n + 1) := le_max_left _ _

theorem om_real (z : ℕ → EReal) (h : ∀ i, Sc (z i)) (h0 : z 0 ≠ ⊥) (n : ℕ) : ∃ r : ℝ, om z (n + 1) = (r : EReal) := by
  rcases om_sc z h (n + 1) with hb | hr
  · exfalso
    have h1 : z 0 ≤ om z 1 := by
      have : z (0 * 1024 + (0 : Fin 1024).val) ≤ Finset.univ.sup fun s : Fin 1024 => z (0 * 1024 + s.val) :=
        Finset.le_sup (f := fun s : Fin 1024 => z (0 * 1024 + s.val)) (Finset.mem_univ (0 : Fin 1024))
      exact le_trans this (le_max_right _ _)
    have h2 : om z 1 ≤ om z (n + 1) := by
      clear hb
      induction n with
      | zero => exact le_refl _
      | succ n ih => exact le_trans ih (om_le_succ z _)
    rw [hb] at h2
    exact h0 (le_bot_iff.mp (le_trans h1 h2))
  · exact hr

theorem exp2_shift (r : ℝ) (x : EReal) (hx : Sc x) (p : ℝ) :
    Ideal.exp2 ((r : EReal) - (p : EReal)) * Ideal.exp2 (x - (r : EReal)) = Ideal.exp2 (x - (p : EReal)) := by
  rcases hx with rfl | ⟨y, rfl⟩
  · rw [EReal.bot_sub, EReal.bot_sub]
    show _ * (0 : EReal) = 0
    exact mul_zero _
  · rw [← EReal.coe_sub, ← EReal.coe_sub, ← EReal.coe_sub]
    show ((Real.rpow 2 (r - p) : ℝ) : EReal) * ((Real.rpow 2 (y - r) : ℝ) : EReal) = ((Real.rpow 2 (y - p) : ℝ) : EReal)
    rw [← EReal.coe_mul]
    congr 1
    show (2 : ℝ) ^ (r - p) * (2 : ℝ) ^ (y - r) = (2 : ℝ) ^ (y - p)
    rw [← Real.rpow_add (by norm_num)]
    congr 1; ring

theorem exp2_real (r : ℝ) : Ideal.exp2 (r : EReal) = (((2 : ℝ) ^ r : ℝ) : EReal) := rfl

/-- A nonnegative real factor goes into a sum. -/
theorem mul_sum_coe {ι : Type} (s : Finset ι) (f : ι → EReal) (r : ℝ) (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top _) _ _

/-- The closed form: the weighted sum of the first chunks' values. -/
theorem oa_eq (z v : ℕ → EReal) (h : ∀ i, Sc (z i)) (h0 : z 0 ≠ ⊥) (n : ℕ) :
    oa z v n = ∑ s ∈ Finset.range (n * 1024), v s * Ideal.exp2 (z s - om z n) := by
  induction n with
  | zero => simp [oa]
  | succ n ih =>
    have hadd : ∑ s ∈ Finset.range ((n + 1) * 1024), v s * Ideal.exp2 (z s - om z (n + 1))
        = ∑ s ∈ Finset.range (n * 1024), v s * Ideal.exp2 (z s - om z (n + 1))
          + ∑ s : Fin 1024, v (n * 1024 + s.val) * Ideal.exp2 (z (n * 1024 + s.val) - om z (n + 1)) := by
      rw [show (n + 1) * 1024 = n * 1024 + 1024 by ring, Finset.sum_range_add, Finset.sum_range (n := 1024)]
    rw [hadd, oa]
    congr 1
    cases n with
    | zero => simp [oa]
    | succ n =>
      obtain ⟨r, hr⟩ := om_real z h h0 n
      obtain ⟨p, hp⟩ := om_real z h h0 (n + 1)
      rw [ih, hr, hp, ← EReal.coe_sub, exp2_real, mul_sum_coe _ _ _ (Real.rpow_nonneg (by norm_num) _)]
      refine Finset.sum_congr rfl fun s _ => ?_
      rw [← exp2_real, EReal.coe_sub, ← exp2_shift r (z s) (h s) p]
      rw [← mul_assoc, ← mul_assoc, mul_comm (v s)]

/-! ## The quotient -/

theorem exp_real (r : ℝ) : Ideal.exp (r : EReal) = ((Real.exp r : ℝ) : EReal) := rfl

theorem shf_real (r : ℝ) : shf (r : EReal) = (r : EReal) := by
  unfold shf
  rw [if_pos]
  show max (r : EReal) (-(r : EReal)) < ⊤
  rw [← EReal.coe_neg]
  exact max_lt (EReal.coe_lt_top _) (EReal.coe_lt_top _)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : EReal) (r : ℝ) (hr : 0 < r) : Ideal.div x (r : EReal) = x * ((r⁻¹ : ℝ) : EReal) := by
  unfold Ideal.div
  rw [if_neg (by exact_mod_cast hr.ne'), ← EReal.coe_inv]

theorem sum_mul_coe {ι : Type} (s : Finset ι) (f : ι → EReal) (r : ℝ) (hr : 0 ≤ r) : (∑ i ∈ s, f i) * (r : EReal) = ∑ i ∈ s, f i * (r : EReal) := by
  rw [mul_comm, mul_sum_coe _ _ _ hr]
  exact Finset.sum_congr rfl fun i _ => mul_comm _ _

/-- The softmax row against the values, as one quotient. -/
theorem att_eq (L : Fin 4096 → ℝ) (v : Fin 4096 → EReal) (t : Fin 4096) :
    ∃ M : ℝ, att (fun s => (L s : EReal)) v t
      = (∑ s, v s * ((if s ≤ t then Real.exp (L s - M) else 0 : ℝ) : EReal)) * (((∑ s, if s ≤ t then Real.exp (L s - M) else 0)⁻¹ : ℝ) : EReal) := by
  have hz : ∀ s, Sc (zz t (fun s => (L s : EReal)) s) := fun s => by
    unfold zz
    split
    · exact Or.inr ⟨_, rfl⟩
    · exact Or.inl rfl
  have hm : ∃ M : ℝ, mx (zz t (fun s => (L s : EReal))) = (M : EReal) := by
    rcases Sc.sup Finset.univ _ hz with hb | hr
    · exfalso
      have : zz t (fun s => (L s : EReal)) t ≤ ⊥ := hb ▸ Finset.le_sup (Finset.mem_univ t)
      rw [zz, if_pos (le_refl t)] at this
      exact EReal.coe_ne_bot _ (le_bot_iff.mp this)
    · exact hr
  obtain ⟨M, hM⟩ := hm
  refine ⟨M, ?_⟩
  have he : (fun s : Fin 4096 => if s ≤ t then Ideal.exp (zz t (fun s => (L s : EReal)) s - shf (mx (zz t fun s => (L s : EReal)))) else 0)
      = fun s => ((if s ≤ t then Real.exp (L s - M) else 0 : ℝ) : EReal) := by
    funext s
    rw [hM, shf_real]
    by_cases h : s ≤ t
    · rw [if_pos h, if_pos h, zz, if_pos h, ← EReal.coe_sub, exp_real]
    · rw [if_neg h, if_neg h]; rfl
  have hD : 0 < ∑ s : Fin 4096, (if s ≤ t then Real.exp (L s - M) else 0) := by
    refine Finset.sum_pos' (fun s _ => ?_) ⟨t, Finset.mem_univ t, ?_⟩
    · split
      · exact (Real.exp_pos _).le
      · exact le_refl _
    · rw [if_pos (le_refl t)]; exact Real.exp_pos _
  unfold att
  rw [he, sum_mul_coe _ _ _ (inv_nonneg.mpr hD.le)]
  refine Finset.sum_congr rfl fun s _ => ?_
  unfold wt
  rw [← coe_sum, if_pos (by exact_mod_cast hD), div_real _ _ hD, mul_assoc]

/-- The kernel's quotient of running sums is the attention's row: the scores are the logits less a constant, in base two. -/
theorem quot_eq (L : Fin 4096 → ℝ) (v : Fin 4096 → EReal) (t : Fin 4096) (u : ℝ) (z w : ℕ → EReal) (n : ℕ) (hn : t.val < (n + 1) * 1024) (hN : (n + 1) * 1024 ≤ 4096)
    (hz : ∀ s : Fin 4096, z s.val = if s ≤ t then (((L s - u) * (Real.log 2)⁻¹ : ℝ) : EReal) else ⊥)
    (hz' : ∀ s, 4096 ≤ s → z s = ⊥) (hw : ∀ s : Fin 4096, w s.val = v s) :
    Ideal.div (oa z w (n + 1)) (oa z (fun _ => 1) (n + 1)) = att (fun s => (L s : EReal)) v t := by
  have hsc : ∀ i, Sc (z i) := fun i => by
    by_cases hi : i < 4096
    · rw [hz ⟨i, hi⟩]
      split
      · exact Or.inr ⟨_, rfl⟩
      · exact Or.inl rfl
    · exact Or.inl (hz' i (by omega))
  have h0 : z 0 ≠ ⊥ := by
    rw [show z 0 = _ from hz ⟨0, by omega⟩, if_pos (Fin.mk_le_of_le_val (Nat.zero_le _))]
    exact EReal.coe_ne_bot _
  obtain ⟨μ, hμ⟩ := om_real z hsc h0 n
  obtain ⟨M, hM⟩ := att_eq L v t
  rw [hM, oa_eq z w hsc h0, oa_eq z _ hsc h0, hμ]
  -- the weights, as reals
  let C : ℝ := Real.exp (M - u - μ * Real.log 2)
  have hC : 0 < C := Real.exp_pos _
  have hwt : ∀ s : Fin 4096, Ideal.exp2 (z s.val - (μ : EReal)) = (((if s ≤ t then Real.exp (L s - M) else 0) * C : ℝ) : EReal) := fun s => by
    rw [hz s]
    by_cases h : s ≤ t
    · rw [if_pos h, if_pos h, ← EReal.coe_sub, exp2_real]
      congr 1
      rw [← Real.exp_add, Real.rpow_def_of_pos (by norm_num)]
      congr 1
      have : Real.log 2 ≠ 0 := (Real.log_pos (by norm_num)).ne'
      field_simp
      ring
    · rw [if_neg h, if_neg h, EReal.bot_sub, zero_mul]
      rfl
  -- the sums over the first chunks are the sums over all keys
  have hall : ∀ g : ℕ → EReal, ∑ s ∈ Finset.range ((n + 1) * 1024), g s * Ideal.exp2 (z s - (μ : EReal))
      = ∑ s : Fin 4096, g s.val * (((if s ≤ t then Real.exp (L s - M) else 0) * C : ℝ) : EReal) := fun g => by
    rw [Finset.sum_congr rfl fun (s : Fin 4096) _ => by rw [← hwt s], ← Finset.sum_range (n := 4096) fun s => g s * Ideal.exp2 (z s - (μ : EReal))]
    refine Finset.sum_subset (Finset.range_subset_range.mpr hN) fun s hs hs' => ?_
    rw [Finset.mem_range] at hs hs'
    have h1 := hz ⟨s, hs⟩
    rw [if_neg (by rw [Fin.le_def]; show ¬ s ≤ t.val; omega)] at h1
    rw [show z s = ⊥ from h1, EReal.bot_sub]
    exact mul_zero _
  have hD : 0 < ∑ s : Fin 4096, (if s ≤ t then Real.exp (L s - M) else 0) := by
    refine Finset.sum_pos' (fun s _ => ?_) ⟨t, Finset.mem_univ t, ?_⟩
    · split
      · exact (Real.exp_pos _).le
      · exact le_refl _
    · rw [if_pos (le_refl t)]; exact Real.exp_pos _
  rw [hall, hall]
  have hden : (∑ s : Fin 4096, (1 : EReal) * (((if s ≤ t then Real.exp (L s - M) else 0) * C : ℝ) : EReal))
      = (((∑ s : Fin 4096, (if s ≤ t then Real.exp (L s - M) else 0)) * C : ℝ) : EReal) := by
    rw [Finset.sum_mul, coe_sum]
    exact Finset.sum_congr rfl fun s _ => one_mul _
  rw [hden, div_real _ _ (mul_pos hD hC)]
  have hnum : (∑ s : Fin 4096, w s.val * (((if s ≤ t then Real.exp (L s - M) else 0) * C : ℝ) : EReal))
      = (∑ s : Fin 4096, v s * ((if s ≤ t then Real.exp (L s - M) else 0 : ℝ) : EReal)) * (C : EReal) := by
    rw [sum_mul_coe _ _ _ hC.le]
    exact Finset.sum_congr rfl fun s _ => by rw [hw, EReal.coe_mul, mul_assoc]
  have hinv : C * ((∑ s : Fin 4096, (if s ≤ t then Real.exp (L s - M) else 0)) * C)⁻¹ = (∑ s : Fin 4096, (if s ≤ t then Real.exp (L s - M) else 0))⁻¹ := by
    generalize (∑ s : Fin 4096, (if s ≤ t then Real.exp (L s - M) else 0)) = D at *
    rw [mul_inv, mul_comm D⁻¹, ← mul_assoc, mul_inv_cancel₀ hC.ne', one_mul]
  rw [hnum, mul_assoc, ← EReal.coe_mul, hinv]

end Cert.Proof.Fox

end
-- ==== Proof.FoxKx.lean ====
module

/- Hand-written, untrusted. What the attention kernel keeps of a head pair's keys and values: the keys with their lanes of decays,
   and the transposed values over rows of ones. -/

public import proofs.«01_k».proof.Proof.FoxBlk
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Proof.Fox

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The two carried buffers: the extended keys and the transposed values -/

/-- The extended keys of head pair `g`: a head's key, then its bias rows. -/
def kxF (g : ℕ) (hg : g < 64) (a : Fin 2) (s : Fin 4096) (x : Fin 256) : EReal :=
  if x.val < 128 then aK m c ⟨g / 8, by omega⟩ s ⟨(g % 8 * 256 + a.val * 128 + x.val) % 2048, Nat.mod_lt _ (by omega)⟩
  else c3 (aU m c ⟨g / 8, by omega⟩ s ⟨g % 8 * 2 + a.val, by omega⟩) (x.val - 128)

/-- The transposed values of head pair `g`, over the rows of ones. -/
def vtF (g : ℕ) (hg : g < 64) (a : Fin 2) (k : Fin 4) (d : Fin 144) (s : Fin 1024) : EReal :=
  if d.val < 128 then aV m c ⟨g / 8, by omega⟩ ⟨k.val * 1024 + s.val, by omega⟩ ⟨(g % 8 * 256 + a.val * 128 + d.val) % 2048, Nat.mod_lt _ (by omega)⟩
  else 1

theorem sum_eye (f : Fin 8 → EReal) (g : ℕ → EReal) (hg : ∀ j : Fin 8, f j = g j.val) (h8 : ∀ l, 8 ≤ l → g l = 0) (l : ℕ) :
    ∑ j : Fin 8, f j * (if j.val = l then (1 : EReal) else 0) = g l := by
  by_cases h : l < 8
  · rw [Finset.sum_eq_single (⟨l, h⟩ : Fin 8)]
    · rw [if_pos rfl, mul_one, hg]
    · intro j _ hj
      rw [if_neg (fun e => hj (Fin.ext e)), mul_zero]
    · intro h; exact absurd (Finset.mem_univ _) h
  · rw [h8 l (by omega)]
    refine Finset.sum_eq_zero fun j _ => ?_
    rw [if_neg (by omega), mul_zero]

theorem c3_far (u : EReal) (l : ℕ) (h : 8 ≤ l) : c3 u l = 0 := by
  unfold c3
  rw [if_neg (by omega), if_neg (by omega), if_neg (by omega)]

theorem aK_congr {b b' : Fin 8} {s s' : Fin 4096} {d d' : Fin 2048} (h0 : b.val = b'.val) (h1 : s.val = s'.val) (h2 : d.val = d'.val) :
    aK m c b s d = aK m c b' s' d' := by
  rw [Fin.ext h0, Fin.ext h1, Fin.ext h2]

theorem aV_congr {b b' : Fin 8} {s s' : Fin 4096} {d d' : Fin 2048} (h0 : b.val = b'.val) (h1 : s.val = s'.val) (h2 : d.val = d'.val) :
    aV m c b s d = aV m c b' s' d' := by
  rw [Fin.ext h0, Fin.ext h1, Fin.ext h2]

theorem aU_congr {b b' : Fin 8} {s s' : Fin 4096} {d d' : Fin 16} (h0 : b.val = b'.val) (h1 : s.val = s'.val) (h2 : d.val = d'.val) :
    aU m c b s d = aU m c b' s' d' := by
  rw [Fin.ext h0, Fin.ext h1, Fin.ext h2]

theorem kx_key (t : Fin cfg0.N) (y0 : Fin 2) (y1 s : Fin 4096) (y2 x : Fin 256) (h1 : y1.val = s.val) (h2 : y2.val < 128) (hx : x.val = y0.val * 128 + y2.val) :
    (iblk m c 1 t : FVec Ideal S1x4096x256 .bf16) (ix3 0 s x) = kxF m c (t.val / 4) (by have := lt_N t; omega) y0 y1 y2 := by
  rw [blk1]
  unfold kxF
  rw [if_pos h2]
  refine aK_congr m c ?_ h1.symm ?_
  · show t.val / 32 = t.val / 4 / 8; omega
  · show t.val / 4 % 8 * 256 + x.val = (t.val / 4 % 8 * 256 + y0.val * 128 + y2.val) % 2048; omega

theorem kx_bias (t : Fin cfg0.N) (y0 a : Fin 2) (y1 s : Fin 4096) (y2 : Fin 256) (l : Fin 128) (h0 : y0.val = a.val) (h1 : y1.val = s.val) (h2 : y2.val = 128 + l.val) :
    ∑ j : Fin 8, HMul.hMul (α := EReal) (β := EReal) (γ := EReal) ((iblk m c 3 t : FVec Ideal S1x2x8x4096 .bf16) (ix4 0 a j s)) ((iblk m c 4 t : FVec Ideal S8x128 .bf16) (ix2 j l))
      = kxF m c (t.val / 4) (by have := lt_N t; omega) y0 y1 y2 := by
  unfold kxF
  rw [if_neg (by omega)]
  rw [Finset.sum_congr rfl fun j _ => by rw [blk3, blk4]]
  rw [sum_eye _ (c3 _) (fun _ => rfl) (c3_far _), show y2.val - 128 = l.val by omega]
  refine congrArg (fun u => c3 u l.val) (aU_congr m c ?_ h1.symm ?_)
  · show t.val / 32 = t.val / 4 / 8; omega
  · show t.val / 4 % 8 * 2 + a.val = t.val / 4 % 8 * 2 + y0.val; omega

theorem vt_val (t : Fin cfg0.N) (y0 : Fin 2) (y1 : Fin 4) (y2 : Fin 144) (y3 : Fin 1024) (s : Fin 4096) (x : Fin 256) (hs : s.val = y1.val * 1024 + y3.val)
    (h2 : y2.val < 128) (hx : x.val = y0.val * 128 + y2.val) :
    (iblk m c 2 t : FVec Ideal S1x4096x256 .bf16) (ix3 0 s x) = vtF m c (t.val / 4) (by have := lt_N t; omega) y0 y1 y2 y3 := by
  rw [blk2]
  unfold vtF
  rw [if_pos h2]
  refine aV_congr m c ?_ hs ?_
  · show t.val / 32 = t.val / 4 / 8; omega
  · show t.val / 4 % 8 * 256 + x.val = (t.val / 4 % 8 * 256 + y0.val * 128 + y2.val) % 2048; omega

theorem vt_one (g : ℕ) (hg : g < 64) (y0 : Fin 2) (y1 : Fin 4) (y2 : Fin 144) (y3 : Fin 1024) (h2 : 128 ≤ y2.val) : (1 : EReal) = vtF m c g hg y0 y1 y2 y3 := by
  unfold vtF
  rw [if_neg (by omega)]

set_option maxHeartbeats 2000000 in
theorem kxA (t : Fin cfg0.N) (ht : t.val % 4 = 0) (y0 : Fin 2) (y1 : Fin 4096) (y2 : Fin 256) :
    ((outsAt0 m c t.val t.isLt).2.1 : FVec Ideal S2x4096x256 .bf16) (ix3 y0 y1 y2) = kxF m c (t.val / 4) (by have := lt_N t; omega) y0 y1 y2 := by
  rw [outsAt0_A m c t ht]; frame_out
  have htN := lt_N t
  canon_tiles x h using (by exact View.cover_of_tiledBy (s := S2x4096x256) _ ![1, 4096, 128] (by sl_kernel_rfl) _)
  all_goals pointwise [h0, h1, h2]
  all_goals idx_vars x
  · exact kx_bias m c t y0 1 y1 x1 y2 x2 (by show y0.val = 1; omega) h1 h2
  · exact kx_key m c t _ _ _ _ _ h1 (by omega) (by show 128 + x2.val = _; omega)
  · exact kx_bias m c t y0 0 y1 x1 y2 x2 (by show y0.val = 0; omega) h1 h2
  · exact kx_key m c t _ _ _ _ _ h1 (by omega) (by show x2.val = _; omega)

set_option maxHeartbeats 4000000 in
theorem vtA (t : Fin cfg0.N) (ht : t.val % 4 = 0) (y0 : Fin 2) (y1 : Fin 4) (y2 : Fin 144) (y3 : Fin 1024) :
    ((outsAt0 m c t.val t.isLt).2.2 : FVec Ideal S2x4x144x1024 .bf16) (ix4 y0 y1 y2 y3) = vtF m c (t.val / 4) (by have := lt_N t; omega) y0 y1 y2 y3 := by
  rw [outsAt0_A m c t ht]; frame_out
  have htN := lt_N t
  canon_tiles x h using (by exact View.cover_of_tiledBy (s := S2x4x144x1024) _ ![1, 1, 16, 1024] (by sl_kernel_rfl) _)
  all_goals pointwise [k0_pay61, k0_pay62, k0_pay63, h0, h1, h2, h3]
  all_goals idx_vars x
  all_goals first
    | exact vt_one m c _ _ _ _ _ _ (by omega)
    | refine vt_val m c t _ _ _ _ _ _ ?_ (by omega) ?_
  all_goals first
    | omega
    | (dsimp only; omega)

end Cert.Proof.Fox

end
-- ==== Proof.FoxPay.lean ====
module

/- Hand-written, untrusted. What the attention kernel's block operations hold at a position: a tile of scores, the running
   maximum after a tile and the running sums after a tile. -/

public import proofs.«01_k».proof.Proof.FoxRef
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Proof.Fox

open Idealize.ShloMosaic Idealize.ShloMosaic.TcCoe Idealize.SL.Sem
open Cert.KernelIdeal Cert.KernelIdeal.Gen

/-- The running maximum after a tile of scores. -/
theorem pay2_at (S : FVec Ideal S1024x1024 .f32) (M : FVec Ideal S1x1024 .f32) (r : Fin 1024) :
    (k0_pay2 (F := Ideal) S M : FVec Ideal S1x1024 .f32) (ix2 0 r) = max (M (ix2 0 r) : EReal) (Finset.univ.sup fun s : Fin 1024 => (S (ix2 s r) : EReal)) := by
  pointwise [k0_pay2]
  rw [bits_bot]
  rfl

/-- The same, as it is stored. -/
theorem pay4_at (S : FVec Ideal S1024x1024 .f32) (M : FVec Ideal S1x1024 .f32) (r : Fin 1024) :
    (k0_pay4 (F := Ideal) S M : FVec Ideal S1x1024 .f32) (ix2 0 r) = max (M (ix2 0 r) : EReal) (Finset.univ.sup fun s : Fin 1024 => (S (ix2 s r) : EReal)) := by
  rw [← pay2_at]
  pointwise [k0_pay4]

/-- The running sums after a tile: the old ones rescaled, and the tile's weighted values. -/
theorem pay3_at (S : FVec Ideal S1024x1024 .f32) (V : FVec Ideal S1x1x144x1024 .bf16) (M : FVec Ideal S1x1024 .f32) (A : FVec Ideal S144x1024 .f32) (d : Fin 144) (r : Fin 1024) :
    (k0_pay3 (F := Ideal) S V M A : FVec Ideal S144x1024 .f32) (ix2 d r)
      = HMul.hMul (α := EReal) (β := EReal) (γ := EReal) (Ideal.exp2 ((M (ix2 0 r) : EReal) - max (M (ix2 0 r) : EReal) (Finset.univ.sup fun s : Fin 1024 => (S (ix2 s r) : EReal)))) (A (ix2 d r))
        + ∑ s : Fin 1024, HMul.hMul (α := EReal) (β := EReal) (γ := EReal) (V (ix4 0 0 d s)) (Ideal.exp2 ((S (ix2 s r) : EReal) - max (M (ix2 0 r) : EReal) (Finset.univ.sup fun s : Fin 1024 => (S (ix2 s r) : EReal)))) := by
  simp only [← pay2_at]
  pointwise [k0_pay3]
  rfl

/-- A tile of scores: products of the key rows with the query rows. -/
theorem dot_at (K Q : FVec Ideal S1x1024x256 .bf16) (z : FVec Ideal S1024x1024 .f32) (hz : z = constant S1024x1024 .f32 0x00000000#32) (s r : Fin 1024) :
    (matmul (F := Ideal) dot_S1024x256_S1024x256_S1024x1024_1_1_0_0_n_n none (shapeCast S1024x256 K shapeCasts_S1x1024x256_S1024x256) (shapeCast S1024x256 Q shapeCasts_S1x1024x256_S1024x256) z : FVec Ideal S1024x1024 .f32) (ix2 s r)
      = ∑ x : Fin 256, HMul.hMul (α := EReal) (β := EReal) (γ := EReal) (K (ix3 0 s x)) (Q (ix3 0 r x)) := by
  subst hz
  pointwise []

end Cert.Proof.Fox

end
-- ==== Proof.FoxMsk.lean ====
module

/- Hand-written, untrusted. The masked tile of scores on the diagonal of the attention kernel. -/

public import proofs.«01_k».proof.Proof.FoxRef
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Proof.Fox

open Idealize.ShloMosaic Idealize.ShloMosaic.TcCoe Idealize.SL.Sem
open Cert.KernelIdeal Cert.KernelIdeal.Gen

/-- The named mask is -∞. -/
theorem mask_bot : Eq (α := EReal) (Named.named (F := Ideal) (φ := .f32) κ "mask" 4048155338#32) ⊥ := by
  rfl

theorem iv_zero (v : BitVec 32) : Scf.iv v 1#32 0 = v := by
  simp [Scf.iv]

/-- Key `s` of the diagonal tile is not after query `r` of it, read off the 32-bit positions. -/
theorem diag_le (n : ℕ) (hn : n < 4) (s r : ℕ) (hs : s < 1024) (hr : r < 1024) :
    IntOp.cmpi CmpIPredicate.sle (IntOp.addi (Scalar.muli (BitVec.ofNat 32 n) 1024#32) (BitVec.ofNat 32 s))
      (IntOp.addi (Scalar.muli (BitVec.ofNat 32 n) 1024#32) (BitVec.ofNat 32 r)) = if s ≤ r then 1#1 else 0#1 := by
  have e : ∀ x : ℕ, x < 1024 → IntOp.addi (Scalar.muli (BitVec.ofNat 32 n) 1024#32) (BitVec.ofNat 32 x) = BitVec.ofNat 32 (n * 1024 + x) := by
    intro x hx
    apply BitVec.eq_of_toNat_eq
    simp [IntOp.addi, Scalar.muli, IntOp.muli]
  have f : ∀ x : ℕ, x < 1024 → (BitVec.ofNat 32 (n * 1024 + x)).toInt = ((n * 1024 + x : ℕ) : ℤ) := by
    intro x hx
    rw [BitVec.toInt_eq_toNat_of_lt] <;> simp <;> omega
  rw [e s hs, e r hr]
  simp only [IntOp.cmpi, BitVec.sle, f s hs, f r hr]
  by_cases h : s ≤ r
  · rw [if_pos h]; simp [h]
  · rw [if_neg h]; simp [h]

/-- The diagonal tile: the scores of later keys are masked. -/
theorem msk_at (i : grid0.Coords) (k : Fin (k0_t3_loop i).trips) (K Q : FVec Ideal S1x1024x256 .bf16) (s r : Fin 1024) :
    (k0_pay39 (F := Ideal) i (BitVec.ofNat 32 (i 2).val) (iota .tc S1024x1024 32 [0] iota_S1024x1024_d0_w32) (k0_pay71 (Scalar.muli (BitVec.ofNat 32 (i 2).val) 1024#32)) 1#32 k K Q : FVec Ideal S1024x1024 .f32) (ix2 s r)
      = if s ≤ r then ∑ x : Fin 256, HMul.hMul (α := EReal) (β := EReal) (γ := EReal) (K (ix3 0 s x)) (Q (ix3 0 r x)) else (⊥ : EReal) := by
  have hk : k.val = 0 := by have := lt_of_lt_of_le k.isLt (k0_t3_abs i).2.1; omega
  pointwise [k0_pay39, k0_pay71]
  rw [hk, iv_zero, diag_le _ (i 2).isLt _ _ s.isLt r.isLt, show Named.named (F := Ideal) (φ := .f32) κ "mask" 4048155338#32 = (⊥ : EReal) from mask_bot]
  by_cases h : s ≤ r
  · rw [if_pos h, if_pos (by exact h)]; rfl
  · rw [if_neg h, if_neg (by exact h)]; rfl

end Cert.Proof.Fox

end
-- ==== Proof.FoxTrip.lean ====
module

/- Hand-written, untrusted. One step of the attention kernel's key loops: what the running maximum and the running sums hold
   after the tile of keys it reads, from what they held before. -/

public import proofs.«01_k».proof.Proof.FoxPay
public import proofs.«01_k».proof.Proof.FoxMsk
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.WritesUnit

@[expose] public section

set_option maxRecDepth 16384

noncomputable section

namespace Cert.Proof.Fox

open Idealize.ShloMosaic Idealize.ShloMosaic.TcCoe Idealize.SL.Sem
open Cert.KernelIdeal Cert.KernelIdeal.Gen

variable (c : Dev nD)

/-- A key's score against a query, from the extended keys and queries. -/
def sc (K : FVec Ideal S2x4096x256 .bf16) (Q : FVec Ideal S2x1024x256 .bf16) (a : Fin 2) (s : Fin 4096) (r : Fin 1024) : EReal :=
  ∑ x : Fin 256, HMul.hMul (α := EReal) (β := EReal) (γ := EReal) (K (ix3 a s x)) (Q (ix3 a r x))

/-- The scores of the keys of tile `κ`. -/
def tile (K : FVec Ideal S2x4096x256 .bf16) (Q : FVec Ideal S2x1024x256 .bf16) (a : Fin 2) (κ : Fin 4) (r : Fin 1024) (s : Fin 1024) : EReal :=
  sc K Q a ⟨κ.val * 1024 + s.val, by omega⟩ r

/-- The maximum after a tile. -/
def nm (M : EReal) (S : Fin 1024 → EReal) : EReal := max M (Finset.univ.sup S)

/-- The sum after a tile. -/
def na (M A : EReal) (S V : Fin 1024 → EReal) : EReal := Ideal.exp2 (M - nm M S) * A + ∑ s, V s * Ideal.exp2 (S s - nm M S)

theorem pay4_of (S : FVec Ideal S1024x1024 .f32) (M : FVec Ideal S1x1024 .f32) (r : Fin 1024) (M' : EReal) (S' : Fin 1024 → EReal)
    (hM : Eq (α := EReal) (M (ix2 0 r)) M') (hS : ∀ s, Eq (α := EReal) (S (ix2 s r)) (S' s)) :
    Eq (α := EReal) ((k0_pay4 (F := Ideal) S M : FVec Ideal S1x1024 .f32) (ix2 0 r)) (nm M' S') := by
  rw [pay4_at]
  unfold nm
  rw [← hM, ← (funext hS : (fun s => S (ix2 s r)) = S')]

theorem pay3_of (S : FVec Ideal S1024x1024 .f32) (V : FVec Ideal S1x1x144x1024 .bf16) (M : FVec Ideal S1x1024 .f32) (A : FVec Ideal S144x1024 .f32) (d : Fin 144) (r : Fin 1024)
    (M' A' : EReal) (S' V' : Fin 1024 → EReal) (hM : Eq (α := EReal) (M (ix2 0 r)) M') (hA : Eq (α := EReal) (A (ix2 d r)) A')
    (hS : ∀ s, Eq (α := EReal) (S (ix2 s r)) (S' s)) (hV : ∀ s, Eq (α := EReal) (V (ix4 0 0 d s)) (V' s)) :
    Eq (α := EReal) ((k0_pay3 (F := Ideal) S V M A : FVec Ideal S144x1024 .f32) (ix2 d r)) (na M' A' S' V') := by
  rw [pay3_at]
  unfold na nm
  rw [← hM, ← hA, ← (funext hS : (fun s => S (ix2 s r)) = S'), ← (funext hV : (fun s => V (ix4 0 0 d s)) = V')]

/-- A load through a unit-stride rectangle reads the position offset by the rectangle's corner. -/
theorem ra {sg : RefSig} {κ : Kind} {sp : Space} {s : Shape} {e : EltTy} {Val : EltTy → Type} (v : View sg κ sp s e) (f : v.ty.Contents Val)
    {off off' size : Fin s.rank → ℕ} (inb : ∀ a, off a + size a ≤ s.size a) (x : (Rect.unit off size inb).shape.Idx) (y : s.Idx) (heq : off = off')
    (h : ∀ a, (y a).val = off' a + (x a).val) : View.readAt Val v (Rect.unit off size inb).toLoadRect f x = v.read Val f y := by
  subst heq
  rw [View.readAt_eq_ld]
  show v.read Val f ((Rect.unit off size inb).idx x) = _
  congr 1
  funext a
  apply Fin.ext
  rw [h a]
  show off a + 1 * (x a).val = _
  omega

variable (𝒱 : Variants) (bd : Option 𝒱.V) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2x8x4096 .bf16) (harg6 : arg6.IsWhole) (arg7 : Memref sig .tc .vmem S8x128 .bf16) (harg7 : arg7.IsWhole) (arg8 : Memref sig .tc .vmem S1x1024x256 .bf16) (harg8 : arg8.IsWhole) (arg9 : Memref sig .tc .vmem S2x1024x256 .bf16) (harg9 : arg9.IsWhole) (arg10 : Memref sig .tc .vmem S2x4096x256 .bf16) (harg10 : arg10.IsWhole) (arg11 : Memref sig .tc .vmem S2x4x144x1024 .bf16) (harg11 : arg11.IsWhole) (arg12 : Memref sig .tc .vmem S1x2048 .f32) (harg12 : arg12.IsWhole) (arg13 : Memref sig .tc .vmem S144x2048 .f32) (harg13 : arg13.IsWhole)  (c0_i32_32 : BitVec 32) (X_arg9 : BufTy.Contents (Elt Ideal) arg9.view.ty) (X_arg10 : BufTy.Contents (Elt Ideal) arg10.view.ty) (X_arg11 : BufTy.Contents (Elt Ideal) arg11.view.ty)

theorem t1m (k : Fin (k0_t1_loop i).trips) (acc : BitVec 32) (f12 : BufTy.Contents (Elt Ideal) arg12.view.ty) (f13 : BufTy.Contents (Elt Ideal) arg13.view.ty)
    (col : Fin 2048) (a : Fin 2) (r : Fin 1024) (hc : col.val = a.val * 1024 + r.val) :
    Eq (α := EReal) ((arg12.view.read (Elt Ideal) (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 c0_i32_32 X_arg9 X_arg10 X_arg11 k acc f12 f13).1) : FVec Ideal S1x2048 .f32) (ix2 0 col))
      (nm ((arg12.view.read (Elt Ideal) f12 : FVec Ideal S1x2048 .f32) (ix2 0 col)) (tile (arg10.view.read (Elt Ideal) X_arg10) (arg9.view.read (Elt Ideal) X_arg9) a (⟨k.val, by have := lt_of_lt_of_le k.isLt (k0_t1_abs i).2.1; omega⟩ : Fin 4) r)) := by
  have hk : k.val < 3 := lt_of_lt_of_le k.isLt (k0_t1_abs i).2.1
  unfold tripL_k0_t1 trip_k0_t1; dsimp only
  by_cases ha : a = 1
  · have ha : a.val = 1 := by rw [ha]; rfl
    rw [View.read_writes_cons_unit_of_mem _ _ _ _ _ _ (ix2 0 r) rfl (by intro b; match b with | ⟨0, _⟩ => rfl | ⟨1, _⟩ => show col.val = 1024 + r.val; omega)]
    unfold trip_k0_t1.sl.v108 trip_k0_t1.sl.v136 trip_k0_t1.sl.v105 trip_k0_t1.sl.v107
    exact pay4_of _ _ r _ _ (ra _ _ _ _ _ rfl (by intro b; match b with | ⟨0, _⟩ => rfl | ⟨1, _⟩ => show col.val = 1024 + r.val; omega))
      (fun s => (dot_at _ _ _ rfl s r).trans (by
        unfold tile sc
        refine Finset.sum_congr rfl fun x _ => ?_
        congr 1
        · refine ra _ _ _ _ _ (k0_off2_eq i k) ?_
          intro b
          match b with
          | ⟨0, _⟩ => show a.val = 1; omega
          | ⟨1, _⟩ => show k.val * 1024 + s.val = 1024 * k.val + s.val; omega
          | ⟨2, _⟩ => show x.val = 0 + x.val; omega
        · refine ra _ _ _ _ _ rfl ?_
          intro b
          match b with
          | ⟨0, _⟩ => show a.val = 1; omega
          | ⟨1, _⟩ => show r.val = 0 + r.val; omega
          | ⟨2, _⟩ => show x.val = 0 + x.val; omega))
  · have ha : a.val = 0 := by omega
    rw [View.read_writes_cons_unit_of_not_mem _ _ _ _ _ _ rfl (1 : Fin 2) (by left; show col.val < 1024; omega),
      View.read_writes_cons_unit_of_mem _ _ _ _ _ _ (ix2 0 r) rfl (by intro b; match b with | ⟨0, _⟩ => rfl | ⟨1, _⟩ => show col.val = 0 + r.val; omega)]
    unfold trip_k0_t1.sl.v115 trip_k0_t1.sl.v114 trip_k0_t1.sl.v113 trip_k0_t1.sl.v102 trip_k0_t1.sl.v99 trip_k0_t1.sl.v101
    exact pay4_of _ _ r _ _ (ra _ _ _ _ _ rfl (by intro b; match b with | ⟨0, _⟩ => rfl | ⟨1, _⟩ => show col.val = 0 + r.val; omega))
      (fun s => (dot_at _ _ _ rfl s r).trans (by
        unfold tile sc
        refine Finset.sum_congr rfl fun x _ => ?_
        congr 1
        · refine ra _ _ _ _ _ (k0_off1_eq i k) ?_
          intro b
          match b with
          | ⟨0, _⟩ => show a.val = 0; omega
          | ⟨1, _⟩ => show k.val * 1024 + s.val = 1024 * k.val + s.val; omega
          | ⟨2, _⟩ => show x.val = 0 + x.val; omega
        · refine ra _ _ _ _ _ rfl ?_
          intro b
          match b with
          | ⟨0, _⟩ => show a.val = 0; omega
          | ⟨1, _⟩ => show r.val = 0 + r.val; omega
          | ⟨2, _⟩ => show x.val = 0 + x.val; omega))

theorem t1a (d : Fin 144) (k : Fin (k0_t1_loop i).trips) (acc : BitVec 32) (f12 : BufTy.Contents (Elt Ideal) arg12.view.ty) (f13 : BufTy.Contents (Elt Ideal) arg13.view.ty)
    (col : Fin 2048) (a : Fin 2) (r : Fin 1024) (hc : col.val = a.val * 1024 + r.val) :
    Eq (α := EReal) ((arg13.view.read (Elt Ideal) (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 c0_i32_32 X_arg9 X_arg10 X_arg11 k acc f12 f13).2) : FVec Ideal S144x2048 .f32) (ix2 d col))
      (na ((arg12.view.read (Elt Ideal) f12 : FVec Ideal S1x2048 .f32) (ix2 0 col)) ((arg13.view.read (Elt Ideal) f13 : FVec Ideal S144x2048 .f32) (ix2 d col)) (tile (arg10.view.read (Elt Ideal) X_arg10) (arg9.view.read (Elt Ideal) X_arg9) a (⟨k.val, by have := lt_of_lt_of_le k.isLt (k0_t1_abs i).2.1; omega⟩ : Fin 4) r) (fun s => (arg11.view.read (Elt Ideal) X_arg11) (ix4 a (⟨k.val, by have := lt_of_lt_of_le k.isLt (k0_t1_abs i).2.1; omega⟩ : Fin 4) d s))) := by
  have hk : k.val < 3 := lt_of_lt_of_le k.isLt (k0_t1_abs i).2.1
  unfold tripL_k0_t1 trip_k0_t1; dsimp only
  by_cases ha : a = 1
  · have ha : a.val = 1 := by rw [ha]; rfl
    rw [View.read_writes_cons_unit_of_mem _ _ _ _ _ _ (ix2 d r) rfl (by intro b; match b with | ⟨0, _⟩ => show d.val = 0 + d.val; omega | ⟨1, _⟩ => show col.val = 1024 + r.val; omega)]
    unfold trip_k0_t1.sl.v108 trip_k0_t1.sl.v136 trip_k0_t1.sl.v105 trip_k0_t1.sl.v107 trip_k0_t1.sl.v146
    exact pay3_of _ _ _ _ d r _ _ _ _ (ra _ _ _ _ _ rfl (by intro b; match b with | ⟨0, _⟩ => rfl | ⟨1, _⟩ => show col.val = 1024 + r.val; omega)) (ra _ _ _ _ _ rfl (by intro b; match b with | ⟨0, _⟩ => show d.val = 0 + d.val; omega | ⟨1, _⟩ => show col.val = 1024 + r.val; omega))
      (fun s => (dot_at _ _ _ rfl s r).trans (by
        unfold tile sc
        refine Finset.sum_congr rfl fun x _ => ?_
        congr 1
        · refine ra _ _ _ _ _ (k0_off2_eq i k) ?_
          intro b
          match b with
          | ⟨0, _⟩ => show a.val = 1; omega
          | ⟨1, _⟩ => show k.val * 1024 + s.val = 1024 * k.val + s.val; omega
          | ⟨2, _⟩ => show x.val = 0 + x.val; omega
        · refine ra _ _ _ _ _ rfl ?_
          intro b
          match b with
          | ⟨0, _⟩ => show a.val = 1; omega
          | ⟨1, _⟩ => show r.val = 0 + r.val; omega
          | ⟨2, _⟩ => show x.val = 0 + x.val; omega))
      (fun s => ra _ _ _ _ _ (k0_off4_eq i k) (by
        intro b
        match b with
        | ⟨0, _⟩ => show a.val = 1 + 0; omega
        | ⟨1, _⟩ => show k.val = k.val + 0; omega
        | ⟨2, _⟩ => show d.val = 0 + d.val; omega
        | ⟨3, _⟩ => show s.val = 0 + s.val; omega))
  · have ha : a.val = 0 := by omega
    rw [View.read_writes_cons_unit_of_not_mem _ _ _ _ _ _ rfl (1 : Fin 2) (by left; show col.val < 1024; omega),
      View.read_writes_cons_unit_of_mem _ _ _ _ _ _ (ix2 d r) rfl (by intro b; match b with | ⟨0, _⟩ => show d.val = 0 + d.val; omega | ⟨1, _⟩ => show col.val = 0 + r.val; omega)]
    unfold trip_k0_t1.sl.v129 trip_k0_t1.sl.v126 trip_k0_t1.sl.v124 trip_k0_t1.sl.v125
    exact pay3_of _ _ _ _ d r _ _ _ _ (ra _ _ _ _ _ rfl (by intro b; match b with | ⟨0, _⟩ => rfl | ⟨1, _⟩ => show col.val = 0 + r.val; omega)) (ra _ _ _ _ _ rfl (by intro b; match b with | ⟨0, _⟩ => show d.val = 0 + d.val; omega | ⟨1, _⟩ => show col.val = 0 + r.val; omega))
      (fun s => (dot_at _ _ _ rfl s r).trans (by
        unfold tile sc
        refine Finset.sum_congr rfl fun x _ => ?_
        congr 1
        · refine ra _ _ _ _ _ (k0_off1_eq i k) ?_
          intro b
          match b with
          | ⟨0, _⟩ => show a.val = 0; omega
          | ⟨1, _⟩ => show k.val * 1024 + s.val = 1024 * k.val + s.val; omega
          | ⟨2, _⟩ => show x.val = 0 + x.val; omega
        · refine ra _ _ _ _ _ rfl ?_
          intro b
          match b with
          | ⟨0, _⟩ => show a.val = 0; omega
          | ⟨1, _⟩ => show r.val = 0 + r.val; omega
          | ⟨2, _⟩ => show x.val = 0 + x.val; omega))
      (fun s => ra _ _ _ _ _ (k0_off3_eq i k) (by
        intro b
        match b with
        | ⟨0, _⟩ => show a.val = 0 + 0; omega
        | ⟨1, _⟩ => show k.val = k.val + 0; omega
        | ⟨2, _⟩ => show d.val = 0 + d.val; omega
        | ⟨3, _⟩ => show s.val = 0 + s.val; omega))

end Cert.Proof.Fox

end
-- ==== Proof.FoxDiag.lean ====
module

/- Hand-written, untrusted. The step of the attention kernel's loop over the diagonal tile: what the running maximum and the running sums hold
   after the tile of keys it reads, from what they held before. -/

public import proofs.«01_k».proof.Proof.FoxTrip
public import proofs.«01_k».proof.Proof.FoxMsk
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.WritesUnit

@[expose] public section

set_option maxRecDepth 16384

noncomputable section

namespace Cert.Proof.Fox

open Idealize.ShloMosaic Idealize.ShloMosaic.TcCoe Idealize.SL.Sem
open Cert.KernelIdeal Cert.KernelIdeal.Gen

variable (c : Dev nD)

theorem off9_eq : ∀ (i : grid0.Coords) (k : Fin (k0_t3_loop i).trips), k0_off9 i k = ![0, 1024 * (i 2).val, 0] := by
  intro i k
  have hk : k.val < 1 := lt_of_lt_of_le k.isLt (k0_t3_abs i).2.1
  unfold k0_off9
  have hk0 : k.val = 0 := by omega
  rw [hk0]
  generalize (i 2) = n
  revert n
  show ∀ n : Fin 4, _
  decide +kernel

theorem off10_eq : ∀ (i : grid0.Coords) (k : Fin (k0_t3_loop i).trips), k0_off10 i k = ![1, 1024 * (i 2).val, 0] := by
  intro i k
  have hk : k.val < 1 := lt_of_lt_of_le k.isLt (k0_t3_abs i).2.1
  unfold k0_off10
  have hk0 : k.val = 0 := by omega
  rw [hk0]
  generalize (i 2) = n
  revert n
  show ∀ n : Fin 4, _
  decide +kernel

theorem off11_eq : ∀ (i : grid0.Coords) (k : Fin (k0_t3_loop i).trips), k0_off11 i k = ![0, (i 2).val, 0, 0] := by
  intro i k
  have hk : k.val < 1 := lt_of_lt_of_le k.isLt (k0_t3_abs i).2.1
  unfold k0_off11
  have hk0 : k.val = 0 := by omega
  rw [hk0]
  generalize (i 2) = n
  revert n
  show ∀ n : Fin 4, _
  decide +kernel

theorem off12_eq : ∀ (i : grid0.Coords) (k : Fin (k0_t3_loop i).trips), k0_off12 i k = ![1, (i 2).val, 0, 0] := by
  intro i k
  have hk : k.val < 1 := lt_of_lt_of_le k.isLt (k0_t3_abs i).2.1
  unfold k0_off12
  have hk0 : k.val = 0 := by omega
  rw [hk0]
  generalize (i 2) = n
  revert n
  show ∀ n : Fin 4, _
  decide +kernel

variable (𝒱 : Variants) (bd : Option 𝒱.V) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2x8x4096 .bf16) (harg6 : arg6.IsWhole) (arg7 : Memref sig .tc .vmem S8x128 .bf16) (harg7 : arg7.IsWhole) (arg8 : Memref sig .tc .vmem S1x1024x256 .bf16) (harg8 : arg8.IsWhole) (arg9 : Memref sig .tc .vmem S2x1024x256 .bf16) (harg9 : arg9.IsWhole) (arg10 : Memref sig .tc .vmem S2x4096x256 .bf16) (harg10 : arg10.IsWhole) (arg11 : Memref sig .tc .vmem S2x4x144x1024 .bf16) (harg11 : arg11.IsWhole) (arg12 : Memref sig .tc .vmem S1x2048 .f32) (harg12 : arg12.IsWhole) (arg13 : Memref sig .tc .vmem S144x2048 .f32) (harg13 : arg13.IsWhole)  (v17 : BitVec 32) (v58 : IVec S1024x1024 32) (v61 : IVec S1024x1024 32) (X_arg9 : BufTy.Contents (Elt Ideal) arg9.view.ty) (X_arg10 : BufTy.Contents (Elt Ideal) arg10.view.ty) (X_arg11 : BufTy.Contents (Elt Ideal) arg11.view.ty)

/-- The scores of the diagonal tile: later keys are masked. -/
def mtile (K : FVec Ideal S2x4096x256 .bf16) (Q : FVec Ideal S2x1024x256 .bf16) (a : Fin 2) (κ : Fin 4) (r : Fin 1024) (s : Fin 1024) : EReal :=
  if s ≤ r then tile K Q a κ r s else ⊥

theorem t3m (h17 : v17 = BitVec.ofNat 32 (i 2).val) (h58 : v58 = iota .tc S1024x1024 32 [0] iota_S1024x1024_d0_w32)
    (h61 : v61 = k0_pay71 (Scalar.muli (BitVec.ofNat 32 (i 2).val) 1024#32)) (k : Fin (k0_t3_loop i).trips) (acc : BitVec 32) (f12 : BufTy.Contents (Elt Ideal) arg12.view.ty) (f13 : BufTy.Contents (Elt Ideal) arg13.view.ty)
    (col : Fin 2048) (a : Fin 2) (r : Fin 1024) (hc : col.val = a.val * 1024 + r.val) :
    Eq (α := EReal) ((arg12.view.read (Elt Ideal) (arg12.view.writes (Elt Ideal) f12 (tripL_k0_t3 (F := Ideal) 𝒱 c bd i arg3 harg3 arg4 harg4 arg5 harg5 arg6 harg6 arg7 harg7 arg8 harg8 arg9 harg9 arg10 harg10 arg11 harg11 arg12 harg12 arg13 harg13 v17 v58 v61 X_arg9 X_arg10 X_arg11 k acc f12 f13).1) : FVec Ideal S1x2048 .f32) (ix2 0 col))
      (nm ((arg12.view.read (Elt Ideal) f12 : FVec Ideal S1x2048 .f32) (ix2 0 col)) (mtile (arg10.view.read (Elt Ideal) X_arg10) (arg9.view.read (Elt Ideal) X_arg9) a (i 2) r)) := by
  have hi : (i 2).val < 4 := (i 2).isLt
  subst h17 h58 h61
  unfold tripL_k0_t3 trip_k0_t3; dsimp only
  by_cases ha : a = 1
  · have ha : a.val = 1 := by rw [ha]; rfl
    rw [View.read_writes_cons_unit_of_mem _ _ _ _ _ _ (ix2 0 r) rfl (by intro b; match b with | ⟨0, _⟩ => rfl | ⟨1, _⟩ => show col.val = 1024 + r.val; omega)]
    unfold trip_k0_t3.sl.r trip_k0_t3.sl.v146
    exact pay4_of _ _ r _ _ (ra _ _ _ _ _ rfl (by intro b; match b with | ⟨0, _⟩ => rfl | ⟨1, _⟩ => show col.val = 1024 + r.val; omega))
      (fun s => (msk_at i k _ _ s r).trans (ite_congr rfl (fun _ => (by
        unfold tile sc
        refine Finset.sum_congr rfl fun x _ => ?_
        congr 1
        · refine ra _ _ _ _ _ (off10_eq i k) ?_
          intro b
          match b with
          | ⟨0, _⟩ => show a.val = 1; omega
          | ⟨1, _⟩ => show (i 2).val * 1024 + s.val = 1024 * (i 2).val + s.val; omega
          | ⟨2, _⟩ => show x.val = 0 + x.val; omega
        · refine ra _ _ _ _ _ rfl ?_
          intro b
          match b with
          | ⟨0, _⟩ => show a.val = 1; omega
          | ⟨1, _⟩ => show r.val = 0 + r.val; omega
          | ⟨2, _⟩ => show x.val = 0 + x.val; omega)) fun _ => rfl))
  · have ha : a.val = 0 := by omega
    rw [View.read_writes_cons_unit_of_not_mem _ _ _ _ _ _ rfl (1 : Fin 2) (by left; show col.val < 1024; omega),
      View.read_writes_cons_unit_of_mem _ _ _ _ _ _ (ix2 0 r) rfl (by intro b; match b with | ⟨0, _⟩ => rfl | ⟨1, _⟩ => show col.val = 0 + r.val; omega)]
    unfold trip_k0_t3.sl.r_2
    exact pay4_of _ _ r _ _ (ra _ _ _ _ _ rfl (by intro b; match b with | ⟨0, _⟩ => rfl | ⟨1, _⟩ => show col.val = 0 + r.val; omega))
      (fun s => (msk_at i k _ _ s r).trans (ite_congr rfl (fun _ => (by
        unfold tile sc
        refine Finset.sum_congr rfl fun x _ => ?_
        congr 1
        · refine ra _ _ _ _ _ (off9_eq i k) ?_
          intro b
          match b with
          | ⟨0, _⟩ => show a.val = 0; omega
          | ⟨1, _⟩ => show (i 2).val * 1024 + s.val = 1024 * (i 2).val + s.val; omega
          | ⟨2, _⟩ => show x.val = 0 + x.val; omega
        · refine ra _ _ _ _ _ rfl ?_
          intro b
          match b with
          | ⟨0, _⟩ => show a.val = 0; omega
          | ⟨1, _⟩ => show r.val = 0 + r.val; omega
          | ⟨2, _⟩ => show x.val = 0 + x.val; omega)) fun _ => rfl))

theorem t3a (d : Fin 144) (h17 : v17 = BitVec.ofNat 32 (i 2).val) (h58 : v58 = iota .tc S1024x1024 32 [0] iota_S1024x1024_d0_w32)
    (h61 : v61 = k0_pay71 (Scalar.muli (BitVec.ofNat 32 (i 2).val) 1024#32)) (k : Fin (k0_t3_loop i).trips) (acc : BitVec 32) (f12 : BufTy.Contents (Elt Ideal) arg12.view.ty) (f13 : BufTy.Contents (Elt Ideal) arg13.view.ty)
    (col : Fin 2048) (a : Fin 2) (r : Fin 1024) (hc : col.val = a.val * 1024 + r.val) :
    Eq (α := EReal) ((arg13.view.read (Elt Ideal) (arg13.view.writes (Elt Ideal) f13 (tripL_k0_t3 (F := Ideal) 𝒱 c bd i arg3 harg3 arg4 harg4 arg5 harg5 arg6 harg6 arg7 harg7 arg8 harg8 arg9 harg9 arg10 harg10 arg11 harg11 arg12 harg12 arg13 harg13 v17 v58 v61 X_arg9 X_arg10 X_arg11 k acc f12 f13).2) : FVec Ideal S144x2048 .f32) (ix2 d col))
      (na ((arg12.view.read (Elt Ideal) f12 : FVec Ideal S1x2048 .f32) (ix2 0 col)) ((arg13.view.read (Elt Ideal) f13 : FVec Ideal S144x2048 .f32) (ix2 d col)) (mtile (arg10.view.read (Elt Ideal) X_arg10) (arg9.view.read (Elt Ideal) X_arg9) a (i 2) r) (fun s => (arg11.view.read (Elt Ideal) X_arg11) (ix4 a (i 2) d s))) := by
  have hi : (i 2).val < 4 := (i 2).isLt
  subst h17 h58 h61
  unfold tripL_k0_t3 trip_k0_t3; dsimp only
  by_cases ha : a = 1
  · have ha : a.val = 1 := by rw [ha]; rfl
    rw [View.read_writes_cons_unit_of_mem _ _ _ _ _ _ (ix2 d r) rfl (by intro b; match b with | ⟨0, _⟩ => show d.val = 0 + d.val; omega | ⟨1, _⟩ => show col.val = 1024 + r.val; omega)]
    unfold trip_k0_t3.sl.r trip_k0_t3.sl.v146 trip_k0_t3.sl.v156
    exact pay3_of _ _ _ _ d r _ _ _ _ (ra _ _ _ _ _ rfl (by intro b; match b with | ⟨0, _⟩ => rfl | ⟨1, _⟩ => show col.val = 1024 + r.val; omega)) (ra _ _ _ _ _ rfl (by intro b; match b with | ⟨0, _⟩ => show d.val = 0 + d.val; omega | ⟨1, _⟩ => show col.val = 1024 + r.val; omega))
      (fun s => (msk_at i k _ _ s r).trans (ite_congr rfl (fun _ => (by
        unfold tile sc
        refine Finset.sum_congr rfl fun x _ => ?_
        congr 1
        · refine ra _ _ _ _ _ (off10_eq i k) ?_
          intro b
          match b with
          | ⟨0, _⟩ => show a.val = 1; omega
          | ⟨1, _⟩ => show (i 2).val * 1024 + s.val = 1024 * (i 2).val + s.val; omega
          | ⟨2, _⟩ => show x.val = 0 + x.val; omega
        · refine ra _ _ _ _ _ rfl ?_
          intro b
          match b with
          | ⟨0, _⟩ => show a.val = 1; omega
          | ⟨1, _⟩ => show r.val = 0 + r.val; omega
          | ⟨2, _⟩ => show x.val = 0 + x.val; omega)) fun _ => rfl))
      (fun s => ra _ _ _ _ _ (off12_eq i k) (by
        intro b
        match b with
        | ⟨0, _⟩ => show a.val = 1 + 0; omega
        | ⟨1, _⟩ => show (i 2).val = (i 2).val + 0; omega
        | ⟨2, _⟩ => show d.val = 0 + d.val; omega
        | ⟨3, _⟩ => show s.val = 0 + s.val; omega))
  · have ha : a.val = 0 := by omega
    rw [View.read_writes_cons_unit_of_not_mem _ _ _ _ _ _ rfl (1 : Fin 2) (by left; show col.val < 1024; omega),
      View.read_writes_cons_unit_of_mem _ _ _ _ _ _ (ix2 d r) rfl (by intro b; match b with | ⟨0, _⟩ => show d.val = 0 + d.val; omega | ⟨1, _⟩ => show col.val = 0 + r.val; omega)]
    unfold trip_k0_t3.sl.r_1 trip_k0_t3.sl.r_3 trip_k0_t3.sl.r_4
    exact pay3_of _ _ _ _ d r _ _ _ _ (ra _ _ _ _ _ rfl (by intro b; match b with | ⟨0, _⟩ => rfl | ⟨1, _⟩ => show col.val = 0 + r.val; omega)) (ra _ _ _ _ _ rfl (by intro b; match b with | ⟨0, _⟩ => show d.val = 0 + d.val; omega | ⟨1, _⟩ => show col.val = 0 + r.val; omega))
      (fun s => (msk_at i k _ _ s r).trans (ite_congr rfl (fun _ => (by
        unfold tile sc
        refine Finset.sum_congr rfl fun x _ => ?_
        congr 1
        · refine ra _ _ _ _ _ (off9_eq i k) ?_
          intro b
          match b with
          | ⟨0, _⟩ => show a.val = 0; omega
          | ⟨1, _⟩ => show (i 2).val * 1024 + s.val = 1024 * (i 2).val + s.val; omega
          | ⟨2, _⟩ => show x.val = 0 + x.val; omega
        · refine ra _ _ _ _ _ rfl ?_
          intro b
          match b with
          | ⟨0, _⟩ => show a.val = 0; omega
          | ⟨1, _⟩ => show r.val = 0 + r.val; omega
          | ⟨2, _⟩ => show x.val = 0 + x.val; omega)) fun _ => rfl))
      (fun s => ra _ _ _ _ _ (off11_eq i k) (by
        intro b
        match b with
        | ⟨0, _⟩ => show a.val = 0 + 0; omega
        | ⟨1, _⟩ => show (i 2).val = (i 2).val + 0; omega
        | ⟨2, _⟩ => show d.val = 0 + d.val; omega
        | ⟨3, _⟩ => show s.val = 0 + s.val; omega))

end Cert.Proof.Fox

end
-- ==== Proof.FoxLoop.lean ====
module

/- Hand-written, untrusted. The attention kernel's key loops: the running maximum and the running sums after all tiles up to the
   diagonal are the online ones. -/

public import proofs.«01_k».proof.Proof.FoxDiag
public import proofs.«01_k».proof.Proof.FoxMsk
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.WritesUnit

@[expose] public section

set_option maxRecDepth 16384

noncomputable section

namespace Cert.Proof.Fox

open Idealize.ShloMosaic Idealize.ShloMosaic.TcCoe Idealize.SL.Sem
open Cert.KernelIdeal Cert.KernelIdeal.Gen

variable (c : Dev nD)

theorem trips1 (i : grid0.Coords) : (Scf.trips (k0_t1_loop i).lb (k0_t1_loop i).ub (k0_t1_loop i).st) = (i 2).val := by
  show (k0_t1_loop i).trips = _
  unfold k0_t1_loop
  generalize (i 2) = n
  revert n
  show ∀ n : Fin 4, _
  decide +kernel

theorem trips2 (i : grid0.Coords) : (Scf.trips (k0_t2_loop i).lb (k0_t2_loop i).ub (k0_t2_loop i).st) = 0 := by
  show (k0_t2_loop i).trips = _
  unfold k0_t2_loop
  generalize (i 2) = n
  revert n
  show ∀ n : Fin 4, _
  decide +kernel

theorem trips3 (i : grid0.Coords) : (Scf.trips (k0_t3_loop i).lb (k0_t3_loop i).ub (k0_t3_loop i).st) = 1 := by
  show (k0_t3_loop i).trips = _
  unfold k0_t3_loop
  generalize (i 2) = n
  revert n
  show ∀ n : Fin 4, _
  decide +kernel

theorem trips4 (i : grid0.Coords) : (Scf.trips (k0_t4_loop i).lb (k0_t4_loop i).ub (k0_t4_loop i).st) = 0 := by
  show (k0_t4_loop i).trips = _
  unfold k0_t4_loop
  generalize (i 2) = n
  revert n
  show ∀ n : Fin 4, _
  decide +kernel
variable (𝒱 : Variants) (bd : Option 𝒱.V) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2x8x4096 .bf16) (harg6 : arg6.IsWhole) (arg7 : Memref sig .tc .vmem S8x128 .bf16) (harg7 : arg7.IsWhole) (arg8 : Memref sig .tc .vmem S1x1024x256 .bf16) (harg8 : arg8.IsWhole) (arg9 : Memref sig .tc .vmem S2x1024x256 .bf16) (harg9 : arg9.IsWhole) (arg10 : Memref sig .tc .vmem S2x4096x256 .bf16) (harg10 : arg10.IsWhole) (arg11 : Memref sig .tc .vmem S2x4x144x1024 .bf16) (harg11 : arg11.IsWhole) (arg12 : Memref sig .tc .vmem S1x2048 .f32) (harg12 : arg12.IsWhole) (arg13 : Memref sig .tc .vmem S144x2048 .f32) (harg13 : arg13.IsWhole)
  (X_arg9 : BufTy.Contents (Elt Ideal) arg9.view.ty) (X_arg10 : BufTy.Contents (Elt Ideal) arg10.view.ty) (X_arg11 : BufTy.Contents (Elt Ideal) arg11.view.ty)

/-- The loop over the tiles before the diagonal: after `n` tiles the running maximum and sums are those of the first `n` tiles. -/
theorem loop1 (c0 : BitVec 32) (G12 : BufTy.Contents (Elt Ideal) arg12.view.ty) (G13 : BufTy.Contents (Elt Ideal) arg13.view.ty) (init : BitVec 32) (z : ℕ → EReal) (w : Fin 144 → ℕ → EReal) (col : Fin 2048) (a : Fin 2) (r : Fin 1024) (hc : col.val = a.val * 1024 + r.val)
    (hM : Eq (α := EReal) ((arg12.view.read (Elt Ideal) (G12) : FVec Ideal S1x2048 .f32) (ix2 0 col)) ⊥) (hA : ∀ d : Fin 144, Eq (α := EReal) ((arg13.view.read (Elt Ideal) (G13) : FVec Ideal S144x2048 .f32) (ix2 d col)) 0)
    (hz : ∀ κ : Fin 4, κ.val < (i 2).val → ∀ s : Fin 1024, tile (arg10.view.read (Elt Ideal) X_arg10) (arg9.view.read (Elt Ideal) X_arg9) a κ r s = z (κ.val * 1024 + s.val))
    (hw : ∀ (d : Fin 144) (κ : Fin 4) (s : Fin 1024), Eq (α := EReal) ((arg11.view.read (Elt Ideal) X_arg11) (ix4 a κ d s)) (w d (κ.val * 1024 + s.val))) :
    ∀ n : ℕ, n ≤ (i 2).val → Eq (α := EReal) ((arg12.view.read (Elt Ideal) (arg12.view.writes (Elt Ideal) G12 (st_k0_t1 (F := Ideal) 𝒱 c bd i arg3 harg3 arg4 harg4 arg5 harg5 arg6 harg6 arg7 harg7 arg8 harg8 arg9 harg9 arg10 harg10 arg11 harg11 arg12 harg12 arg13 harg13 c0 X_arg9 X_arg10 X_arg11 G12 G13 init n).2.1) : FVec Ideal S1x2048 .f32) (ix2 0 col)) (om z n)
      ∧ ∀ d : Fin 144, Eq (α := EReal) ((arg13.view.read (Elt Ideal) (arg13.view.writes (Elt Ideal) G13 (st_k0_t1 (F := Ideal) 𝒱 c bd i arg3 harg3 arg4 harg4 arg5 harg5 arg6 harg6 arg7 harg7 arg8 harg8 arg9 harg9 arg10 harg10 arg11 harg11 arg12 harg12 arg13 harg13 c0 X_arg9 X_arg10 X_arg11 G12 G13 init n).2.2) : FVec Ideal S144x2048 .f32) (ix2 d col)) (oa z (w d) n)
  | 0, _ => ⟨hM, hA⟩
  | n + 1, hn => by
    obtain ⟨ih1, ih2⟩ := loop1 c0 G12 G13 init z w col a r hc hM hA hz hw n (by omega)
    have hk : n < (k0_t1_loop i).trips := lt_of_lt_of_eq (by omega) (trips1 i).symm
    have hi : (i 2).val < 4 := (i 2).isLt
    have e := st_k0_t1_succ (F := Ideal) 𝒱 c bd i arg3 harg3 arg4 harg4 arg5 harg5 arg6 harg6 arg7 harg7 arg8 harg8 arg9 harg9 arg10 harg10 arg11 harg11 arg12 harg12 arg13 harg13 c0 X_arg9 X_arg10 X_arg11 G12 G13 init ⟨n, hk⟩
    dsimp only at e
    have hS : tile (arg10.view.read (Elt Ideal) X_arg10) (arg9.view.read (Elt Ideal) X_arg9) a ⟨n, by omega⟩ r = fun s => z (n * 1024 + s.val) := funext fun s => hz ⟨n, by omega⟩ (by show n < _; omega) s
    rw [e]
    dsimp only
    rw [View.writes_append, View.writes_append]
    constructor
    · rw [t1m (col := col) (a := a) (r := r) (hc := hc), ih1]
      show nm (om z n) (tile (arg10.view.read (Elt Ideal) X_arg10) (arg9.view.read (Elt Ideal) X_arg9) a ⟨n, by omega⟩ r) = _
      rw [hS]
      rfl
    · intro d
      rw [t1a (d := d) (col := col) (a := a) (r := r) (hc := hc), ih1, ih2 d]
      show na (om z n) (oa z (w d) n) (tile (arg10.view.read (Elt Ideal) X_arg10) (arg9.view.read (Elt Ideal) X_arg9) a ⟨n, by omega⟩ r) (fun s => (arg11.view.read (Elt Ideal) X_arg11) (ix4 a ⟨n, by omega⟩ d s)) = _
      rw [hS, (funext fun s => hw d ⟨n, by omega⟩ s : (fun s => (arg11.view.read (Elt Ideal) X_arg11) (ix4 a ⟨n, by omega⟩ d s)) = fun s : Fin 1024 => w d (n * 1024 + s.val))]
      rfl

variable {c} {𝒱} {bd} {i} {arg3} {harg3} {arg4} {harg4} {arg5} {harg5} {arg6} {harg6} {arg7} {harg7} {arg8} {harg8} {arg9} {harg9} {arg10} {harg10} {arg11} {harg11} {arg12} {harg12} {arg13} {harg13} {X_arg9} {X_arg10} {X_arg11}

theorem loop1T {c0 : BitVec 32} {G12 : BufTy.Contents (Elt Ideal) arg12.view.ty} {G13 : BufTy.Contents (Elt Ideal) arg13.view.ty} {init : BitVec 32} {z : ℕ → EReal} {w : Fin 144 → ℕ → EReal} {col : Fin 2048} {a : Fin 2} {r : Fin 1024} (hc : col.val = a.val * 1024 + r.val)
    (hM : Eq (α := EReal) ((arg12.view.read (Elt Ideal) (G12) : FVec Ideal S1x2048 .f32) (ix2 0 col)) ⊥) (hA : ∀ d : Fin 144, Eq (α := EReal) ((arg13.view.read (Elt Ideal) (G13) : FVec Ideal S144x2048 .f32) (ix2 d col)) 0)
    (hz : ∀ κ : Fin 4, κ.val < (i 2).val → ∀ s : Fin 1024, tile (arg10.view.read (Elt Ideal) X_arg10) (arg9.view.read (Elt Ideal) X_arg9) a κ r s = z (κ.val * 1024 + s.val))
    (hw : ∀ (d : Fin 144) (κ : Fin 4) (s : Fin 1024), Eq (α := EReal) ((arg11.view.read (Elt Ideal) X_arg11) (ix4 a κ d s)) (w d (κ.val * 1024 + s.val))) :
    Eq (α := EReal) ((arg12.view.read (Elt Ideal) (arg12.view.writes (Elt Ideal) G12 (st_k0_t1 (F := Ideal) 𝒱 c bd i arg3 harg3 arg4 harg4 arg5 harg5 arg6 harg6 arg7 harg7 arg8 harg8 arg9 harg9 arg10 harg10 arg11 harg11 arg12 harg12 arg13 harg13 c0 X_arg9 X_arg10 X_arg11 G12 G13 init (Scf.trips (k0_t1_loop i).lb (k0_t1_loop i).ub (k0_t1_loop i).st)).2.1) : FVec Ideal S1x2048 .f32) (ix2 0 col)) (om z (i 2).val)
      ∧ ∀ d : Fin 144, Eq (α := EReal) ((arg13.view.read (Elt Ideal) (arg13.view.writes (Elt Ideal) G13 (st_k0_t1 (F := Ideal) 𝒱 c bd i arg3 harg3 arg4 harg4 arg5 harg5 arg6 harg6 arg7 harg7 arg8 harg8 arg9 harg9 arg10 harg10 arg11 harg11 arg12 harg12 arg13 harg13 c0 X_arg9 X_arg10 X_arg11 G12 G13 init (Scf.trips (k0_t1_loop i).lb (k0_t1_loop i).ub (k0_t1_loop i).st)).2.2) : FVec Ideal S144x2048 .f32) (ix2 d col)) (oa z (w d) (i 2).val) := by
  rw [trips1]
  exact loop1 c 𝒱 bd i arg3 harg3 arg4 harg4 arg5 harg5 arg6 harg6 arg7 harg7 arg8 harg8 arg9 harg9 arg10 harg10 arg11 harg11 arg12 harg12 arg13 harg13 X_arg9 X_arg10 X_arg11 c0 G12 G13 init z w col a r hc hM hA hz hw _ le_rfl

set_option maxHeartbeats 1000000 in
/-- The loop over the diagonal tile makes one step. -/
theorem loop3 {v17 : BitVec 32} {v58 : IVec S1024x1024 32} {v61 : IVec S1024x1024 32} (h17 : v17 = BitVec.ofNat 32 (i 2).val) (h58 : v58 = iota .tc S1024x1024 32 [0] iota_S1024x1024_d0_w32)
    (h61 : v61 = k0_pay71 (Scalar.muli (BitVec.ofNat 32 (i 2).val) 1024#32)) {G12 : BufTy.Contents (Elt Ideal) arg12.view.ty} {G13 : BufTy.Contents (Elt Ideal) arg13.view.ty} {init : BitVec 32} {z : ℕ → EReal} {w : Fin 144 → ℕ → EReal} {col : Fin 2048} {a : Fin 2} {r : Fin 1024} (hc : col.val = a.val * 1024 + r.val)
    (hM : Eq (α := EReal) ((arg12.view.read (Elt Ideal) (G12) : FVec Ideal S1x2048 .f32) (ix2 0 col)) (om z (i 2).val)) (hA : ∀ d : Fin 144, Eq (α := EReal) ((arg13.view.read (Elt Ideal) (G13) : FVec Ideal S144x2048 .f32) (ix2 d col)) (oa z (w d) (i 2).val))
    (hz3 : ∀ s : Fin 1024, mtile (arg10.view.read (Elt Ideal) X_arg10) (arg9.view.read (Elt Ideal) X_arg9) a (i 2) r s = z ((i 2).val * 1024 + s.val))
    (hw : ∀ (d : Fin 144) (κ : Fin 4) (s : Fin 1024), Eq (α := EReal) ((arg11.view.read (Elt Ideal) X_arg11) (ix4 a κ d s)) (w d (κ.val * 1024 + s.val))) (d : Fin 144) :
    Eq (α := EReal) ((arg13.view.read (Elt Ideal) (arg13.view.writes (Elt Ideal) G13 (st_k0_t3 (F := Ideal) 𝒱 c bd i arg3 harg3 arg4 harg4 arg5 harg5 arg6 harg6 arg7 harg7 arg8 harg8 arg9 harg9 arg10 harg10 arg11 harg11 arg12 harg12 arg13 harg13 v17 v58 v61 X_arg9 X_arg10 X_arg11 G12 G13 init (Scf.trips (k0_t3_loop i).lb (k0_t3_loop i).ub (k0_t3_loop i).st)).2.2) : FVec Ideal S144x2048 .f32) (ix2 d col)) (oa z (w d) ((i 2).val + 1)) := by
  rw [trips3]
  have hk : 0 < (k0_t3_loop i).trips := lt_of_lt_of_eq (by omega) (trips3 i).symm
  have e := st_k0_t3_succ (F := Ideal) 𝒱 c bd i arg3 harg3 arg4 harg4 arg5 harg5 arg6 harg6 arg7 harg7 arg8 harg8 arg9 harg9 arg10 harg10 arg11 harg11 arg12 harg12 arg13 harg13 v17 v58 v61 X_arg9 X_arg10 X_arg11 G12 G13 init ⟨0, hk⟩
  dsimp only at e
  have e0 : st_k0_t3 (F := Ideal) 𝒱 c bd i arg3 harg3 arg4 harg4 arg5 harg5 arg6 harg6 arg7 harg7 arg8 harg8 arg9 harg9 arg10 harg10 arg11 harg11 arg12 harg12 arg13 harg13 v17 v58 v61 X_arg9 X_arg10 X_arg11 G12 G13 init 0 = (init, [], []) := by rw [st_k0_t3.eq_1]
  rw [e0] at e
  dsimp only at e
  rw [show (1 : ℕ) = 0 + 1 from rfl, e]
  dsimp only
  rw [View.writes_append]
  rw [View.writes_nil, View.writes_nil]
  rw [t3a (d := d) (h17 := h17) (h58 := h58) (h61 := h61) (col := col) (a := a) (r := r) (hc := hc)]
  rw [hM, hA d,
    (funext hz3 : mtile (arg10.view.read (Elt Ideal) X_arg10) (arg9.view.read (Elt Ideal) X_arg9) a (i 2) r = fun s => z ((i 2).val * 1024 + s.val)),
    (funext fun s => hw d (i 2) s : (fun s => (arg11.view.read (Elt Ideal) X_arg11) (ix4 a (i 2) d s)) = fun s : Fin 1024 => w d ((i 2).val * 1024 + s.val))]
  rfl

end Cert.Proof.Fox

end
-- ==== Proof.FoxQx.lean ====
module

/- Hand-written, untrusted. What the attention kernel keeps of a tile of queries, and its other small stores. -/

public import proofs.«01_k».proof.Proof.FoxLoop
public import proofs.«01_k».proof.Proof.FoxMsk
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.WritesUnit

@[expose] public section

set_option maxRecDepth 16384

noncomputable section

namespace Cert.Proof.Fox

open Idealize.ShloMosaic Idealize.ShloMosaic.TcCoe Idealize.SL.Sem
open Cert.KernelIdeal Cert.KernelIdeal.Gen

variable (c : Dev nD)

theorem st2_nil (𝒱 : Variants) (bd : Option 𝒱.V) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2x8x4096 .bf16) (harg6 : arg6.IsWhole) (arg7 : Memref sig .tc .vmem S8x128 .bf16) (harg7 : arg7.IsWhole) (arg8 : Memref sig .tc .vmem S1x1024x256 .bf16) (harg8 : arg8.IsWhole) (arg9 : Memref sig .tc .vmem S2x1024x256 .bf16) (harg9 : arg9.IsWhole) (arg10 : Memref sig .tc .vmem S2x4096x256 .bf16) (harg10 : arg10.IsWhole) (arg11 : Memref sig .tc .vmem S2x4x144x1024 .bf16) (harg11 : arg11.IsWhole) (arg12 : Memref sig .tc .vmem S1x2048 .f32) (harg12 : arg12.IsWhole) (arg13 : Memref sig .tc .vmem S144x2048 .f32) (harg13 : arg13.IsWhole)
  (v66 : BitVec 32) (X_arg9 : BufTy.Contents (Elt Ideal) arg9.view.ty) (X_arg10 : BufTy.Contents (Elt Ideal) arg10.view.ty) (X_arg11 : BufTy.Contents (Elt Ideal) arg11.view.ty) (G12 : BufTy.Contents (Elt Ideal) arg12.view.ty) (G13 : BufTy.Contents (Elt Ideal) arg13.view.ty) (init : BitVec 32) : st_k0_t2 (F := Ideal) 𝒱 c bd i arg3 harg3 arg4 harg4 arg5 harg5 arg6 harg6 arg7 harg7 arg8 harg8 arg9 harg9 arg10 harg10 arg11 harg11 arg12 harg12 arg13 harg13 v66 X_arg9 X_arg10 X_arg11 G12 G13 init (Scf.trips (k0_t2_loop i).lb (k0_t2_loop i).ub (k0_t2_loop i).st) = (init, [], []) := by
  rw [trips2, st_k0_t2.eq_1]

theorem st4_nil (𝒱 : Variants) (bd : Option 𝒱.V) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2x8x4096 .bf16) (harg6 : arg6.IsWhole) (arg7 : Memref sig .tc .vmem S8x128 .bf16) (harg7 : arg7.IsWhole) (arg8 : Memref sig .tc .vmem S1x1024x256 .bf16) (harg8 : arg8.IsWhole) (arg9 : Memref sig .tc .vmem S2x1024x256 .bf16) (harg9 : arg9.IsWhole) (arg10 : Memref sig .tc .vmem S2x4096x256 .bf16) (harg10 : arg10.IsWhole) (arg11 : Memref sig .tc .vmem S2x4x144x1024 .bf16) (harg11 : arg11.IsWhole) (arg12 : Memref sig .tc .vmem S1x2048 .f32) (harg12 : arg12.IsWhole) (arg13 : Memref sig .tc .vmem S144x2048 .f32) (harg13 : arg13.IsWhole)
  (v58 : IVec S1024x1024 32) (v61 : IVec S1024x1024 32) (v74 : BitVec 32) (X_arg9 : BufTy.Contents (Elt Ideal) arg9.view.ty) (X_arg10 : BufTy.Contents (Elt Ideal) arg10.view.ty) (X_arg11 : BufTy.Contents (Elt Ideal) arg11.view.ty) (G12 : BufTy.Contents (Elt Ideal) arg12.view.ty) (G13 : BufTy.Contents (Elt Ideal) arg13.view.ty) (init : BitVec 32) : st_k0_t4 (F := Ideal) 𝒱 c bd i arg3 harg3 arg4 harg4 arg5 harg5 arg6 harg6 arg7 harg7 arg8 harg8 arg9 harg9 arg10 harg10 arg11 harg11 arg12 harg12 arg13 harg13 v58 v61 v74 X_arg9 X_arg10 X_arg11 G12 G13 init (Scf.trips (k0_t4_loop i).lb (k0_t4_loop i).ub (k0_t4_loop i).st) = (init, [], []) := by
  rw [trips4, st_k0_t4.eq_1]

theorem pay9_at (N : FVec Ideal S128x1024 .f32) (D : FVec Ideal S1x1024 .f32) (r : Fin 1024) (x : Fin 128) :
    (k0_pay9 (F := Ideal) N D : FVec Ideal S1x1024x128 .bf16) (ix3 0 r x) = Ideal.div (N (ix2 x r)) (D (ix2 0 r)) := by
  pointwise [k0_pay9]

theorem pay10_at (N : FVec Ideal S128x1024 .f32) (D : FVec Ideal S1x1024 .f32) (r : Fin 1024) (x : Fin 128) :
    (k0_pay10 (F := Ideal) N D : FVec Ideal S1x1024x128 .bf16) (ix3 0 r x) = Ideal.div (N (ix2 x r)) (D (ix2 0 r)) := by
  pointwise [k0_pay10]

/-- The extended queries of a tile: the query's own entries, then three ones for the bias lanes, then zeros. -/
def qf (x0 : FVec Ideal S1x1024x256 .bf16) (a : Fin 2) (r : Fin 1024) (x : Fin 256) : EReal :=
  if x.val < 128 then x0 (ix3 0 r ⟨(a.val * 128 + x.val) % 256, Nat.mod_lt _ (by omega)⟩)
  else if x.val - 128 < 3 then (1 : EReal) else (0 : EReal)

def qF (x0 : FVec Ideal S1x1024x256 .bf16) : FVec Ideal S2x1024x256 .bf16 := fun y => qf x0 (y 0) (y 1) (y 2)

theorem qf_lo (x0 : FVec Ideal S1x1024x256 .bf16) (a : Fin 2) (r : Fin 1024) (x col : Fin 256) (hx : x.val < 128) (hc : col.val = a.val * 128 + x.val) :
    Eq (α := EReal) (x0 (ix3 0 r col)) (qf x0 a r x) := by
  unfold qf
  rw [if_pos hx, show col = ⟨(a.val * 128 + x.val) % 256, Nat.mod_lt _ (by omega)⟩ from Fin.ext (by show col.val = _ % 256; omega)]

theorem qf_hi (x0 : FVec Ideal S1x1024x256 .bf16) (a : Fin 2) (r : Fin 1024) (x : Fin 256) (hx : ¬x.val < 128) :
    (if x.val - 128 < 3 then (1 : EReal) else 0) = qf x0 a r x := by
  unfold qf
  rw [if_neg hx]

theorem lane_lt (n : ℕ) (hn : n < 128) : IntOp.cmpi CmpIPredicate.slt (BitVec.ofNat 32 n) 3#32 = if n < 3 then 1#1 else 0#1 := by
  have f : (BitVec.ofNat 32 n).toInt = (n : ℤ) := by
    rw [BitVec.toInt_eq_toNat_of_lt] <;> simp <;> omega
  have g : (3#32 : BitVec 32).toInt = 3 := by decide
  simp only [IntOp.cmpi, BitVec.slt, f, g]
  by_cases h : n < 3
  · rw [if_pos h]; simp [h]
  · rw [if_neg h]; simp [h]

theorem pay68_at (r : Fin 1024) (x : Fin 128) :
    Eq (α := EReal) ((k0_pay68 (F := Ideal) (iota .tc S1024x128 32 [1] iota_S1024x128_d1_w32) : FVec Ideal S1x1024x128 .bf16) (ix3 0 r x)) (if x.val < 3 then 1 else 0) := by
  pointwise [k0_pay68]
  rw [lane_lt _ x.isLt]
  by_cases h : x.val < 3
  · rw [if_pos h, if_pos h]; rfl
  · rw [if_neg h, if_neg h]; rfl

theorem pay66_at (r : Fin 1024) (x : Fin 128) :
    Eq (α := EReal) ((k0_pay66 (F := Ideal) k0_pay65 : FVec Ideal S1x1024x128 .bf16) (ix3 0 r x)) (if x.val < 3 then 1 else 0) := by
  pointwise [k0_pay66, k0_pay65]
  rw [lane_lt _ x.isLt]
  by_cases h : x.val < 3
  · rw [if_pos h, if_pos h]; rfl
  · rw [if_neg h, if_neg h]; rfl

theorem pay69_at (col : Fin 2048) : Eq (α := EReal) ((k0_pay69 (F := Ideal) : FVec Ideal S1x2048 .f32) (ix2 0 col)) ⊥ := by
  pointwise [k0_pay69]
  exact mask_bot

theorem pay70_at (d : Fin 144) (col : Fin 2048) : Eq (α := EReal) ((k0_pay70 (F := Ideal) : FVec Ideal S144x2048 .f32) (ix2 d col)) 0 := by
  pointwise [k0_pay70]

theorem pay64_at (v : FVec Ideal S1x1024x128 .bf16) (r : Fin 1024) (x : Fin 128) : (k0_pay64 (F := Ideal) v : FVec Ideal S1x1024x128 .bf16) (ix3 0 r x) = v (ix3 0 r x) := by
  pointwise [k0_pay64]

theorem pay67_at (v : FVec Ideal S1x1024x128 .bf16) (r : Fin 1024) (x : Fin 128) : (k0_pay67 (F := Ideal) v : FVec Ideal S1x1024x128 .bf16) (ix3 0 r x) = v (ix3 0 r x) := by
  pointwise [k0_pay67]

theorem qxB (c : Dev nD) (arg3 : Memref sig .tc .vmem S1x1024x256 .bf16) (harg3 : arg3.IsWhole) (x0 : Vec Ideal S1x1024x256 .bf16) (arg9 : Memref sig .tc .vmem S2x1024x256 .bf16) :
    arg9.view.read (Elt Ideal) (arg9.view.writes (Elt Ideal) arg9.view.junk (kernelRun0_B.sl.HS0_4 c arg3 harg3 x0)) = qF x0 := by
  funext y
  idx_vars y
  generalize y0 = a
  generalize y1 = r
  generalize y2 = x
  unfold kernelRun0_B.sl.HS0_4
  show _ = qf x0 a r x
  by_cases ha : a = 1
  · have ha : a.val = 1 := by rw [ha]; rfl
    by_cases hx : x.val < 128
    · rw [View.read_writes_cons_unit_of_not_mem _ _ _ _ _ _ rfl (2 : Fin 3) (by left; show x.val < 128; omega),
        View.read_writes_cons_unit_of_mem _ _ _ _ _ _ (ix3 0 r ⟨x.val, by omega⟩) rfl (by intro b; match b with | ⟨0, _⟩ => show a.val = 1 + 0; omega | ⟨1, _⟩ => show r.val = 0 + r.val; omega | ⟨2, _⟩ => show x.val = 0 + x.val; omega)]
      refine (pay67_at _ r _).trans ((ra _ _ _ _ (ix3 0 r ⟨128 + x.val, by omega⟩) rfl ?_).trans ?_)
      · intro b; match b with | ⟨0, _⟩ => rfl | ⟨1, _⟩ => show r.val = 0 + r.val; omega | ⟨2, _⟩ => rfl
      · rw [harg3.read_unread]
        exact qf_lo x0 a r x _ hx (by show 128 + x.val = _; omega)
    · rw [View.read_writes_cons_unit_of_mem _ _ _ _ _ _ (ix3 0 r ⟨x.val - 128, by omega⟩) rfl (by intro b; match b with | ⟨0, _⟩ => show a.val = 1 + 0; omega | ⟨1, _⟩ => show r.val = 0 + r.val; omega | ⟨2, _⟩ => show x.val = 128 + (x.val - 128); omega)]
      exact (pay68_at r _).trans (qf_hi x0 a r x hx)
  · have ha : a.val = 0 := by omega
    by_cases hx : x.val < 128
    · rw [View.read_writes_cons_unit_of_not_mem _ _ _ _ _ _ rfl (0 : Fin 3) (by left; show a.val < 1; omega),
        View.read_writes_cons_unit_of_not_mem _ _ _ _ _ _ rfl (0 : Fin 3) (by left; show a.val < 1; omega),
        View.read_writes_cons_unit_of_not_mem _ _ _ _ _ _ rfl (2 : Fin 3) (by left; show x.val < 128; omega),
        View.read_writes_cons_unit_of_mem _ _ _ _ _ _ (ix3 0 r ⟨x.val, by omega⟩) rfl (by intro b; match b with | ⟨0, _⟩ => show a.val = 0 + 0; omega | ⟨1, _⟩ => show r.val = 0 + r.val; omega | ⟨2, _⟩ => show x.val = 0 + x.val; omega)]
      refine (pay64_at _ r _).trans ((ra _ _ _ _ (ix3 0 r ⟨0 + x.val, by omega⟩) rfl ?_).trans ?_)
      · intro b; match b with | ⟨0, _⟩ => rfl | ⟨1, _⟩ => show r.val = 0 + r.val; omega | ⟨2, _⟩ => rfl
      · rw [harg3.read_unread]
        exact qf_lo x0 a r x _ hx (by show 0 + x.val = _; omega)
    · rw [View.read_writes_cons_unit_of_not_mem _ _ _ _ _ _ rfl (0 : Fin 3) (by left; show a.val < 1; omega),
        View.read_writes_cons_unit_of_not_mem _ _ _ _ _ _ rfl (0 : Fin 3) (by left; show a.val < 1; omega),
        View.read_writes_cons_unit_of_mem _ _ _ _ _ _ (ix3 0 r ⟨x.val - 128, by omega⟩) rfl (by intro b; match b with | ⟨0, _⟩ => show a.val = 0 + 0; omega | ⟨1, _⟩ => show r.val = 0 + r.val; omega | ⟨2, _⟩ => show x.val = 128 + (x.val - 128); omega)]
      exact (pay66_at r _).trans (qf_hi x0 a r x hx)

theorem qxA (c : Dev nD) (arg3 : Memref sig .tc .vmem S1x1024x256 .bf16) (harg3 : arg3.IsWhole) (x0 : Vec Ideal S1x1024x256 .bf16) (arg9 : Memref sig .tc .vmem S2x1024x256 .bf16) :
    arg9.view.read (Elt Ideal) (arg9.view.writes (Elt Ideal) arg9.view.junk (kernelRun0_A.sl.HS0_4 c arg3 harg3 x0)) = qF x0 := by
  funext y
  idx_vars y
  generalize y0 = a
  generalize y1 = r
  generalize y2 = x
  unfold kernelRun0_A.sl.HS0_4
  show _ = qf x0 a r x
  by_cases ha : a = 1
  · have ha : a.val = 1 := by rw [ha]; rfl
    by_cases hx : x.val < 128
    · rw [View.read_writes_cons_unit_of_not_mem _ _ _ _ _ _ rfl (2 : Fin 3) (by left; show x.val < 128; omega),
        View.read_writes_cons_unit_of_mem _ _ _ _ _ _ (ix3 0 r ⟨x.val, by omega⟩) rfl (by intro b; match b with | ⟨0, _⟩ => show a.val = 1 + 0; omega | ⟨1, _⟩ => show r.val = 0 + r.val; omega | ⟨2, _⟩ => show x.val = 0 + x.val; omega)]
      refine (pay67_at _ r _).trans ((ra _ _ _ _ (ix3 0 r ⟨128 + x.val, by omega⟩) rfl ?_).trans ?_)
      · intro b; match b with | ⟨0, _⟩ => rfl | ⟨1, _⟩ => show r.val = 0 + r.val; omega | ⟨2, _⟩ => rfl
      · rw [harg3.read_unread]
        exact qf_lo x0 a r x _ hx (by show 128 + x.val = _; omega)
    · rw [View.read_writes_cons_unit_of_mem _ _ _ _ _ _ (ix3 0 r ⟨x.val - 128, by omega⟩) rfl (by intro b; match b with | ⟨0, _⟩ => show a.val = 1 + 0; omega | ⟨1, _⟩ => show r.val = 0 + r.val; omega | ⟨2, _⟩ => show x.val = 128 + (x.val - 128); omega)]
      exact (pay68_at r _).trans (qf_hi x0 a r x hx)
  · have ha : a.val = 0 := by omega
    by_cases hx : x.val < 128
    · rw [View.read_writes_cons_unit_of_not_mem _ _ _ _ _ _ rfl (0 : Fin 3) (by left; show a.val < 1; omega),
        View.read_writes_cons_unit_of_not_mem _ _ _ _ _ _ rfl (0 : Fin 3) (by left; show a.val < 1; omega),
        View.read_writes_cons_unit_of_not_mem _ _ _ _ _ _ rfl (2 : Fin 3) (by left; show x.val < 128; omega),
        View.read_writes_cons_unit_of_mem _ _ _ _ _ _ (ix3 0 r ⟨x.val, by omega⟩) rfl (by intro b; match b with | ⟨0, _⟩ => show a.val = 0 + 0; omega | ⟨1, _⟩ => show r.val = 0 + r.val; omega | ⟨2, _⟩ => show x.val = 0 + x.val; omega)]
      refine (pay64_at _ r _).trans ((ra _ _ _ _ (ix3 0 r ⟨0 + x.val, by omega⟩) rfl ?_).trans ?_)
      · intro b; match b with | ⟨0, _⟩ => rfl | ⟨1, _⟩ => show r.val = 0 + r.val; omega | ⟨2, _⟩ => rfl
      · rw [harg3.read_unread]
        exact qf_lo x0 a r x _ hx (by show 0 + x.val = _; omega)
    · rw [View.read_writes_cons_unit_of_not_mem _ _ _ _ _ _ rfl (0 : Fin 3) (by left; show a.val < 1; omega),
        View.read_writes_cons_unit_of_not_mem _ _ _ _ _ _ rfl (0 : Fin 3) (by left; show a.val < 1; omega),
        View.read_writes_cons_unit_of_mem _ _ _ _ _ _ (ix3 0 r ⟨x.val - 128, by omega⟩) rfl (by intro b; match b with | ⟨0, _⟩ => show a.val = 0 + 0; omega | ⟨1, _⟩ => show r.val = 0 + r.val; omega | ⟨2, _⟩ => show x.val = 128 + (x.val - 128); omega)]
      exact (pay66_at r _).trans (qf_hi x0 a r x hx)

end Cert.Proof.Fox

end
-- ==== Proof.FoxScore.lean ====
module

/- Hand-written, untrusted. The attention kernel's scores: the product of a lane-extended key and query is the reference's logit
   less the query's own decay, in base two. -/

public import proofs.«01_k».proof.Proof.FoxKx
public import proofs.«01_k».proof.Proof.FoxQx
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Proof.Fox

open Idealize.ShloMosaic Idealize.ShloMosaic.TcCoe Idealize.SL.Sem
open Cert.KernelIdeal Cert.KernelIdeal.Gen

variable (m : (ℓ : Loc nD τ sig) → Buf (Elt Ideal) ℓ) (c : Dev nD)

theorem bits_two : Ideal.ofBits FTy.f32 0x40000000#32 = ((2 : ℝ) : EReal) := by
  simp [Ideal.ofBits, Ideal.ieee, -EReal.coe_mul]; norm_num

theorem bits_128 : Ideal.ofBits FTy.f32 1124073472#32 = ((128 : ℝ) : EReal) := by
  simp [Ideal.ofBits, Ideal.ieee, -EReal.coe_mul]; norm_num

theorem l2e_real : l2e = (((Real.log 2)⁻¹ : ℝ) : EReal) := by
  unfold l2e
  rw [bits_two]
  have h : Ideal.log ((2 : ℝ) : EReal) = ((Real.log 2 : ℝ) : EReal) := by
    show (if (2 : ℝ) ≤ 0 then (⊥ : EReal) else _) = _
    rw [if_neg (by norm_num)]
  rw [h, div_real 1 _ (Real.log_pos (by norm_num)), one_mul]

theorem rs_real : Ideal.rsqrt (Ideal.ofBits FTy.f32 1124073472#32) = (((Real.sqrt 128)⁻¹ : ℝ) : EReal) := by
  rw [bits_128]
  show (if (128 : ℝ) < 0 then (⊥ : EReal) else if (128 : ℝ) = 0 then ⊤ else _) = _
  rw [if_neg (by norm_num), if_neg (by norm_num)]

theorem qsc_real : qsc = (((Real.sqrt 128)⁻¹ * (Real.log 2)⁻¹ : ℝ) : EReal) := by
  unfold qsc
  rw [rs_real, l2e_real, ← EReal.coe_mul]

theorem c3_real (u : ℝ) (j : ℕ) : c3 (u : EReal) j = ((if j = 0 then -u * (Real.log 2)⁻¹ else 0 : ℝ) : EReal) := by
  have e : -(u : EReal) * l2e = ((-u * (Real.log 2)⁻¹ : ℝ) : EReal) := by rw [l2e_real, ← EReal.coe_neg, ← EReal.coe_mul]
  have z : ((-u * (Real.log 2)⁻¹ : ℝ) : EReal) - ((-u * (Real.log 2)⁻¹ : ℝ) : EReal) = ((0 : ℝ) : EReal) := by rw [← EReal.coe_sub, sub_self]
  have z0 : ((0 : ℝ) : EReal) - ((0 : ℝ) : EReal) = ((0 : ℝ) : EReal) := by rw [← EReal.coe_sub, sub_self]
  unfold c3
  rw [e, z, z0]
  by_cases h : j = 0
  · rw [if_pos h, if_pos h]
  · rw [if_neg h, if_neg h]
    by_cases h1 : j = 1
    · rw [if_pos h1]
    · rw [if_neg h1]
      by_cases h2 : j = 2
      · rw [if_pos h2]
      · rw [if_neg h2]; rfl

/-- The logit, over real arguments. -/
def lgR (q k : Fin 8 → Fin 4096 → Fin 2048 → ℝ) (u : Fin 8 → Fin 4096 → Fin 16 → ℝ) (i : Fin 8) (h : Fin 16) (t s : Fin 4096) : ℝ :=
  (∑ x : Fin 128, q i t ⟨h.val * 128 + x.val, by omega⟩ * k i s ⟨h.val * 128 + x.val, by omega⟩) * (Real.sqrt 128)⁻¹ + (u i t h - u i s h)

theorem lg_real (q k : Fin 8 → Fin 4096 → Fin 2048 → EReal) (u : Fin 8 → Fin 4096 → Fin 16 → EReal) (qr kr : Fin 8 → Fin 4096 → Fin 2048 → ℝ)
    (ur : Fin 8 → Fin 4096 → Fin 16 → ℝ) (hq : ∀ b s d, q b s d = (qr b s d : EReal)) (hk : ∀ b s d, k b s d = (kr b s d : EReal))
    (hu : ∀ b s h, u b s h = (ur b s h : EReal)) (i : Fin 8) (h : Fin 16) (t s : Fin 4096) :
    lg q k u i h t s = ((lgR qr kr ur i h t s : ℝ) : EReal) := by
  unfold lg lgR
  rw [rs_real, hu, hu, EReal.coe_add, EReal.coe_mul, coe_sum, EReal.coe_sub]
  simp only [hq, hk, EReal.coe_mul]

/-- The score of key `s` for the query of row `r` at point `t`. -/
theorem score (qr kr : Fin 8 → Fin 4096 → Fin 2048 → ℝ)
    (ur : Fin 8 → Fin 4096 → Fin 16 → ℝ) (hq : ∀ b s d, aQ m c b s d = (qr b s d : EReal)) (hk : ∀ b s d, aK m c b s d = (kr b s d : EReal))
    (hu : ∀ b s h, aU m c b s h = (ur b s h : EReal)) (t : Fin cfg0.N) (hg : t.val / 4 < 64) (b : Fin 8) (hb : b.val = t.val / 32) (a : Fin 2) (h : Fin 16)
    (hh : h.val = t.val / 4 % 8 * 2 + a.val) (r : Fin 1024) (T : Fin 4096) (hT : T.val = t.val % 4 * 1024 + r.val) (s : Fin 4096) :
    sc (fun y => kxF m c (t.val / 4) hg (y 0) (y 1) (y 2)) (qF (iblk m c 0 t)) a s r
      = (((lgR qr kr ur b h T s - ur b T h) * (Real.log 2)⁻¹ : ℝ) : EReal) := by
  have htN := lt_N t
  have e : ∀ x : Fin 256, HMul.hMul (α := EReal) (β := EReal) (γ := EReal) (kxF m c (t.val / 4) hg a s x) (qf (iblk m c 0 t) a r x)
      = ((if hx : x.val < 128 then kr b s ⟨h.val * 128 + x.val, by omega⟩ * (qr b T ⟨h.val * 128 + x.val, by omega⟩ * ((Real.sqrt 128)⁻¹ * (Real.log 2)⁻¹))
          else (if x.val - 128 = 0 then -(ur b s h) * (Real.log 2)⁻¹ else 0) : ℝ) : EReal) := by
    intro x
    by_cases hx : x.val < 128
    · rw [dif_pos hx, ← qf_lo (iblk m c 0 t) a r x ⟨a.val * 128 + x.val, by omega⟩ hx rfl]
      unfold kxF
      rw [if_pos hx]
      have eq : aQ m c ⟨t.val / 32, by omega⟩ ⟨t.val % 4 * 1024 + r.val, by omega⟩ ⟨t.val / 4 % 8 * 256 + (a.val * 128 + x.val), by omega⟩ = (qr b T ⟨h.val * 128 + x.val, by omega⟩ : EReal) := by
        have i0 : (⟨t.val / 32, by omega⟩ : Fin 8) = b := Fin.ext hb.symm
        have i1 : (⟨t.val % 4 * 1024 + r.val, by omega⟩ : Fin 4096) = T := Fin.ext hT.symm
        have i2 : (⟨t.val / 4 % 8 * 256 + (a.val * 128 + x.val), by omega⟩ : Fin 2048) = ⟨h.val * 128 + x.val, by omega⟩ := Fin.ext (by show t.val / 4 % 8 * 256 + (a.val * 128 + x.val) = h.val * 128 + x.val; omega)
        rw [← hq, i0, i1, i2]
      refine (congrArg₂ (fun p q : EReal => p * q) ((aK_congr m c (by show t.val / 4 / 8 = b.val; omega) rfl (by show _ % 2048 = h.val * 128 + x.val; omega)).trans (hk b s ⟨h.val * 128 + x.val, by omega⟩))
        ((blk0 m c t r ⟨a.val * 128 + x.val, by omega⟩).trans (congrArg₂ (fun p q : EReal => p * q) eq qsc_real))).trans ?_
      show _ * (_ * _) = _
      rw [← EReal.coe_mul, ← EReal.coe_mul]
    · rw [dif_neg hx, ← qf_hi (iblk m c 0 t) a r x hx]
      unfold kxF
      rw [if_neg hx, aU_congr m c (b' := b) (s' := s) (d' := h) (by show t.val / 4 / 8 = b.val; omega) rfl (by show _ = h.val; exact hh.symm), hu b s h, c3_real]
      by_cases h0 : x.val - 128 = 0
      · rw [if_pos h0, if_pos (by omega), mul_one]
      · rw [if_neg h0]
        show ((0 : ℝ) : EReal) * _ = _
        rw [EReal.coe_zero, zero_mul]
  show ∑ x : Fin 256, HMul.hMul (α := EReal) (β := EReal) (γ := EReal) (kxF m c (t.val / 4) hg a s x) (qf (iblk m c 0 t) a r x) = _
  rw [Finset.sum_congr rfl fun x _ => e x, ← coe_sum]
  refine congrArg _ ?_
  refine (Fin.sum_univ_add (a := 128) (b := 128) _).trans ?_
  have e1 : ∀ x : Fin 128, (Fin.castAdd 128 x).val < 128 := fun x => x.isLt
  have e2 : ∀ x : Fin 128, ¬ (Fin.natAdd 128 x).val < 128 := fun x => by show ¬ 128 + x.val < 128; omega
  rw [Finset.sum_congr rfl fun x _ => dif_pos (e1 x), Finset.sum_congr rfl fun x _ => dif_neg (e2 x)]
  rw [Finset.sum_eq_single (0 : Fin 128) (fun x _ hx => if_neg (by
    show ¬ 128 + x.val - 128 = 0
    intro hc
    exact hx (Fin.ext (by show x.val = 0; omega)))) (fun hx => absurd (Finset.mem_univ _) hx), if_pos (show (Fin.natAdd 128 (0 : Fin 128)).val - 128 = 0 from rfl)]
  unfold lgR
  have e3 : (∑ x : Fin 128, kr b s ⟨h.val * 128 + (Fin.castAdd 128 x).val, by have := e1 x; omega⟩ * (qr b T ⟨h.val * 128 + (Fin.castAdd 128 x).val, by have := e1 x; omega⟩ * ((Real.sqrt 128)⁻¹ * (Real.log 2)⁻¹)))
      = (∑ x : Fin 128, qr b T ⟨h.val * 128 + x.val, by omega⟩ * kr b s ⟨h.val * 128 + x.val, by omega⟩) * ((Real.sqrt 128)⁻¹ * (Real.log 2)⁻¹) := by
    rw [Finset.sum_mul]
    refine Finset.sum_congr rfl fun x _ => ?_
    show kr b s ⟨h.val * 128 + x.val, _⟩ * (qr b T ⟨h.val * 128 + x.val, _⟩ * _) = _
    ring
  refine (congrArg (· + _) e3).trans ?_
  ring

end Cert.Proof.Fox

end
-- ==== Proof.MmFoxIn.lean ====
/-
  Hand-written, untrusted. The query, key and value projection of the forgetting attention: the normalised rows
  kept from one point of a tile to the next, the kernel's blocks, the array they make, and the value claim.
-/
module

public import proofs.«01_k».proof.Defs
public import proofs.«01_k».proof.Proof.FfnRef
public import proofs.«01_k».proof.Proof.FoxScore
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384

noncomputable section

namespace Cert.Proof.MmFoxIn

open Idealize.ShloMosaic Idealize.ShloMosaic.TcCoe Idealize.SL.Sem
open Cert.Proof.Ffn (nrm normT normT_at)
open Cert.Proof.Fox (qsc qsc_real)

section Reference

open Cert.Reference11Ideal Cert.Reference11Ideal.Gen

/-- A constant that is real and not negative comes out of a sum. -/
theorem sum_scale {ι : Type} (s : Finset ι) (f w : ι → EReal) (c : ℝ) (hc : 0 ≤ c) :
    ∑ k ∈ s, f k * (w k * (c : EReal)) = (∑ k ∈ s, f k * w k) * (c : EReal) := by
  classical
  induction s using Finset.induction_on with
  | empty => simp
  | insert a s h ih =>
    rw [Finset.sum_insert h, Finset.sum_insert h, ih, ← mul_assoc,
      EReal.right_distrib_of_nonneg_of_ne_top (EReal.coe_nonneg.2 hc) (EReal.coe_ne_top c)]

/-- The scale of the queries comes out of the sum over the features. -/
theorem sum_qsc {ι : Type} (s : Finset ι) (f w : ι → EReal) : ∑ k ∈ s, f k * (w k * qsc) = (∑ k ∈ s, f k * w k) * qsc := by
  rw [qsc_real]
  exact sum_scale s f w _ (mul_nonneg (inv_nonneg.2 (Real.sqrt_nonneg _)) (inv_nonneg.2 (Real.log_nonneg (by norm_num))))

/-- The normalised rows projected to all the features the layer takes from them. -/
def prjT (x : FVec Ideal S8x4096x2048 .f32) (g : FVec Ideal S2048 .f32) (w : FVec Ideal S2048x6160 .f32) : FVec Ideal S8x4096x6160 .f32 :=
  Host.dotGeneral dot_S8x4096x2048_S2048x6160_S8x4096x6160_2_0_01_1_n_n none (normT x g) w

theorem prjT_at (x : FVec Ideal S8x4096x2048 .f32) (g : FVec Ideal S2048 .f32) (w : FVec Ideal S2048x6160 .f32) (b : Fin 8) (s : Fin 4096) (f : Fin 6160) :
    prjT x g w (ix3 b s f) = ∑ k, nrm (fun d => x (ix3 b s d)) (fun d => g (ix1 d)) k * w (ix2 k f) := by
  pointwise [prjT]
  exact Finset.sum_congr rfl fun k _ => by rw [normT_at]

/-- The reference's result: the queries scaled, the keys and the values. -/
def refT (x : FVec Ideal S8x4096x2048 .f32) (g : FVec Ideal S2048 .f32) (w : FVec Ideal S2048x6160 .f32) : FVec Ideal S32768x6144 .bf16 :=
  truncf .bf16 (concatenate S32768x6144 1 [⟨S32768x2048, ((mulf (extractStridedSlice S32768x2048 ![0, 0] (shapeCast S32768x6160 (prjT x g w) shapeCasts_S8x4096x6160_S32768x6160) slices_S32768x6160_S32768x2048_0_0) (broadcastInDim S32768x2048 ![] bcast_S_S32768x2048 (mulf (Host.rsqrt (constant S_ .f32 0x43000000#32)) (Host.divf (constant S_ .f32 0x3F800000#32) (Host.log (constant S_ .f32 0x40000000#32)))))) : FVec Ideal S32768x2048 .f32)⟩,
    ⟨S32768x2048, (extractStridedSlice S32768x2048 ![0, 2048] (shapeCast S32768x6160 (prjT x g w) shapeCasts_S8x4096x6160_S32768x6160) slices_S32768x6160_S32768x2048_0_2048 : FVec Ideal S32768x2048 .f32)⟩,
    ⟨S32768x2048, (extractStridedSlice S32768x2048 ![0, 4096] (shapeCast S32768x6160 (prjT x g w) shapeCasts_S8x4096x6160_S32768x6160) slices_S32768x6160_S32768x2048_0_4096 : FVec Ideal S32768x2048 .f32)⟩] concatenates_S32768x2048_S32768x2048_S32768x2048_S32768x6144_d1) bitsLt_bf16_f32

/-- A column of the weights the call works with: the queries' columns carry the softmax's scale. -/
def col (w : Fin 2048 → Fin 6160 → EReal) (k : Fin 2048) (f : Fin 6144) : EReal :=
  if f.val < 2048 then w k ⟨f.val, by omega⟩ * qsc else w k ⟨f.val, by omega⟩

theorem refT_at (x : FVec Ideal S8x4096x2048 .f32) (g : FVec Ideal S2048 .f32) (w : FVec Ideal S2048x6160 .f32) (r : Fin 32768) (f : Fin 6144) :
    refT x g w (ix2 r f) = ∑ k, nrm (fun d => x (ix3 ⟨r.val / 4096, by omega⟩ ⟨r.val % 4096, by omega⟩ d)) (fun d => g (ix1 d)) k
      * col (fun k f => w (ix2 k f)) k f := by
  unfold col
  pointwise [refT]
  by_cases h : f.val < 2048
  · simp only [h, dif_pos, if_true]
    rw [prjT_at, sum_qsc]
    rfl
  · simp only [h, dif_neg, not_false_eq_true, if_false]
    by_cases h' : f.val - 2048 < 2048
    · simp only [h', dif_pos]
      rw [prjT_at]
      exact Finset.sum_congr rfl fun k _ => congrArg _ (congrArg w (congrArg (ix2 k) (Fin.ext (by show 2048 + (f.val - 2048) = f.val; omega))))
    · simp only [h', dif_neg, not_false_eq_true]
      rw [prjT_at]
      exact Finset.sum_congr rfl fun k _ => congrArg _ (congrArg w (congrArg (ix2 k) (Fin.ext (by show 4096 + (f.val - 2048 - 2048) = f.val; omega))))

end Reference

open Cert.Kernel11Ideal Cert.Kernel11Ideal.Gen

variable (m : (ℓ : Loc nD τ sig) → Buf (Elt Ideal) ℓ) (c : Dev nD)

/-- The layer's input, by sequence, position and feature. -/
abbrev aX (b : Fin 8) (s : Fin 4096) (d : Fin 2048) : EReal := (m ((c : Thread nD τ).loc main_arg0) : FVec Ideal S8x4096x2048 .f32) (ix3 b s d)
/-- The norm's gain. -/
abbrev aG (d : Fin 2048) : EReal := (m ((c : Thread nD τ).loc main_arg1) : FVec Ideal S2048 .f32) (ix1 d)
/-- The projection, of which the call takes the queries', keys' and values' columns. -/
abbrev aW (d : Fin 2048) (f : Fin 6160) : EReal := (m ((c : Thread nD τ).loc main_arg2) : FVec Ideal S2048x6160 .f32) (ix2 d f)

/-- The columns the call works with. -/
abbrev wc (k : Fin 2048) (f : Fin 6144) : EReal := col (aW m c) k f

theorem lt_N (t : Fin cfg0.N) : t.val < 192 := t.isLt

theorem idx : ∀ t : Fin cfg0.N, win0_0.index t = ![t.val / 6, 0] ∧ win0_1.index t = ![0, t.val % 6] ∧ win0_2.index t = ![0, 0]
    ∧ win0_3.index t = ![t.val / 6, t.val % 6] := (by decide +kernel : ∀ t : Fin grid0.N, _)

/-- The weights, the queries' columns scaled. -/
def catW (w : FVec Ideal S2048x6160 .f32) : FVec Ideal S2048x6144 .bf16 :=
  truncf .bf16 (concatenate S2048x6144 1 [⟨S2048x2048, (mulf (extractStridedSlice S2048x2048 ![0, 0] w slices_S2048x6160_S2048x2048_0_0) (broadcastInDim S2048x2048 ![] bcast_S_S2048x2048 (mulf (Host.rsqrt (constant S_ .f32 0x43000000#32)) (Host.divf (constant S_ .f32 0x3F800000#32) (Host.log (constant S_ .f32 0x40000000#32))))) : FVec Ideal S2048x2048 .f32)⟩,
    ⟨S2048x4096, (extractStridedSlice S2048x4096 ![0, 2048] w slices_S2048x6160_S2048x4096_0_2048 : FVec Ideal S2048x4096 .f32)⟩] concatenates_S2048x2048_S2048x4096_S2048x6144_d1) bitsLt_bf16_f32

theorem catW_at (w : FVec Ideal S2048x6160 .f32) (k : Fin 2048) (f : Fin 6144) : catW w (ix2 k f) = col (fun k f => w (ix2 k f)) k f := by
  unfold col
  pointwise [catW]
  by_cases h : f.val < 2048
  · simp only [h, dif_pos, if_true]
    rfl
  · simp only [h, dif_neg, not_false_eq_true, if_false]
    exact congrArg w (congrArg (ix2 k) (Fin.ext (by show 2048 + (f.val - 2048) = f.val; omega)))

theorem V_v10 : V m c main_v10 = catW (m ((c : Thread nD τ).loc main_arg2) : FVec Ideal S2048x6160 .f32) := rfl

theorem blk0 (t : Fin cfg0.N) (r : Fin 1024) (k : Fin 2048) :
    (iblk m c 0 t : FVec Ideal S1024x2048 .f32) (ix2 r k) = aX m c ⟨t.val / 24, by have := lt_N t; omega⟩ ⟨t.val / 6 % 4 * 1024 + r.val, by omega⟩ k := by
  have := lt_N t
  blk_simp [iblk, idx t]
  entry_read
  pointwise
  blk_ext [idx t]

theorem blk1 (t : Fin cfg0.N) (k : Fin 2048) (x : Fin 1024) :
    (iblk m c 1 t : FVec Ideal S2048x1024 .bf16) (ix2 k x) = wc m c k ⟨t.val % 6 * 1024 + x.val, by omega⟩ := by
  have := lt_N t
  blk_simp [iblk, idx t]
  rw [V_v10]
  refine Eq.trans (congrArg (catW _) ?_) (catW_at _ k ⟨t.val % 6 * 1024 + x.val, by omega⟩)
  blk_ext [idx t]

theorem blk2 (t : Fin cfg0.N) (d : Fin 2048) : (iblk m c 2 t : FVec Ideal S1x2048 .f32) (ix2 0 d) = aG m c d := by
  have := lt_N t
  blk_simp [iblk, idx t]
  entry_read
  pointwise
  blk_ext [idx t]

/-! ## The normalised rows, carried through a tile's points -/

/-- The normalised rows of tile `i`. -/
def XN (i : Fin 32) : FVec Ideal S1024x2048 .bf16 := fun y =>
  nrm (aX m c ⟨i.val / 4, by omega⟩ ⟨i.val % 4 * 1024 + (y 0 : Fin 1024).val, by have : (y 0 : Fin 1024).val < 1024 := (y 0).isLt; omega⟩) (aG m c) (y 1 : Fin 2048)

/-- The tile of rows a point works on. -/
def til (t : Fin cfg0.N) : Fin 32 := ⟨t.val / 6, by have := lt_N t; omega⟩

theorem rows_A (t : Fin cfg0.N) (h0 : t.val % 6 = 0) : (outsAt0 m c t.val t.isLt).2 = XN m c (til t) := by
  have hN := lt_N t
  rw [outsAt0_A m c t h0]
  frame_out
  funext y
  idx_vars y
  pointwise [k0_pay1]
  simp only [blk0, blk2]
  refine Eq.trans (b := nrm (aX m c ⟨t.val / 24, by omega⟩ ⟨t.val / 6 % 4 * 1024 + y0.val, by omega⟩) (aG m c) y1) rfl ?_
  have hb : (⟨t.val / 24, by omega⟩ : Fin 8) = ⟨t.val / 6 / 4, by omega⟩ := Fin.ext (by show t.val / 24 = t.val / 6 / 4; omega)
  rw [hb]
  rfl

theorem rows_B (t : Fin cfg0.N) (h0 : ¬t.val % 6 = 0) :
    (outsAt0 m c t.val t.isLt).2 = (outsAt0 m c (t.val - 1) (by have := t.isLt; omega)).2 := by
  rw [outsAt0_B m c t h0]
  rfl

theorem rows_at (i : Fin 32) : ∀ (s : ℕ) (hs : s < 6), (outsAt0 m c (6 * i.val + s) (by have : cfg0.N = 192 := rfl; omega)).2 = XN m c i
  | 0, hs => by
    have hN : cfg0.N = 192 := rfl
    let t : Fin cfg0.N := ⟨6 * i.val + 0, by omega⟩
    have e1 := rows_A m c t (by show (6 * i.val + 0) % 6 = 0; omega)
    rwa [show til t = i from Fin.ext (by show (6 * i.val + 0) / 6 = _; omega)] at e1
  | s + 1, hs => by
    have hN : cfg0.N = 192 := rfl
    let t : Fin cfg0.N := ⟨6 * i.val + (s + 1), by omega⟩
    exact (rows_B m c t (by show ¬(6 * i.val + (s + 1)) % 6 = 0; omega)).trans (rows_at i s (by omega))

theorem rows (t : Fin cfg0.N) : (outsAt0 m c t.val t.isLt).2 = XN m c (til t) := by
  have e := rows_at m c (til t) (t.val % 6) (by omega)
  have hv : 6 * (til t).val + t.val % 6 = t.val := by show 6 * (t.val / 6) + t.val % 6 = _; omega
  simp only [hv] at e
  exact e

/-! ## The blocks and the array -/

theorem out_A (t : Fin cfg0.N) (h0 : t.val % 6 = 0) (r x : Fin 1024) : ∀ (X : FVec Ideal S1024x2048 .bf16)
    (hX : (outsAt0 m c t.val t.isLt).2 = X), (outsAt0 m c t.val t.isLt).1 (ix2 r x) = ∑ k, X (ix2 r k) * iblk m c 1 t (ix2 k x) := by
  rw [outsAt0_A m c t h0]
  simp (disch := decide) only [↓ View.readCov_skip, ↓ View.readCov_cons_toLoadRect, ↓ View.readCov_fill]
  frame_out
  intro X hX
  simp (disch := decide) only [View.readCov_eq_canon', View.canon_cons_unit_lit', hX]
  pointwise [k0_pay2]

theorem out_B (t : Fin cfg0.N) (h0 : ¬t.val % 6 = 0) (r x : Fin 1024) :
    (outsAt0 m c t.val t.isLt).1 (ix2 r x) = ∑ k, (outsAt0 m c (t.val - 1) (by have := t.isLt; omega)).2 (ix2 r k) * iblk m c 1 t (ix2 k x) := by
  rw [outsAt0_B m c t h0]
  frame_out
  simp only [read_unread_whole]
  pointwise [k0_pay2]

/-- One feature of the projection of a normalised row. -/
def val (b : Fin 8) (s : Fin 4096) (f : Fin 6144) : EReal := ∑ k, nrm (aX m c b s) (aG m c) k * wc m c k f

/-- What a point writes back. -/
theorem out_at (t : Fin cfg0.N) (r x : Fin 1024) :
    (outsAt0 m c t.val t.isLt).1 (ix2 r x)
      = val m c ⟨t.val / 24, by have := lt_N t; omega⟩ ⟨t.val / 6 % 4 * 1024 + r.val, by omega⟩ ⟨t.val % 6 * 1024 + x.val, by omega⟩ := by
  have hN := lt_N t
  have e : (outsAt0 m c t.val t.isLt).1 (ix2 r x) = ∑ k, XN m c (til t) (ix2 r k) * iblk m c 1 t (ix2 k x) := by
    by_cases h0 : t.val % 6 = 0
    · exact out_A m c t h0 r x _ (rows m c t)
    · refine (out_B m c t h0 r x).trans (Finset.sum_congr rfl fun k _ => ?_)
      rw [← rows_B m c t h0, rows]
  refine e.trans (Finset.sum_congr rfl fun k _ => ?_)
  have hb : (⟨t.val / 24, by omega⟩ : Fin 8) = ⟨t.val / 6 / 4, by omega⟩ := Fin.ext (by show t.val / 24 = t.val / 6 / 4; omega)
  rw [blk1, hb]
  rfl

/-- The result array. -/
def G : FVec Ideal S32768x6144 .bf16 := fun y =>
  val m c ⟨(y 0 : Fin 32768).val / 4096, by have : (y 0 : Fin 32768).val < 32768 := (y 0).isLt; omega⟩
    ⟨(y 0 : Fin 32768).val % 4096, Nat.mod_lt _ (by omega)⟩ (y 1 : Fin 6144)

theorem final (c : Dev nD) : (dats m 0 c).arrAt 3 cfg0.N = G m c := by
  refine (dats m 0 c).arrAt_eq_of_covers 3 _ (by decide +kernel) fun t hf y => ?_
  blk_simp
  rw [after0_3]
  have hN := lt_N t
  idx_vars y
  refine (out_at m c t y0 y1).trans ?_
  have e : ∀ (a : Fin 32768) (d : Fin 6144), a.val = t.val / 6 * 1024 + y0.val → d.val = t.val % 6 * 1024 + y1.val →
      val m c ⟨t.val / 24, by omega⟩ ⟨t.val / 6 % 4 * 1024 + y0.val, by omega⟩ ⟨t.val % 6 * 1024 + y1.val, by omega⟩ = G m c (ix2 a d) := by
    intro a d ha hd
    have hb : (⟨t.val / 24, by omega⟩ : Fin 8) = ⟨a.val / 4096, by omega⟩ := Fin.ext (by show t.val / 24 = a.val / 4096; omega)
    have hs : (⟨t.val / 6 % 4 * 1024 + y0.val, by omega⟩ : Fin 4096) = ⟨a.val % 4096, by omega⟩ := Fin.ext (by show t.val / 6 % 4 * 1024 + y0.val = a.val % 4096; omega)
    have hd' : (⟨t.val % 6 * 1024 + y1.val, by omega⟩ : Fin 6144) = d := Fin.ext hd.symm
    rw [hb, hs, hd']
    rfl
  refine (e ⟨t.val / 6 * 1024 + y0.val, by omega⟩ ⟨t.val % 6 * 1024 + y1.val, by omega⟩ rfl rfl).trans ?_
  congr 1
  blk_ext [idx t]

theorem algebraic : Cert.algebraic_Kernel11Ideal_Reference11Ideal (hKernel11Ideal := Cert.Kernel11Ideal.Gen.facts) (hReference11Ideal := Cert.Reference11Ideal.Gen.facts) := by
  intro m g m' g' hpre hag
  refine ⟨fun c => G m c, ?_, ?_⟩
  · refine (θ_run _ _ _).mono (fun r h c => ⟨(h c).1.trans (final m c), (h c).2⟩) (Cert.Kernel11Ideal.Value.run_blocks m g)
  · refine (θ_run _ _ _).mono (fun r h c => ⟨(h c).1.trans ?_, (h c).2⟩) (Cert.Reference11Ideal.Value.run m' g')
    obtain ⟨h0, h1, h2⟩ := hag c
    rw [h0, h1, h2]
    funext y
    idx_vars y
    exact refT_at _ _ _ y0 y1

end Cert.Proof.MmFoxIn

end
-- ==== Proof.FoxOut.lean ====
module

/- Hand-written, untrusted. A block of the attention kernel's output, in both of its cases: the quotient of the online sums of
   values and of weights after the tiles up to the diagonal. -/

public import proofs.«01_k».proof.Proof.FoxQx
public import proofs.«01_k».proof.Proof.FoxMsk
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.WritesUnit

@[expose] public section

set_option maxRecDepth 16384

noncomputable section

namespace Cert.Proof.Fox

open Idealize.ShloMosaic Idealize.ShloMosaic.TcCoe Idealize.SL.Sem
open Cert.KernelIdeal Cert.KernelIdeal.Gen

variable (c : Dev nD)

set_option maxHeartbeats 2000000 in
/-- A block of the output is the quotient of the two online sums. -/
theorem outB (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2x8x4096 .bf16) (harg6 : arg6.IsWhole) (arg7 : Memref sig .tc .vmem S8x128 .bf16) (harg7 : arg7.IsWhole) (arg8 : Memref sig .tc .vmem S1x1024x256 .bf16) (harg8 : arg8.IsWhole) (arg9 : Memref sig .tc .vmem S2x1024x256 .bf16) (harg9 : arg9.IsWhole) (arg10 : Memref sig .tc .vmem S2x4096x256 .bf16) (harg10 : arg10.IsWhole) (arg11 : Memref sig .tc .vmem S2x4x144x1024 .bf16) (harg11 : arg11.IsWhole) (arg12 : Memref sig .tc .vmem S1x2048 .f32) (harg12 : arg12.IsWhole) (arg13 : Memref sig .tc .vmem S144x2048 .f32) (harg13 : arg13.IsWhole) (hc0 : ¬cond0_0 i)
    (x0 : Vec Ideal S1x1024x256 .bf16) (x1 : Vec Ideal S1x4096x256 .bf16) (x2 : Vec Ideal S1x4096x256 .bf16) (x3 : Vec Ideal S1x2x8x4096 .bf16) (x4 : Vec Ideal S8x128 .bf16) (xs1 : Vec Ideal S2x4096x256 .bf16) (xs2 : Vec Ideal S2x4x144x1024 .bf16)
    (a : Fin 2) (r : Fin 1024) (x : Fin 128) (col : Fin 256) (hc : col.val = a.val * 128 + x.val) (z : ℕ → EReal) (w : Fin 144 → ℕ → EReal)
    (hz : ∀ κ : Fin 4, κ.val < (i 2).val → ∀ s : Fin 1024, tile xs1 (qF x0) a κ r s = z (κ.val * 1024 + s.val))
    (hz3 : ∀ s : Fin 1024, mtile xs1 (qF x0) a (i 2) r s = z ((i 2).val * 1024 + s.val))
    (hw : ∀ (d : Fin 144) (κ : Fin 4) (s : Fin 1024), Eq (α := EReal) (xs2 (ix4 a κ d s)) (w d (κ.val * 1024 + s.val))) :
    Eq (α := EReal) ((out0_B_5 (F := Ideal) c i arg3 harg3 arg4 harg4 arg5 harg5 arg6 harg6 arg7 harg7 arg8 harg8 arg9 harg9 arg10 harg10 arg11 harg11 arg12 harg12 arg13 harg13 hc0 x0 x1 x2 x3 x4 xs1 xs2 : FVec Ideal S1x1024x256 .bf16) (ix3 0 r col))
      (Ideal.div (oa z (w ⟨x.val, by omega⟩) ((i 2).val + 1)) (oa z (w 128) ((i 2).val + 1))) := by
  have h17 : ∀ i : grid0.Coords, kernelRun0_B.sl.v17 i = BitVec.ofNat 32 (i 2).val := by
    intro i
    have e : ∀ n : Fin 4, (let v0 := Scalar.muli (BitVec.ofNat 32 n.val) 1024#32
    Scalar.select (Scalar.andi (Scalar.cmpi .ne (Scalar.subi (Scalar.extui (Scalar.cmpi .sgt v0 0#32)) (Scalar.extui (Scalar.cmpi .slt v0 0#32))) (Scalar.subi (Scalar.extui (Scalar.cmpi .sgt 1024#32 0#32)) (Scalar.extui (Scalar.cmpi .slt 1024#32 0#32)))) (Scalar.cmpi .ne (Scalar.remsi v0 1024#32) 0#32)) (Scalar.subi (Scalar.divsi v0 1024#32) 1#32) (Scalar.divsi v0 1024#32)) = BitVec.ofNat 32 n.val := by decide +kernel
    exact e (i 2)
  unfold out0_B_5 kernelRun0_B
  dsimp only
  by_cases ha : a = 1
  · have ha : a.val = 1 := by rw [ha]; rfl
    rw [View.read_writes_cons_unit_of_mem _ _ _ _ _ _ (ix3 0 r x) rfl (by
      intro b; match b with | ⟨0, _⟩ => rfl | ⟨1, _⟩ => show r.val = 0 + r.val; omega | ⟨2, _⟩ => show col.val = 128 + x.val; omega)]
    rw [pay10_at]
    unfold kernelRun0_B.sl.v86 kernelRun0_B.sl.v87
    rw [st4_nil, st2_nil]
    dsimp only [List.nil_append]
    unfold View.readCov
    simp only [View.writes_append]
    refine congr (congrArg Ideal.div ?_) ?_
    · rw [ra _ _ _ _ (ix2 ⟨x.val, by omega⟩ ⟨1024 + r.val, by omega⟩) rfl (by intro b; match b with | ⟨0, _⟩ => show x.val = 0 + x.val; omega | ⟨1, _⟩ => rfl)]
      refine loop3 (d := ⟨x.val, by omega⟩) (z := z) (w := w) (col := ⟨1024 + r.val, by omega⟩) (a := a) (r := r) (hc := (by show 1024 + r.val = a.val * 1024 + r.val; omega)) (h17 := ?_) (h58 := rfl) (h61 := rfl) (hM := ?_) (hA := ?_) (hz3 := ?_) (hw := ?_)
      · exact h17 i
      · exact (loop1T (z := z) (w := w) (col := ⟨1024 + r.val, by omega⟩) (a := a) (r := r) (hc := (by show 1024 + r.val = a.val * 1024 + r.val; omega)) (hM := (by unfold kernelRun0_B.sl.HS3_1; rw [View.read_writes_cons_unit_of_mem _ _ _ _ _ _ (ix2 0 ⟨1024 + r.val, by omega⟩) rfl (by intro b; match b with | ⟨0, _⟩ => rfl | ⟨1, _⟩ => show 1024 + r.val = 0 + (1024 + r.val); omega)]; exact pay69_at _)) (hA := (by intro d; unfold kernelRun0_B.sl.HS4_1; rw [View.read_writes_cons_unit_of_mem _ _ _ _ _ _ (ix2 d ⟨1024 + r.val, by omega⟩) rfl (by intro b; match b with | ⟨0, _⟩ => show d.val = 0 + d.val; omega | ⟨1, _⟩ => show 1024 + r.val = 0 + (1024 + r.val); omega)]; exact pay70_at _ _)) (hz := (by rw [qxB, harg10.read_unread]; exact hz)) (hw := (by rw [harg11.read_unread]; exact hw))).1
      · exact (loop1T (z := z) (w := w) (col := ⟨1024 + r.val, by omega⟩) (a := a) (r := r) (hc := (by show 1024 + r.val = a.val * 1024 + r.val; omega)) (hM := (by unfold kernelRun0_B.sl.HS3_1; rw [View.read_writes_cons_unit_of_mem _ _ _ _ _ _ (ix2 0 ⟨1024 + r.val, by omega⟩) rfl (by intro b; match b with | ⟨0, _⟩ => rfl | ⟨1, _⟩ => show 1024 + r.val = 0 + (1024 + r.val); omega)]; exact pay69_at _)) (hA := (by intro d; unfold kernelRun0_B.sl.HS4_1; rw [View.read_writes_cons_unit_of_mem _ _ _ _ _ _ (ix2 d ⟨1024 + r.val, by omega⟩) rfl (by intro b; match b with | ⟨0, _⟩ => show d.val = 0 + d.val; omega | ⟨1, _⟩ => show 1024 + r.val = 0 + (1024 + r.val); omega)]; exact pay70_at _ _)) (hz := (by rw [qxB, harg10.read_unread]; exact hz)) (hw := (by rw [harg11.read_unread]; exact hw))).2
      · exact (by rw [qxB, harg10.read_unread]; exact hz3)
      · exact (by rw [harg11.read_unread]; exact hw)
    · rw [ra _ _ _ _ (ix2 128 ⟨1024 + r.val, by omega⟩) rfl (by intro b; match b with | ⟨0, _⟩ => show (128 : ℕ) = 128 + 0; omega | ⟨1, _⟩ => rfl)]
      refine loop3 (d := 128) (z := z) (w := w) (col := ⟨1024 + r.val, by omega⟩) (a := a) (r := r) (hc := (by show 1024 + r.val = a.val * 1024 + r.val; omega)) (h17 := ?_) (h58 := rfl) (h61 := rfl) (hM := ?_) (hA := ?_) (hz3 := ?_) (hw := ?_)
      · exact h17 i
      · exact (loop1T (z := z) (w := w) (col := ⟨1024 + r.val, by omega⟩) (a := a) (r := r) (hc := (by show 1024 + r.val = a.val * 1024 + r.val; omega)) (hM := (by unfold kernelRun0_B.sl.HS3_1; rw [View.read_writes_cons_unit_of_mem _ _ _ _ _ _ (ix2 0 ⟨1024 + r.val, by omega⟩) rfl (by intro b; match b with | ⟨0, _⟩ => rfl | ⟨1, _⟩ => show 1024 + r.val = 0 + (1024 + r.val); omega)]; exact pay69_at _)) (hA := (by intro d; unfold kernelRun0_B.sl.HS4_1; rw [View.read_writes_cons_unit_of_mem _ _ _ _ _ _ (ix2 d ⟨1024 + r.val, by omega⟩) rfl (by intro b; match b with | ⟨0, _⟩ => show d.val = 0 + d.val; omega | ⟨1, _⟩ => show 1024 + r.val = 0 + (1024 + r.val); omega)]; exact pay70_at _ _)) (hz := (by rw [qxB, harg10.read_unread]; exact hz)) (hw := (by rw [harg11.read_unread]; exact hw))).1
      · exact (loop1T (z := z) (w := w) (col := ⟨1024 + r.val, by omega⟩) (a := a) (r := r) (hc := (by show 1024 + r.val = a.val * 1024 + r.val; omega)) (hM := (by unfold kernelRun0_B.sl.HS3_1; rw [View.read_writes_cons_unit_of_mem _ _ _ _ _ _ (ix2 0 ⟨1024 + r.val, by omega⟩) rfl (by intro b; match b with | ⟨0, _⟩ => rfl | ⟨1, _⟩ => show 1024 + r.val = 0 + (1024 + r.val); omega)]; exact pay69_at _)) (hA := (by intro d; unfold kernelRun0_B.sl.HS4_1; rw [View.read_writes_cons_unit_of_mem _ _ _ _ _ _ (ix2 d ⟨1024 + r.val, by omega⟩) rfl (by intro b; match b with | ⟨0, _⟩ => show d.val = 0 + d.val; omega | ⟨1, _⟩ => show 1024 + r.val = 0 + (1024 + r.val); omega)]; exact pay70_at _ _)) (hz := (by rw [qxB, harg10.read_unread]; exact hz)) (hw := (by rw [harg11.read_unread]; exact hw))).2
      · exact (by rw [qxB, harg10.read_unread]; exact hz3)
      · exact (by rw [harg11.read_unread]; exact hw)
  · have ha : a.val = 0 := by omega
    rw [View.read_writes_cons_unit_of_not_mem _ _ _ _ _ _ rfl (2 : Fin 3) (by left; show col.val < 128; omega),
      View.read_writes_cons_unit_of_mem _ _ _ _ _ _ (ix3 0 r x) rfl (by
      intro b; match b with | ⟨0, _⟩ => rfl | ⟨1, _⟩ => show r.val = 0 + r.val; omega | ⟨2, _⟩ => show col.val = 0 + x.val; omega)]
    rw [pay9_at]
    unfold kernelRun0_B.sl.v77 kernelRun0_B.sl.v78
    rw [st4_nil, st2_nil]
    dsimp only [List.nil_append]
    unfold View.readCov
    simp only [View.writes_append]
    refine congr (congrArg Ideal.div ?_) ?_
    · rw [ra _ _ _ _ (ix2 ⟨x.val, by omega⟩ ⟨0 + r.val, by omega⟩) rfl (by intro b; match b with | ⟨0, _⟩ => show x.val = 0 + x.val; omega | ⟨1, _⟩ => rfl)]
      refine loop3 (d := ⟨x.val, by omega⟩) (z := z) (w := w) (col := ⟨0 + r.val, by omega⟩) (a := a) (r := r) (hc := (by show 0 + r.val = a.val * 1024 + r.val; omega)) (h17 := ?_) (h58 := rfl) (h61 := rfl) (hM := ?_) (hA := ?_) (hz3 := ?_) (hw := ?_)
      · exact h17 i
      · exact (loop1T (z := z) (w := w) (col := ⟨0 + r.val, by omega⟩) (a := a) (r := r) (hc := (by show 0 + r.val = a.val * 1024 + r.val; omega)) (hM := (by unfold kernelRun0_B.sl.HS3_1; rw [View.read_writes_cons_unit_of_mem _ _ _ _ _ _ (ix2 0 ⟨0 + r.val, by omega⟩) rfl (by intro b; match b with | ⟨0, _⟩ => rfl | ⟨1, _⟩ => show 0 + r.val = 0 + (0 + r.val); omega)]; exact pay69_at _)) (hA := (by intro d; unfold kernelRun0_B.sl.HS4_1; rw [View.read_writes_cons_unit_of_mem _ _ _ _ _ _ (ix2 d ⟨0 + r.val, by omega⟩) rfl (by intro b; match b with | ⟨0, _⟩ => show d.val = 0 + d.val; omega | ⟨1, _⟩ => show 0 + r.val = 0 + (0 + r.val); omega)]; exact pay70_at _ _)) (hz := (by rw [qxB, harg10.read_unread]; exact hz)) (hw := (by rw [harg11.read_unread]; exact hw))).1
      · exact (loop1T (z := z) (w := w) (col := ⟨0 + r.val, by omega⟩) (a := a) (r := r) (hc := (by show 0 + r.val = a.val * 1024 + r.val; omega)) (hM := (by unfold kernelRun0_B.sl.HS3_1; rw [View.read_writes_cons_unit_of_mem _ _ _ _ _ _ (ix2 0 ⟨0 + r.val, by omega⟩) rfl (by intro b; match b with | ⟨0, _⟩ => rfl | ⟨1, _⟩ => show 0 + r.val = 0 + (0 + r.val); omega)]; exact pay69_at _)) (hA := (by intro d; unfold kernelRun0_B.sl.HS4_1; rw [View.read_writes_cons_unit_of_mem _ _ _ _ _ _ (ix2 d ⟨0 + r.val, by omega⟩) rfl (by intro b; match b with | ⟨0, _⟩ => show d.val = 0 + d.val; omega | ⟨1, _⟩ => show 0 + r.val = 0 + (0 + r.val); omega)]; exact pay70_at _ _)) (hz := (by rw [qxB, harg10.read_unread]; exact hz)) (hw := (by rw [harg11.read_unread]; exact hw))).2
      · exact (by rw [qxB, harg10.read_unread]; exact hz3)
      · exact (by rw [harg11.read_unread]; exact hw)
    · rw [ra _ _ _ _ (ix2 128 ⟨0 + r.val, by omega⟩) rfl (by intro b; match b with | ⟨0, _⟩ => show (128 : ℕ) = 128 + 0; omega | ⟨1, _⟩ => rfl)]
      refine loop3 (d := 128) (z := z) (w := w) (col := ⟨0 + r.val, by omega⟩) (a := a) (r := r) (hc := (by show 0 + r.val = a.val * 1024 + r.val; omega)) (h17 := ?_) (h58 := rfl) (h61 := rfl) (hM := ?_) (hA := ?_) (hz3 := ?_) (hw := ?_)
      · exact h17 i
      · exact (loop1T (z := z) (w := w) (col := ⟨0 + r.val, by omega⟩) (a := a) (r := r) (hc := (by show 0 + r.val = a.val * 1024 + r.val; omega)) (hM := (by unfold kernelRun0_B.sl.HS3_1; rw [View.read_writes_cons_unit_of_mem _ _ _ _ _ _ (ix2 0 ⟨0 + r.val, by omega⟩) rfl (by intro b; match b with | ⟨0, _⟩ => rfl | ⟨1, _⟩ => show 0 + r.val = 0 + (0 + r.val); omega)]; exact pay69_at _)) (hA := (by intro d; unfold kernelRun0_B.sl.HS4_1; rw [View.read_writes_cons_unit_of_mem _ _ _ _ _ _ (ix2 d ⟨0 + r.val, by omega⟩) rfl (by intro b; match b with | ⟨0, _⟩ => show d.val = 0 + d.val; omega | ⟨1, _⟩ => show 0 + r.val = 0 + (0 + r.val); omega)]; exact pay70_at _ _)) (hz := (by rw [qxB, harg10.read_unread]; exact hz)) (hw := (by rw [harg11.read_unread]; exact hw))).1
      · exact (loop1T (z := z) (w := w) (col := ⟨0 + r.val, by omega⟩) (a := a) (r := r) (hc := (by show 0 + r.val = a.val * 1024 + r.val; omega)) (hM := (by unfold kernelRun0_B.sl.HS3_1; rw [View.read_writes_cons_unit_of_mem _ _ _ _ _ _ (ix2 0 ⟨0 + r.val, by omega⟩) rfl (by intro b; match b with | ⟨0, _⟩ => rfl | ⟨1, _⟩ => show 0 + r.val = 0 + (0 + r.val); omega)]; exact pay69_at _)) (hA := (by intro d; unfold kernelRun0_B.sl.HS4_1; rw [View.read_writes_cons_unit_of_mem _ _ _ _ _ _ (ix2 d ⟨0 + r.val, by omega⟩) rfl (by intro b; match b with | ⟨0, _⟩ => show d.val = 0 + d.val; omega | ⟨1, _⟩ => show 0 + r.val = 0 + (0 + r.val); omega)]; exact pay70_at _ _)) (hz := (by rw [qxB, harg10.read_unread]; exact hz)) (hw := (by rw [harg11.read_unread]; exact hw))).2
      · exact (by rw [qxB, harg10.read_unread]; exact hz3)
      · exact (by rw [harg11.read_unread]; exact hw)

set_option maxHeartbeats 2000000 in
/-- A block of the output is the quotient of the two online sums. -/
theorem outA (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2x8x4096 .bf16) (harg6 : arg6.IsWhole) (arg7 : Memref sig .tc .vmem S8x128 .bf16) (harg7 : arg7.IsWhole) (arg8 : Memref sig .tc .vmem S1x1024x256 .bf16) (harg8 : arg8.IsWhole) (arg9 : Memref sig .tc .vmem S2x1024x256 .bf16) (harg9 : arg9.IsWhole) (arg10 : Memref sig .tc .vmem S2x4096x256 .bf16) (harg10 : arg10.IsWhole) (arg11 : Memref sig .tc .vmem S2x4x144x1024 .bf16) (harg11 : arg11.IsWhole) (arg12 : Memref sig .tc .vmem S1x2048 .f32) (harg12 : arg12.IsWhole) (arg13 : Memref sig .tc .vmem S144x2048 .f32) (harg13 : arg13.IsWhole) (hc0 : cond0_0 i)
    (x0 : Vec Ideal S1x1024x256 .bf16) (x1 : Vec Ideal S1x4096x256 .bf16) (x2 : Vec Ideal S1x4096x256 .bf16) (x3 : Vec Ideal S1x2x8x4096 .bf16) (x4 : Vec Ideal S8x128 .bf16)
    (a : Fin 2) (r : Fin 1024) (x : Fin 128) (col : Fin 256) (hc : col.val = a.val * 128 + x.val) (z : ℕ → EReal) (w : Fin 144 → ℕ → EReal)
    (hz : ∀ κ : Fin 4, κ.val < (i 2).val → ∀ s : Fin 1024, tile (arg10.view.read (Elt Ideal) (arg10.view.writes (Elt Ideal) arg10.view.junk (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4).2.1)) (qF x0) a κ r s = z (κ.val * 1024 + s.val))
    (hz3 : ∀ s : Fin 1024, mtile (arg10.view.read (Elt Ideal) (arg10.view.writes (Elt Ideal) arg10.view.junk (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4).2.1)) (qF x0) a (i 2) r s = z ((i 2).val * 1024 + s.val))
    (hw : ∀ (d : Fin 144) (κ : Fin 4) (s : Fin 1024), Eq (α := EReal) ((arg11.view.read (Elt Ideal) (arg11.view.writes (Elt Ideal) arg11.view.junk (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4).2.2.1)) (ix4 a κ d s)) (w d (κ.val * 1024 + s.val))) :
    Eq (α := EReal) ((out0_A_5 (F := Ideal) c i arg3 harg3 arg4 harg4 arg5 harg5 arg6 harg6 arg7 harg7 arg8 harg8 arg9 harg9 arg10 harg10 arg11 harg11 arg12 harg12 arg13 harg13 hc0 x0 x1 x2 x3 x4 : FVec Ideal S1x1024x256 .bf16) (ix3 0 r col))
      (Ideal.div (oa z (w ⟨x.val, by omega⟩) ((i 2).val + 1)) (oa z (w 128) ((i 2).val + 1))) := by
  have h17 : ∀ i : grid0.Coords, kernelRun0_A.sl.v17 i = BitVec.ofNat 32 (i 2).val := by
    intro i
    have e : ∀ n : Fin 4, (let v0 := Scalar.muli (BitVec.ofNat 32 n.val) 1024#32
    Scalar.select (Scalar.andi (Scalar.cmpi .ne (Scalar.subi (Scalar.extui (Scalar.cmpi .sgt v0 0#32)) (Scalar.extui (Scalar.cmpi .slt v0 0#32))) (Scalar.subi (Scalar.extui (Scalar.cmpi .sgt 1024#32 0#32)) (Scalar.extui (Scalar.cmpi .slt 1024#32 0#32)))) (Scalar.cmpi .ne (Scalar.remsi v0 1024#32) 0#32)) (Scalar.subi (Scalar.divsi v0 1024#32) 1#32) (Scalar.divsi v0 1024#32)) = BitVec.ofNat 32 n.val := by decide +kernel
    exact e (i 2)
  unfold out0_A_5 kernelRun0_A
  dsimp only
  by_cases ha : a = 1
  · have ha : a.val = 1 := by rw [ha]; rfl
    rw [View.read_writes_cons_unit_of_mem _ _ _ _ _ _ (ix3 0 r x) rfl (by
      intro b; match b with | ⟨0, _⟩ => rfl | ⟨1, _⟩ => show r.val = 0 + r.val; omega | ⟨2, _⟩ => show col.val = 128 + x.val; omega)]
    rw [pay10_at]
    unfold kernelRun0_A.sl.v86 kernelRun0_A.sl.v87
    rw [st4_nil, st2_nil]
    dsimp only [List.nil_append]
    unfold View.readCov
    simp only [View.writes_append]
    refine congr (congrArg Ideal.div ?_) ?_
    · rw [ra _ _ _ _ (ix2 ⟨x.val, by omega⟩ ⟨1024 + r.val, by omega⟩) rfl (by intro b; match b with | ⟨0, _⟩ => show x.val = 0 + x.val; omega | ⟨1, _⟩ => rfl)]
      refine loop3 (d := ⟨x.val, by omega⟩) (z := z) (w := w) (col := ⟨1024 + r.val, by omega⟩) (a := a) (r := r) (hc := (by show 1024 + r.val = a.val * 1024 + r.val; omega)) (h17 := ?_) (h58 := rfl) (h61 := rfl) (hM := ?_) (hA := ?_) (hz3 := ?_) (hw := ?_)
      · exact h17 i
      · exact (loop1T (z := z) (w := w) (col := ⟨1024 + r.val, by omega⟩) (a := a) (r := r) (hc := (by show 1024 + r.val = a.val * 1024 + r.val; omega)) (hM := (by unfold kernelRun0_A.sl.HS3_1; rw [View.read_writes_cons_unit_of_mem _ _ _ _ _ _ (ix2 0 ⟨1024 + r.val, by omega⟩) rfl (by intro b; match b with | ⟨0, _⟩ => rfl | ⟨1, _⟩ => show 1024 + r.val = 0 + (1024 + r.val); omega)]; exact pay69_at _)) (hA := (by intro d; unfold kernelRun0_A.sl.HS4_1; rw [View.read_writes_cons_unit_of_mem _ _ _ _ _ _ (ix2 d ⟨1024 + r.val, by omega⟩) rfl (by intro b; match b with | ⟨0, _⟩ => show d.val = 0 + d.val; omega | ⟨1, _⟩ => show 1024 + r.val = 0 + (1024 + r.val); omega)]; exact pay70_at _ _)) (hz := (by rw [qxA]; exact hz)) (hw := (by exact hw))).1
      · exact (loop1T (z := z) (w := w) (col := ⟨1024 + r.val, by omega⟩) (a := a) (r := r) (hc := (by show 1024 + r.val = a.val * 1024 + r.val; omega)) (hM := (by unfold kernelRun0_A.sl.HS3_1; rw [View.read_writes_cons_unit_of_mem _ _ _ _ _ _ (ix2 0 ⟨1024 + r.val, by omega⟩) rfl (by intro b; match b with | ⟨0, _⟩ => rfl | ⟨1, _⟩ => show 1024 + r.val = 0 + (1024 + r.val); omega)]; exact pay69_at _)) (hA := (by intro d; unfold kernelRun0_A.sl.HS4_1; rw [View.read_writes_cons_unit_of_mem _ _ _ _ _ _ (ix2 d ⟨1024 + r.val, by omega⟩) rfl (by intro b; match b with | ⟨0, _⟩ => show d.val = 0 + d.val; omega | ⟨1, _⟩ => show 1024 + r.val = 0 + (1024 + r.val); omega)]; exact pay70_at _ _)) (hz := (by rw [qxA]; exact hz)) (hw := (by exact hw))).2
      · exact (by rw [qxA]; exact hz3)
      · exact (by exact hw)
    · rw [ra _ _ _ _ (ix2 128 ⟨1024 + r.val, by omega⟩) rfl (by intro b; match b with | ⟨0, _⟩ => show (128 : ℕ) = 128 + 0; omega | ⟨1, _⟩ => rfl)]
      refine loop3 (d := 128) (z := z) (w := w) (col := ⟨1024 + r.val, by omega⟩) (a := a) (r := r) (hc := (by show 1024 + r.val = a.val * 1024 + r.val; omega)) (h17 := ?_) (h58 := rfl) (h61 := rfl) (hM := ?_) (hA := ?_) (hz3 := ?_) (hw := ?_)
      · exact h17 i
      · exact (loop1T (z := z) (w := w) (col := ⟨1024 + r.val, by omega⟩) (a := a) (r := r) (hc := (by show 1024 + r.val = a.val * 1024 + r.val; omega)) (hM := (by unfold kernelRun0_A.sl.HS3_1; rw [View.read_writes_cons_unit_of_mem _ _ _ _ _ _ (ix2 0 ⟨1024 + r.val, by omega⟩) rfl (by intro b; match b with | ⟨0, _⟩ => rfl | ⟨1, _⟩ => show 1024 + r.val = 0 + (1024 + r.val); omega)]; exact pay69_at _)) (hA := (by intro d; unfold kernelRun0_A.sl.HS4_1; rw [View.read_writes_cons_unit_of_mem _ _ _ _ _ _ (ix2 d ⟨1024 + r.val, by omega⟩) rfl (by intro b; match b with | ⟨0, _⟩ => show d.val = 0 + d.val; omega | ⟨1, _⟩ => show 1024 + r.val = 0 + (1024 + r.val); omega)]; exact pay70_at _ _)) (hz := (by rw [qxA]; exact hz)) (hw := (by exact hw))).1
      · exact (loop1T (z := z) (w := w) (col := ⟨1024 + r.val, by omega⟩) (a := a) (r := r) (hc := (by show 1024 + r.val = a.val * 1024 + r.val; omega)) (hM := (by unfold kernelRun0_A.sl.HS3_1; rw [View.read_writes_cons_unit_of_mem _ _ _ _ _ _ (ix2 0 ⟨1024 + r.val, by omega⟩) rfl (by intro b; match b with | ⟨0, _⟩ => rfl | ⟨1, _⟩ => show 1024 + r.val = 0 + (1024 + r.val); omega)]; exact pay69_at _)) (hA := (by intro d; unfold kernelRun0_A.sl.HS4_1; rw [View.read_writes_cons_unit_of_mem _ _ _ _ _ _ (ix2 d ⟨1024 + r.val, by omega⟩) rfl (by intro b; match b with | ⟨0, _⟩ => show d.val = 0 + d.val; omega | ⟨1, _⟩ => show 1024 + r.val = 0 + (1024 + r.val); omega)]; exact pay70_at _ _)) (hz := (by rw [qxA]; exact hz)) (hw := (by exact hw))).2
      · exact (by rw [qxA]; exact hz3)
      · exact (by exact hw)
  · have ha : a.val = 0 := by omega
    rw [View.read_writes_cons_unit_of_not_mem _ _ _ _ _ _ rfl (2 : Fin 3) (by left; show col.val < 128; omega),
      View.read_writes_cons_unit_of_mem _ _ _ _ _ _ (ix3 0 r x) rfl (by
      intro b; match b with | ⟨0, _⟩ => rfl | ⟨1, _⟩ => show r.val = 0 + r.val; omega | ⟨2, _⟩ => show col.val = 0 + x.val; omega)]
    rw [pay9_at]
    unfold kernelRun0_A.sl.v77 kernelRun0_A.sl.v78
    rw [st4_nil, st2_nil]
    dsimp only [List.nil_append]
    unfold View.readCov
    simp only [View.writes_append]
    refine congr (congrArg Ideal.div ?_) ?_
    · rw [ra _ _ _ _ (ix2 ⟨x.val, by omega⟩ ⟨0 + r.val, by omega⟩) rfl (by intro b; match b with | ⟨0, _⟩ => show x.val = 0 + x.val; omega | ⟨1, _⟩ => rfl)]
      refine loop3 (d := ⟨x.val, by omega⟩) (z := z) (w := w) (col := ⟨0 + r.val, by omega⟩) (a := a) (r := r) (hc := (by show 0 + r.val = a.val * 1024 + r.val; omega)) (h17 := ?_) (h58 := rfl) (h61 := rfl) (hM := ?_) (hA := ?_) (hz3 := ?_) (hw := ?_)
      · exact h17 i
      · exact (loop1T (z := z) (w := w) (col := ⟨0 + r.val, by omega⟩) (a := a) (r := r) (hc := (by show 0 + r.val = a.val * 1024 + r.val; omega)) (hM := (by unfold kernelRun0_A.sl.HS3_1; rw [View.read_writes_cons_unit_of_mem _ _ _ _ _ _ (ix2 0 ⟨0 + r.val, by omega⟩) rfl (by intro b; match b with | ⟨0, _⟩ => rfl | ⟨1, _⟩ => show 0 + r.val = 0 + (0 + r.val); omega)]; exact pay69_at _)) (hA := (by intro d; unfold kernelRun0_A.sl.HS4_1; rw [View.read_writes_cons_unit_of_mem _ _ _ _ _ _ (ix2 d ⟨0 + r.val, by omega⟩) rfl (by intro b; match b with | ⟨0, _⟩ => show d.val = 0 + d.val; omega | ⟨1, _⟩ => show 0 + r.val = 0 + (0 + r.val); omega)]; exact pay70_at _ _)) (hz := (by rw [qxA]; exact hz)) (hw := (by exact hw))).1
      · exact (loop1T (z := z) (w := w) (col := ⟨0 + r.val, by omega⟩) (a := a) (r := r) (hc := (by show 0 + r.val = a.val * 1024 + r.val; omega)) (hM := (by unfold kernelRun0_A.sl.HS3_1; rw [View.read_writes_cons_unit_of_mem _ _ _ _ _ _ (ix2 0 ⟨0 + r.val, by omega⟩) rfl (by intro b; match b with | ⟨0, _⟩ => rfl | ⟨1, _⟩ => show 0 + r.val = 0 + (0 + r.val); omega)]; exact pay69_at _)) (hA := (by intro d; unfold kernelRun0_A.sl.HS4_1; rw [View.read_writes_cons_unit_of_mem _ _ _ _ _ _ (ix2 d ⟨0 + r.val, by omega⟩) rfl (by intro b; match b with | ⟨0, _⟩ => show d.val = 0 + d.val; omega | ⟨1, _⟩ => show 0 + r.val = 0 + (0 + r.val); omega)]; exact pay70_at _ _)) (hz := (by rw [qxA]; exact hz)) (hw := (by exact hw))).2
      · exact (by rw [qxA]; exact hz3)
      · exact (by exact hw)
    · rw [ra _ _ _ _ (ix2 128 ⟨0 + r.val, by omega⟩) rfl (by intro b; match b with | ⟨0, _⟩ => show (128 : ℕ) = 128 + 0; omega | ⟨1, _⟩ => rfl)]
      refine loop3 (d := 128) (z := z) (w := w) (col := ⟨0 + r.val, by omega⟩) (a := a) (r := r) (hc := (by show 0 + r.val = a.val * 1024 + r.val; omega)) (h17 := ?_) (h58 := rfl) (h61 := rfl) (hM := ?_) (hA := ?_) (hz3 := ?_) (hw := ?_)
      · exact h17 i
      · exact (loop1T (z := z) (w := w) (col := ⟨0 + r.val, by omega⟩) (a := a) (r := r) (hc := (by show 0 + r.val = a.val * 1024 + r.val; omega)) (hM := (by unfold kernelRun0_A.sl.HS3_1; rw [View.read_writes_cons_unit_of_mem _ _ _ _ _ _ (ix2 0 ⟨0 + r.val, by omega⟩) rfl (by intro b; match b with | ⟨0, _⟩ => rfl | ⟨1, _⟩ => show 0 + r.val = 0 + (0 + r.val); omega)]; exact pay69_at _)) (hA := (by intro d; unfold kernelRun0_A.sl.HS4_1; rw [View.read_writes_cons_unit_of_mem _ _ _ _ _ _ (ix2 d ⟨0 + r.val, by omega⟩) rfl (by intro b; match b with | ⟨0, _⟩ => show d.val = 0 + d.val; omega | ⟨1, _⟩ => show 0 + r.val = 0 + (0 + r.val); omega)]; exact pay70_at _ _)) (hz := (by rw [qxA]; exact hz)) (hw := (by exact hw))).1
      · exact (loop1T (z := z) (w := w) (col := ⟨0 + r.val, by omega⟩) (a := a) (r := r) (hc := (by show 0 + r.val = a.val * 1024 + r.val; omega)) (hM := (by unfold kernelRun0_A.sl.HS3_1; rw [View.read_writes_cons_unit_of_mem _ _ _ _ _ _ (ix2 0 ⟨0 + r.val, by omega⟩) rfl (by intro b; match b with | ⟨0, _⟩ => rfl | ⟨1, _⟩ => show 0 + r.val = 0 + (0 + r.val); omega)]; exact pay69_at _)) (hA := (by intro d; unfold kernelRun0_A.sl.HS4_1; rw [View.read_writes_cons_unit_of_mem _ _ _ _ _ _ (ix2 d ⟨0 + r.val, by omega⟩) rfl (by intro b; match b with | ⟨0, _⟩ => show d.val = 0 + d.val; omega | ⟨1, _⟩ => show 0 + r.val = 0 + (0 + r.val); omega)]; exact pay70_at _ _)) (hz := (by rw [qxA]; exact hz)) (hw := (by exact hw))).2
      · exact (by rw [qxA]; exact hz3)
      · exact (by exact hw)

end Cert.Proof.Fox

end
-- ==== Proof.FoxTile.lean ====
module

/- Hand-written, untrusted. The attention kernel's scratch carried from point to point, and the block every point leaves from it. -/

public import proofs.«01_k».proof.Proof.FoxOut
public import proofs.«01_k».proof.Proof.FoxKx
public import proofs.«01_k».proof.Proof.FoxMsk
public import proofs.«01_k».proof.Proof.FoxMath
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.WritesUnit

@[expose] public section

set_option maxRecDepth 16384

noncomputable section

namespace Cert.Proof.Fox

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The keys of a head pair, with their lanes of decays, as an array. -/
def kxV (g : ℕ) (hg : g < 64) : FVec Ideal S2x4096x256 .bf16 := fun y => kxF m c g hg (y 0) (y 1) (y 2)

/-- The transposed values of a head pair, over the rows of ones, as an array. -/
def vtV (g : ℕ) (hg : g < 64) : FVec Ideal S2x4x144x1024 .bf16 := fun y => vtF m c g hg (y 0) (y 1) (y 2) (y 3)

theorem kxV_congr {g g' : ℕ} (h : g = g') (hg : g < 64) (hg' : g' < 64) : kxV m c g hg = kxV m c g' hg' := by subst h; rfl
theorem vtV_congr {g g' : ℕ} (h : g = g') (hg : g < 64) (hg' : g' < 64) : vtV m c g hg = vtV m c g' hg' := by subst h; rfl

theorem kxA' (t : Fin cfg0.N) (ht : t.val % 4 = 0) :
    (outsAt0 m c t.val t.isLt).2.1 = kxV m c (t.val / 4) (by have := lt_N t; omega) := by
  funext y
  rw [← ix3_eta y]
  exact kxA m c t ht (y 0) (y 1) (y 2)

theorem vtA' (t : Fin cfg0.N) (ht : t.val % 4 = 0) :
    (outsAt0 m c t.val t.isLt).2.2 = vtV m c (t.val / 4) (by have := lt_N t; omega) := by
  funext y
  rw [← ix4_eta y]
  exact vtA m c t ht (y 0) (y 1) (y 2) (y 3)

/-- Every point leaves its head pair's keys and values in the scratch. -/
theorem carry : ∀ (n : ℕ) (hn : n < cfg0.N),
    (outsAt0 m c n hn).2.1 = kxV m c (n / 4) (by have : n < 256 := hn; omega)
      ∧ (outsAt0 m c n hn).2.2 = vtV m c (n / 4) (by have : n < 256 := hn; omega) := by
  intro n
  induction n with
  | zero => exact fun hn => ⟨kxA' m c ⟨0, hn⟩ rfl, vtA' m c ⟨0, hn⟩ rfl⟩
  | succ k ih =>
    intro hn
    have h256 : k + 1 < 256 := hn
    by_cases h : (k + 1) % 4 = 0
    · exact ⟨kxA' m c ⟨k + 1, hn⟩ h, vtA' m c ⟨k + 1, hn⟩ h⟩
    · obtain ⟨i1, i2⟩ := ih (Nat.lt_of_succ_lt hn)
      have e := outsAt0_B m c ⟨k + 1, hn⟩ h
      refine ⟨(congrArg (fun p => p.2.1) e).trans (i1.trans (kxV_congr m c (by omega) _ _)), (congrArg (fun p => p.2.2) e).trans (i2.trans (vtV_congr m c (by omega) _ _))⟩

/-- The same with the scratch after the point's own stores given by name. -/
theorem outA' (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2x8x4096 .bf16) (harg6 : arg6.IsWhole) (arg7 : Memref sig .tc .vmem S8x128 .bf16) (harg7 : arg7.IsWhole) (arg8 : Memref sig .tc .vmem S1x1024x256 .bf16) (harg8 : arg8.IsWhole) (arg9 : Memref sig .tc .vmem S2x1024x256 .bf16) (harg9 : arg9.IsWhole) (arg10 : Memref sig .tc .vmem S2x4096x256 .bf16) (harg10 : arg10.IsWhole) (arg11 : Memref sig .tc .vmem S2x4x144x1024 .bf16) (harg11 : arg11.IsWhole) (arg12 : Memref sig .tc .vmem S1x2048 .f32) (harg12 : arg12.IsWhole) (arg13 : Memref sig .tc .vmem S144x2048 .f32) (harg13 : arg13.IsWhole) (hc0 : cond0_0 i)
    (x0 : Vec Ideal S1x1024x256 .bf16) (x1 : Vec Ideal S1x4096x256 .bf16) (x2 : Vec Ideal S1x4096x256 .bf16) (x3 : Vec Ideal S1x2x8x4096 .bf16) (x4 : Vec Ideal S8x128 .bf16)
    (a : Fin 2) (r : Fin 1024) (x : Fin 128) (col : Fin 256) (hc : col.val = a.val * 128 + x.val) (z : ℕ → EReal) (w : Fin 144 → ℕ → EReal)
    (K : FVec Ideal S2x4096x256 .bf16) (V : FVec Ideal S2x4x144x1024 .bf16) (hK : arg10.view.read (Elt Ideal) (arg10.view.writes (Elt Ideal) arg10.view.junk (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4).2.1) = K) (hV : arg11.view.read (Elt Ideal) (arg11.view.writes (Elt Ideal) arg11.view.junk (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4).2.2.1) = V)
    (hz : ∀ κ : Fin 4, κ.val < (i 2).val → ∀ s : Fin 1024, tile K (qF x0) a κ r s = z (κ.val * 1024 + s.val))
    (hz3 : ∀ s : Fin 1024, mtile K (qF x0) a (i 2) r s = z ((i 2).val * 1024 + s.val))
    (hw : ∀ (d : Fin 144) (κ : Fin 4) (s : Fin 1024), Eq (α := EReal) (V (ix4 a κ d s)) (w d (κ.val * 1024 + s.val))) :
    Eq (α := EReal) ((out0_A_5 (F := Ideal) c i arg3 harg3 arg4 harg4 arg5 harg5 arg6 harg6 arg7 harg7 arg8 harg8 arg9 harg9 arg10 harg10 arg11 harg11 arg12 harg12 arg13 harg13 hc0 x0 x1 x2 x3 x4 : FVec Ideal S1x1024x256 .bf16) (ix3 0 r col))
      (Ideal.div (oa z (w ⟨x.val, by omega⟩) ((i 2).val + 1)) (oa z (w 128) ((i 2).val + 1))) := by
  subst hK hV
  exact outA c i arg3 harg3 arg4 harg4 arg5 harg5 arg6 harg6 arg7 harg7 arg8 harg8 arg9 harg9 arg10 harg10 arg11 harg11 arg12 harg12 arg13 harg13 hc0 x0 x1 x2 x3 x4 a r x col hc z w hz hz3 hw

theorem coord2 : ∀ t : Fin cfg0.N, (grid0.coords t 2).val = t.val % 4 := (by decide +kernel : ∀ t : Fin grid0.N, _)

/-- The block a first point leaves: the quotient of the online sums over its row's scores. -/
theorem blk5A (t : Fin cfg0.N) (h : t.val % 4 = 0) (hg : t.val / 4 < 64) (a : Fin 2) (r : Fin 1024) (x : Fin 128) (col : Fin 256) (hc : col.val = a.val * 128 + x.val) (z : ℕ → EReal) (w : Fin 144 → ℕ → EReal)
    (hz : ∀ κ : Fin 4, κ.val < t.val % 4 → ∀ s : Fin 1024, tile (kxV m c (t.val / 4) hg) (qF (iblk m c 0 t)) a κ r s = z (κ.val * 1024 + s.val))
    (hz3 : ∀ κ : Fin 4, κ.val = t.val % 4 → ∀ s : Fin 1024, mtile (kxV m c (t.val / 4) hg) (qF (iblk m c 0 t)) a κ r s = z (κ.val * 1024 + s.val))
    (hw : ∀ (d : Fin 144) (κ : Fin 4) (s : Fin 1024), Eq (α := EReal) (vtF m c (t.val / 4) hg a κ d s) (w d (κ.val * 1024 + s.val))) :
    Eq (α := EReal) (((outsAt0 m c t.val t.isLt).1 : FVec Ideal S1x1024x256 .bf16) (ix3 0 r col))
      (Ideal.div (oa z (w ⟨x.val, by omega⟩) (t.val % 4 + 1)) (oa z (w 128) (t.val % 4 + 1))) := by
  have e2 := coord2 t
  have e := outsAt0_A m c t h
  have k1 := (congrArg (fun p => p.2.1) e).symm.trans (kxA' m c t h)
  have k2 := (congrArg (fun p => p.2.2) e).symm.trans (vtA' m c t h)
  dsimp only at k1 k2
  unfold sout0_A_1 at k1
  unfold sout0_A_2 at k2
  have o := outA' c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h) (iblk m c 0 t) (iblk m c 1 t) (iblk m c 2 t) (iblk m c 3 t) (iblk m c 4 t) a r x col hc z w _ _ k1 k2
    (fun κ hκ s => hz κ (by omega) s) (fun s => hz3 _ e2 s) hw
  rw [e2] at o
  rw [e]
  dsimp only
  exact o

/-- The block a later point leaves: the quotient of the online sums over its row's scores. -/
theorem blk5B (t : Fin cfg0.N) (h : ¬ t.val % 4 = 0) (hg : t.val / 4 < 64) (a : Fin 2) (r : Fin 1024) (x : Fin 128) (col : Fin 256) (hc : col.val = a.val * 128 + x.val) (z : ℕ → EReal) (w : Fin 144 → ℕ → EReal)
    (hz : ∀ κ : Fin 4, κ.val < t.val % 4 → ∀ s : Fin 1024, tile (kxV m c (t.val / 4) hg) (qF (iblk m c 0 t)) a κ r s = z (κ.val * 1024 + s.val))
    (hz3 : ∀ κ : Fin 4, κ.val = t.val % 4 → ∀ s : Fin 1024, mtile (kxV m c (t.val / 4) hg) (qF (iblk m c 0 t)) a κ r s = z (κ.val * 1024 + s.val))
    (hw : ∀ (d : Fin 144) (κ : Fin 4) (s : Fin 1024), Eq (α := EReal) (vtF m c (t.val / 4) hg a κ d s) (w d (κ.val * 1024 + s.val))) :
    Eq (α := EReal) (((outsAt0 m c t.val t.isLt).1 : FVec Ideal S1x1024x256 .bf16) (ix3 0 r col))
      (Ideal.div (oa z (w ⟨x.val, by omega⟩) (t.val % 4 + 1)) (oa z (w 128) (t.val % 4 + 1))) := by
  have e2 := coord2 t
  have e := outsAt0_B m c t h
  obtain ⟨i1, i2⟩ := carry m c (t.val - 1) (Nat.lt_of_le_of_lt (Nat.sub_le _ _) t.isLt)
  have k1 := i1.trans (kxV_congr m c (by omega : (t.val - 1) / 4 = t.val / 4) _ hg)
  have k2 := i2.trans (vtV_congr m c (by omega : (t.val - 1) / 4 = t.val / 4) _ hg)
  have o := outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h' => h ((hcond0_0 t).mp h')) (iblk m c 0 t) (iblk m c 1 t) (iblk m c 2 t) (iblk m c 3 t) (iblk m c 4 t) _ _ a r x col hc z w
    (fun κ hκ s => (congrArg (fun K => tile K (qF (iblk m c 0 t)) a κ r s) k1).trans (hz κ (by omega) s))
    (fun s => (congrArg (fun K => mtile K (qF (iblk m c 0 t)) a (grid0.coords t 2) r s) k1).trans (hz3 _ e2 s))
    (fun d κ s => (congrFun k2 (ix4 a κ d s)).trans (hw d κ s))
  rw [e2] at o
  rw [e]
  dsimp only
  exact o

/-- The block a point leaves: the quotient of the online sums over its row's scores. -/
theorem blk5 (t : Fin cfg0.N) (hg : t.val / 4 < 64) (a : Fin 2) (r : Fin 1024) (x : Fin 128) (col : Fin 256) (hc : col.val = a.val * 128 + x.val) (z : ℕ → EReal) (w : Fin 144 → ℕ → EReal)
    (hz : ∀ κ : Fin 4, κ.val < t.val % 4 → ∀ s : Fin 1024, tile (kxV m c (t.val / 4) hg) (qF (iblk m c 0 t)) a κ r s = z (κ.val * 1024 + s.val))
    (hz3 : ∀ κ : Fin 4, κ.val = t.val % 4 → ∀ s : Fin 1024, mtile (kxV m c (t.val / 4) hg) (qF (iblk m c 0 t)) a κ r s = z (κ.val * 1024 + s.val))
    (hw : ∀ (d : Fin 144) (κ : Fin 4) (s : Fin 1024), Eq (α := EReal) (vtF m c (t.val / 4) hg a κ d s) (w d (κ.val * 1024 + s.val))) :
    Eq (α := EReal) (((outsAt0 m c t.val t.isLt).1 : FVec Ideal S1x1024x256 .bf16) (ix3 0 r col))
      (Ideal.div (oa z (w ⟨x.val, by omega⟩) (t.val % 4 + 1)) (oa z (w 128) (t.val % 4 + 1))) := by
  by_cases h : t.val % 4 = 0
  · exact blk5A m c t h hg a r x col hc z w hz hz3 hw
  · exact blk5B m c t h hg a r x col hc z w hz hz3 hw

end Cert.Proof.Fox

end
-- ==== Proof.FoxFin.lean ====
module

/- Hand-written, untrusted. Finite arguments of the attention: their log forget gates and the running sums of these are real,
   and the precondition says that the arguments are. -/

public import proofs.«01_k».proof.Proof.FoxRef
public import proofs.«01_k».proof.Proof.FoxMath
public import proofs.«01_k».proof.Proof.Gen.Pre_finite
public import Idealize.ShloMosaic.Lib.Pointwise
public import Idealize.ShloMosaic.Lib.ReduceAll

@[expose] public section

set_option maxRecDepth 16384

noncomputable section

namespace Cert.Proof.Fox

open Idealize.ShloMosaic Idealize.ShloMosaic.TcCoe Idealize.SL.Sem

/-- A value that is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.neg {x : EReal} (hx : IsR x) : IsR (-x) := by
  obtain ⟨a, rfl⟩ := hx
  exact ⟨-a, (EReal.coe_neg a).symm⟩

theorem IsR.zero : IsR 0 := ⟨0, rfl⟩

theorem IsR.max {x y : EReal} (hx : IsR x) (hy : IsR y) : IsR (max x y) := by
  rcases max_choice x y with h | h <;> rw [h] <;> assumption

theorem isR_of_abs {x : EReal} (h : max x (-x) < ⊤) : IsR x := by
  induction x with
  | bot => simp at h
  | top => simp at h
  | coe r => exact ⟨r, rfl⟩

/-- The log of a forget gate with a real logit. -/
theorem lgs_real {z : EReal} (hz : IsR z) : IsR (lgs z) := by
  have ha : IsR (-(FloatOps.absf (F := Ideal) (φ := .f32) (-z) : EReal)) := IsR.neg (IsR.max hz.neg hz.neg.neg)
  unfold lgs
  refine IsR.neg (IsR.add (IsR.max hz.neg IsR.zero) ?_)
  obtain ⟨a, ha⟩ := ha
  rw [ha, exp_real]
  have hp : ¬ (1 + Real.exp a ≤ 0) := by have := Real.exp_pos a; linarith
  refine ⟨Real.log (1 + Real.exp a), ?_⟩
  unfold Ideal.log1p
  rw [show (1 : EReal) = ((1 : ℝ) : EReal) from rfl, ← EReal.coe_add]
  show (if 1 + Real.exp a ≤ 0 then (⊥ : EReal) else _) = _
  rw [if_neg hp]

theorem foldl_real {ι : Type} (f : ι → EReal) (hf : ∀ i, IsR (f i)) : ∀ (l : List ι) (a : EReal), IsR a → IsR (l.foldl (fun r n => r + f n) a)
  | [], a, ha => ha
  | n :: l, a, ha => foldl_real f hf l (a + f n) (ha.add (hf n))

section
open Cert.ReferenceIdeal Cert.ReferenceIdeal.Gen

/-- The running sum of real numbers. -/
theorem cumT_real (l : FVec Ideal S8x4096x16 .f32) (hl : ∀ i, IsR (l i)) (i : S8x4096x16.Idx) : IsR (cumT l i) := by
  have hz : IsR ((constant (F := Ideal) S_ .f32 0x00000000#32) (Shape.Idx.first h_S_)) := by
    refine ⟨0, ?_⟩
    exact bits_zero
  unfold cumT Host.reduceWindowAdd
  show IsR (Ideal.hostReduceWindowAdd _ _ _ _ _ _ _ _)
  unfold Ideal.hostReduceWindowAdd Host.reduceWindow
  refine foldl_real _ (fun n => ?_) _ _ hz
  split
  · exact hl _
  · exact hz

theorem aU_real (f : FVec Ideal S8x4096x16 .f32) (b : FVec Ideal S16 .f32) (hf : ∀ i, IsR (f i)) (hb : ∀ i, IsR (b i)) (i : S8x4096x16.Idx) :
    IsR (cumT (lfT f b) i) := by
  refine cumT_real _ (fun j => ?_) i
  have e := lfT_at f b (j 0) (j 1) (j 2)
  rw [ix3_eta j] at e
  rw [e]
  exact lgs_real (IsR.add (hf _) (hb _))

end

open Cert.Pre_finite Cert.Pre_finite.Gen

theorem andi1 {a b : BitVec 1} (h : IntOp.andi a b = 1#1) : a = 1#1 ∧ b = 1#1 := IntOp.andi_eq_one.1 h

theorem isR_of_olt {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsR (x i) := by
  have h2 : (BitVec.ofBool (decide (max (x i : EReal) (-(x i : EReal)) < Ideal.ofBits FTy.f32 0x7F800000#32))) = (1#1 : BitVec 1) := h
  rw [bits_top] at h2
  refine isR_of_abs ?_
  by_contra hn
  rw [decide_eq_false hn] at h2
  exact absurd h2 (by decide)

/-- What the precondition says of the arguments. -/
theorem real_of_finite [Cert.Pre_finite.Facts] (q k v : FVec Ideal S8x4096x2048 .f32) (f : FVec Ideal S8x4096x16 .f32) (b : FVec Ideal S16 .f32)
    (h : Cert.Pre_finite.fn (F := Ideal) q k v f b = fun _ => 1#1) :
    (∀ i, IsR (q i)) ∧ (∀ i, IsR (k i)) ∧ (∀ i, IsR (f i)) ∧ (∀ i, IsR (b i)) := by
  haveI : Subsingleton S_.Idx := ⟨fun a b => funext fun i => i.elim0⟩
  have h0 := congrFun h (fun i => i.elim0)
  unfold Cert.Pre_finite.fn Cert.Pre_finite.fn_part1 at h0
  obtain ⟨h1, hb⟩ := andi1 h0
  obtain ⟨h2, hf⟩ := andi1 h1
  obtain ⟨hq, hk⟩ := andi1 h2
  exact ⟨fun i => isR_of_olt q _ i (Host.reduce_andi_all _ _ _ _ _ hq i), fun i => isR_of_olt k _ i (Host.reduce_andi_all _ _ _ _ _ hk i),
    fun i => isR_of_olt f _ i (Host.reduce_andi_all _ _ _ _ _ hf i), fun i => isR_of_olt b _ i (Host.reduce_andi_all _ _ _ _ _ hb i)⟩

end Cert.Proof.Fox

end
-- ==== Proof.FoxVal.lean ====
module

/- Hand-written, untrusted. The attention kernel's result array over finite arguments: at every query and feature it is the reference's attention. -/

public import proofs.«01_k».proof.Proof.FoxTile
public import proofs.«01_k».proof.Proof.FoxScore
public import proofs.«01_k».proof.Proof.FoxFin
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.WritesUnit

@[expose] public section

set_option maxRecDepth 16384

noncomputable section

namespace Cert.Proof.Fox

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The result array: the reference's term over the arguments. -/
def G : FVec Ideal S8x4096x2048 .bf16 :=
  refT (m ((c : Thread nD τ).loc main_arg0)) (m ((c : Thread nD τ).loc main_arg1)) (m ((c : Thread nD τ).loc main_arg2)) (m ((c : Thread nD τ).loc main_arg3)) (m ((c : Thread nD τ).loc main_arg4))

theorem G_at (b : Fin 8) (T : Fin 4096) (D : Fin 2048) (h : Fin 16) (hh : h.val = D.val / 128) :
    G m c (ix3 b T D) = att (lg (aQ m c) (aK m c) (aU m c) b h T) (fun s => aV m c b s D) T := by
  have hD : D.val / 128 < 16 := by omega
  have e : h = ⟨D.val / 128, hD⟩ := Fin.ext hh
  rw [e]
  exact refT_at _ _ _ _ _ b T D

/-- The scores of a query, the later keys left out. -/
def zS (L : Fin 4096 → ℝ) (u : ℝ) (T : Fin 4096) (s : ℕ) : EReal :=
  if h : s < 4096 then (if s ≤ T.val then (((L ⟨s, h⟩ - u) * (Real.log 2)⁻¹ : ℝ) : EReal) else ⊥) else ⊥

/-- A feature's values along the keys; ones for the row that sums the weights. -/
def wS (b : Fin 8) (o : ℕ) (d : Fin 144) (s : ℕ) : EReal :=
  if h : s < 4096 then (if d.val < 128 then aV m c b ⟨s, h⟩ ⟨(o + d.val) % 2048, Nat.mod_lt _ (by omega)⟩ else 1) else 1

theorem wS_one (b : Fin 8) (o : ℕ) : wS m c b o 128 = fun _ => 1 := by
  funext s
  unfold wS
  split
  · exact if_neg (by decide)
  · rfl

theorem out_at (qr kr : Fin 8 → Fin 4096 → Fin 2048 → ℝ)
    (ur : Fin 8 → Fin 4096 → Fin 16 → ℝ) (hq : ∀ b s d, aQ m c b s d = (qr b s d : EReal)) (hk : ∀ b s d, aK m c b s d = (kr b s d : EReal))
    (hu : ∀ b s h, aU m c b s h = (ur b s h : EReal)) (t : Fin cfg0.N) (b : Fin 8) (hb : b.val = t.val / 32) (r : Fin 1024) (col : Fin 256) (T : Fin 4096)
    (hT : T.val = t.val % 4 * 1024 + r.val) (D : Fin 2048) (hD : D.val = t.val / 4 % 8 * 256 + col.val) :
    Eq (α := EReal) (((outsAt0 m c t.val t.isLt).1 : FVec Ideal S1x1024x256 .bf16) (ix3 0 r col)) (G m c (ix3 b T D)) := by
  have htN := lt_N t
  have hg : t.val / 4 < 64 := by omega
  obtain ⟨a, ha⟩ : ∃ a : Fin 2, a.val = col.val / 128 := ⟨⟨col.val / 128, by omega⟩, rfl⟩
  obtain ⟨x, hx⟩ : ∃ x : Fin 128, x.val = col.val % 128 := ⟨⟨col.val % 128, by omega⟩, rfl⟩
  obtain ⟨h, hh⟩ : ∃ h : Fin 16, h.val = t.val / 4 % 8 * 2 + a.val := ⟨⟨t.val / 4 % 8 * 2 + a.val, by omega⟩, rfl⟩
  have hsc := score m c qr kr ur hq hk hu t hg b hb a h hh r T hT
  have o := blk5 m c t hg a r x col (by omega) (zS (lgR qr kr ur b h T) (ur b T h) T) (wS m c b (t.val / 4 % 8 * 256 + a.val * 128))
    (fun κ hκ s => by
      refine (hsc ⟨κ.val * 1024 + s.val, by omega⟩).trans ?_
      unfold zS
      rw [dif_pos (by omega : κ.val * 1024 + s.val < 4096), if_pos (by omega)])
    (fun κ hκ s => by
      unfold mtile zS
      rw [dif_pos (by omega : κ.val * 1024 + s.val < 4096)]
      by_cases hs : s ≤ r
      · have hs' : s.val ≤ r.val := hs
        rw [if_pos hs, if_pos (by omega)]
        exact hsc ⟨κ.val * 1024 + s.val, by omega⟩
      · have hs' : ¬ s.val ≤ r.val := hs
        rw [if_neg hs, if_neg (by omega)])
    (fun d κ s => by
      unfold vtF wS
      rw [dif_pos (by omega : κ.val * 1024 + s.val < 4096)]
      by_cases hd : d.val < 128
      · rw [if_pos hd, if_pos hd]
        exact aV_congr m c (by show t.val / 4 / 8 = b.val; omega) rfl (by show (t.val / 4 % 8 * 256 + a.val * 128 + d.val) % 2048 = (t.val / 4 % 8 * 256 + a.val * 128 + d.val) % 2048; rfl)
      · rw [if_neg hd, if_neg hd])
  refine o.trans ?_
  rw [wS_one, G_at m c b T D h (by omega), show lg (aQ m c) (aK m c) (aU m c) b h T = fun s => ((lgR qr kr ur b h T s : ℝ) : EReal) from
    funext fun s => lg_real (aQ m c) (aK m c) (aU m c) qr kr ur hq hk hu b h T s]
  refine quot_eq (lgR qr kr ur b h T) (fun s => aV m c b s D) T (ur b T h) _ _ (t.val % 4) (by omega) (by omega) (fun s => ?_) (fun s hs => ?_) (fun s => ?_)
  · unfold zS
    rw [dif_pos s.isLt]
    rfl
  · unfold zS
    rw [dif_neg (by omega)]
  · unfold wS
    rw [dif_pos s.isLt, if_pos (show x.val < 128 from x.isLt)]
    exact aV_congr m c rfl rfl (by show (t.val / 4 % 8 * 256 + a.val * 128 + x.val) % 2048 = D.val; omega)

/-- The whole array, over finite arguments. -/
theorem final (qr kr : Fin 8 → Fin 4096 → Fin 2048 → ℝ)
    (ur : Fin 8 → Fin 4096 → Fin 16 → ℝ) (hq : ∀ b s d, aQ m c b s d = (qr b s d : EReal)) (hk : ∀ b s d, aK m c b s d = (kr b s d : EReal))
    (hu : ∀ b s h, aU m c b s h = (ur b s h : EReal)) : (dats m 0 c).arrAt 5 cfg0.N = G m c := by
  refine (dats m 0 c).arrAt_eq_of_covers 5 _ (by decide +kernel) fun t hf y => ?_
  blk_simp
  rw [after0_5]
  have htN := lt_N t
  idx_vars y
  obtain rfl : y0 = 0 := Fin.ext (by have := y0.isLt; show y0.val = 0; omega)
  refine (out_at m c qr kr ur hq hk hu t ⟨t.val / 32, by omega⟩ rfl y1 y2 ⟨t.val % 4 * 1024 + y1.val, by omega⟩ rfl ⟨t.val / 4 % 8 * 256 + y2.val, by omega⟩ rfl).trans ?_
  congr 1
  blk_ext [idx t]

end Cert.Proof.Fox

end
-- ==== Proof.FoxClaim.lean ====
/-
  Hand-written, untrusted. The forgetting attention's value claim: over finite arguments the kernel's array and the reference's
  are one function of the arguments.
-/
module

public import proofs.«01_k».proof.Defs
public import proofs.«01_k».proof.Proof.FoxVal
public import proofs.«01_k».proof.Proof.FoxRef
public import proofs.«01_k».proof.Proof.Gen.KernelIdeal.Value
public import proofs.«01_k».proof.Proof.Gen.ReferenceIdeal.Run
public import proofs.«01_k».proof.Proof.Gen.Pre_finite
public import Idealize.ShloMosaic.Lib.Claim

@[expose] public section

set_option maxRecDepth 16384

noncomputable section

namespace Cert.Proof.Fox

open Idealize.ShloMosaic Idealize.ShloMosaic.TcCoe Idealize.SL.Sem

/-- The kernel's array where the precondition holds. -/
theorem final_of_finite (m : (ℓ : Loc Cert.KernelIdeal.nD Cert.KernelIdeal.τ Cert.KernelIdeal.sig) → Buf (Elt Ideal) ℓ)
    (hpre : Cert.Pre_KernelIdeal_finite (hPre_finite := Cert.Pre_finite.Gen.facts) m) (c : Dev Cert.KernelIdeal.nD) :
    (Cert.KernelIdeal.Gen.dats m 0 c).arrAt 5 Cert.KernelIdeal.cfg0.N = G m c := by
  obtain ⟨hq, hk, hf, hb⟩ := real_of_finite _ _ _ _ _ (hpre c)
  choose qr eq using hq
  choose kr ek using hk
  choose ur eu using aU_real _ _ hf hb
  exact final m c (fun b s d => qr (ix3 b s d)) (fun b s d => kr (ix3 b s d)) (fun b s h => ur (ix3 b s h))
    (fun b s d => eq (ix3 b s d)) (fun b s d => ek (ix3 b s d)) (fun b s h => eu (ix3 b s h))

theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hag
  refine ⟨fun c => G m c, ?_, ?_⟩
  · refine (θ_run _ _ _).mono (fun r h c => ⟨(h c).1.trans (final_of_finite m hpre c), (h c).2⟩) (Cert.KernelIdeal.Value.run_blocks m g)
  · refine (θ_run _ _ _).mono (fun r h c => ⟨(h c).1.trans ?_, (h c).2⟩) (Cert.ReferenceIdeal.Value.run m' g')
    refine Eq.trans (res_eq m' c) ?_
    obtain ⟨h0, h1, h2, h3, h4⟩ := hag c
    rw [h0, h1, h2, h3, h4]
    rfl

end Cert.Proof.Fox

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.FfnClaim
public import proofs.«01_k».proof.Proof.FfpClaim
public import proofs.«01_k».proof.Proof.MmQ
public import proofs.«01_k».proof.Proof.MmRest
public import proofs.«01_k».proof.Proof.MmDsa
public import proofs.«01_k».proof.Proof.MmNsa
public import proofs.«01_k».proof.Proof.MmFox
public import proofs.«01_k».proof.Proof.MmDsaIn
public import proofs.«01_k».proof.Proof.MmDsaQ
public import proofs.«01_k».proof.Proof.MmFoxIn
public import proofs.«01_k».proof.Proof.FoxClaim
public import Idealize.ShloMosaic.Lib.Claim
public import Idealize.ShloMosaic.Lib.Quiescent
public import Idealize.ShloMosaic.Adequacy
public import Idealize.ShloMosaic.Init

@[expose] public section

noncomputable section

-- Every frame claim also says that each semaphore counter ends at zero; the generated runs of the kernels say so, and a
-- program of host operations only has no counter to move.

namespace Cert.Proof

open Idealize.ShloMosaic Idealize.SL.Sem

theorem frame_reference : Cert.quiescent_ReferenceIdeal (hReferenceIdeal := Cert.ReferenceIdeal.Gen.facts) := by
  exact fun m g _ => (θ_run _ _ _).mono (fun r h => ⟨fun c => (h c).2, sem_eq_zero_of_no_sems (by decide) r.2⟩) (Cert.ReferenceIdeal.Value.run m g)

theorem frame_reference2 : Cert.quiescent_Reference2Ideal (hReference2Ideal := Cert.Reference2Ideal.Gen.facts) := by
  exact fun m g _ => (θ_run _ _ _).mono (fun r h => ⟨fun c => (h c).2, sem_eq_zero_of_no_sems (by decide) r.2⟩) (Cert.Reference2Ideal.Value.run m g)

theorem frame_reference3 : Cert.quiescent_Reference3Ideal (hReference3Ideal := Cert.Reference3Ideal.Gen.facts) := by
  exact fun m g _ => (θ_run _ _ _).mono (fun r h => ⟨fun c => (h c).2, sem_eq_zero_of_no_sems (by decide) r.2⟩) (Cert.Reference3Ideal.Value.run m g)

theorem frame_reference4 : Cert.quiescent_Reference4Ideal (hReference4Ideal := Cert.Reference4Ideal.Gen.facts) := by
  exact fun m g _ => (θ_run _ _ _).mono (fun r h => ⟨fun c => (h c).2, sem_eq_zero_of_no_sems (by decide) r.2⟩) (Cert.Reference4Ideal.Value.run m g)

theorem frame_reference5 : Cert.quiescent_Reference5Ideal (hReference5Ideal := Cert.Reference5Ideal.Gen.facts) := by
  exact fun m g _ => (θ_run _ _ _).mono (fun r h => ⟨fun c => (h c).2, sem_eq_zero_of_no_sems (by decide) r.2⟩) (Cert.Reference5Ideal.Value.run m g)

theorem frame_reference6 : Cert.quiescent_Reference6Ideal (hReference6Ideal := Cert.Reference6Ideal.Gen.facts) := by
  exact fun m g _ => (θ_run _ _ _).mono (fun r h => ⟨fun c => (h c).2, sem_eq_zero_of_no_sems (by decide) r.2⟩) (Cert.Reference6Ideal.Value.run m g)

theorem frame_reference7 : Cert.quiescent_Reference7Ideal (hReference7Ideal := Cert.Reference7Ideal.Gen.facts) := by
  exact fun m g _ => (θ_run _ _ _).mono (fun r h => ⟨fun c => (h c).2, sem_eq_zero_of_no_sems (by decide) r.2⟩) (Cert.Reference7Ideal.Value.run m g)

theorem frame_reference8 : Cert.quiescent_Reference8Ideal (hReference8Ideal := Cert.Reference8Ideal.Gen.facts) := by
  exact fun m g _ => (θ_run _ _ _).mono (fun r h => ⟨fun c => (h c).2, sem_eq_zero_of_no_sems (by decide) r.2⟩) (Cert.Reference8Ideal.Value.run m g)

theorem frame_reference9 : Cert.quiescent_Reference9Ideal (hReference9Ideal := Cert.Reference9Ideal.Gen.facts) := by
  exact fun m g _ => (θ_run _ _ _).mono (fun r h => ⟨fun c => (h c).2, sem_eq_zero_of_no_sems (by decide) r.2⟩) (Cert.Reference9Ideal.Value.run m g)

theorem frame_reference10 : Cert.quiescent_Reference10Ideal (hReference10Ideal := Cert.Reference10Ideal.Gen.facts) := by
  exact fun m g _ => (θ_run _ _ _).mono (fun r h => ⟨fun c => (h c).2, sem_eq_zero_of_no_sems (by decide) r.2⟩) (Cert.Reference10Ideal.Value.run m g)

theorem frame_reference11 : Cert.quiescent_Reference11Ideal (hReference11Ideal := Cert.Reference11Ideal.Gen.facts) := by
  exact fun m g _ => (θ_run _ _ _).mono (fun r h => ⟨fun c => (h c).2, sem_eq_zero_of_no_sems (by decide) r.2⟩) (Cert.Reference11Ideal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  IdealRules.named_const.statement Cert.KernelIdeal.κ "mask" .f32 0xF149F2CA#32 ⊥ rfl,
  Cert.Proof.Fox.algebraic,
  trivial,
  Cert.Proof.Ffn.algebraic,
  trivial,
  Cert.Proof.Ffp.algebraic,
  trivial,
  Cert.Proof.MmQ.algebraic,
  trivial,
  Cert.Proof.MmRest.algebraic,
  trivial,
  Cert.Proof.MmDsa.algebraic,
  trivial,
  Cert.Proof.MmNsa.algebraic,
  trivial,
  Cert.Proof.MmFox.algebraic,
  trivial,
  Cert.Proof.MmDsaIn.algebraic,
  trivial,
  Cert.Proof.MmDsaQ.algebraic,
  trivial,
  Cert.Proof.MmFoxIn.algebraic⟩

end Cert.Proof

end
